-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_ok [hPre_sizes_ok : Cert.Pre_sizes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sizes_ok [hReferenceIdeal : Cert.ReferenceIdeal.Facts] [hPre_sizes_ok : Cert.Pre_sizes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sizes_ok : Cert.Pre_sizes_ok.Facts),
    quiescent_Kernel (hKernel := hKernel) (hPre_sizes_ok := hPre_sizes_ok)
    ∧ quiescent_KernelIdeal (hKernelIdeal := hKernelIdeal) (hPre_sizes_ok := hPre_sizes_ok)
    ∧ quiescent_ReferenceIdeal (hReferenceIdeal := hReferenceIdeal)
    ∧ quiescent_ReferenceIdeal_pre_sizes_ok (hReferenceIdeal := hReferenceIdeal) (hPre_sizes_ok := hPre_sizes_ok)
    ∧ preserves_Kernel_KernelIdeal
    ∧ algebraic_KernelIdeal_ReferenceIdeal (hKernelIdeal := hKernelIdeal) (hReferenceIdeal := hReferenceIdeal) (hPre_sizes_ok := hPre_sizes_ok)
-- ==== Pre_sizes_ok.lean ====
abbrev S32768x2816 : Shape := ⟨2, ![32768, 2816]⟩
abbrev S32768x22 : Shape := ⟨2, ![32768, 22]⟩
abbrev S32x2816x5632 : Shape := ⟨3, ![32, 2816, 5632]⟩
abbrev S32x22x44 : Shape := ⟨3, ![32, 22, 44]⟩
abbrev S32x5632 : Shape := ⟨2, ![32, 5632]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S32768x2816 .fp8e4m3) (main_arg1 : FVec F S32768x22 .f32) (main_arg2 : FVec F S32x2816x5632 .fp8e4m3) (main_arg3 : FVec F S32x22x44 .f32) (main_arg4 : FVec F S32x5632 .f32) (main_arg5 : IVec S32 32) : IVec S_ 1 :=
  let main_c : IVec S_ 32 := constantI S_ 32 0#32
  let main_v0 : IVec S32 32 := broadcastInDim S32 ![] bcast_S_S32 main_c
  let main_v1 : IVec S32 1 := cmpi .sge main_arg5 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 32768#32
  let main_v3 : IVec S32 32 := broadcastInDim S32 ![] bcast_S_S32 main_c_1
  let main_v4 : IVec S32 1 := cmpi .sle main_arg5 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S32_S_d0 h_S_) main_arg5 main_c_3
  let main_c_4 : IVec S_ 32 := constantI S_ 32 32768#32
  let main_v8 : IVec S_ 1 := cmpi .eq main_v7 main_c_4
  let main_v9 : IVec S_ 1 := andi main_v6 main_v8
  main_v9
-- ==== Kernel.lean ====
abbrev S32768x2816 : Shape := ⟨2, ![32768, 2816]⟩
abbrev S32768x22 : Shape := ⟨2, ![32768, 22]⟩
abbrev S32x2816x5632 : Shape := ⟨3, ![32, 2816, 5632]⟩
abbrev S32x22x44 : Shape := ⟨3, ![32, 22, 44]⟩
abbrev S32x5632 : Shape := ⟨2, ![32, 5632]⟩
abbrev S32 : Shape := ⟨1, ![32]⟩
abbrev S_ : Shape := ⟨0, ![]⟩
abbrev S96 : Shape := ⟨1, ![96]⟩
abbrev S96x1 : Shape := ⟨2, ![96, 1]⟩
abbrev S1x32 : Shape := ⟨2, ![1, 32]⟩
abbrev S96x32 : Shape := ⟨2, ![96, 32]⟩
abbrev S1 : Shape := ⟨1, ![1]⟩
abbrev S30976 : Shape := ⟨1, ![30976]⟩
abbrev S512x2816 : Shape := ⟨2, ![512, 2816]⟩
abbrev S512x22 : Shape := ⟨2, ![512, 22]⟩
abbrev S1x2816x512 : Shape := ⟨3, ![1, 2816, 512]⟩
abbrev S512x256 : Shape := ⟨2, ![512, 256]⟩
abbrev S512x1 : Shape := ⟨2, ![512, 1]⟩
abbrev S512x128 : Shape := ⟨2, ![512, 128]⟩
abbrev S128x128 : Shape := ⟨2, ![128, 128]⟩
abbrev S1x128x128 : Shape := ⟨3, ![1, 128, 128]⟩
abbrev S128x512 : Shape := ⟨2, ![128, 512]⟩
abbrev S2816x512 : Shape := ⟨2, ![2816, 512]⟩
abbrev S512x512 : Shape := ⟨2, ![512, 512]⟩
abbrev S1x512 : Shape := ⟨2, ![1, 512]⟩
abbrev S1x256 : Shape := ⟨2, ![1, 256]⟩
abbrev S512 : Shape := ⟨1, ![512]⟩
abbrev S512x128x1 : Shape := ⟨3, ![512, 128, 1]⟩

abbrev nBuf : Space → Nat
  | .hbm => 132
  | .vmem => 10
  | .smem => 5
  | _ => 0

abbrev hbmTy0_0 (i : Nat) : BufTy := match i % 128 with
  | 0 => ⟨S32768x2816, .fp8e4m3⟩
  | 1 => ⟨S32768x22, .f32⟩
  | 2 => ⟨S32x2816x5632, .fp8e4m3⟩
  | 3 => ⟨S32x22x44, .f32⟩
  | 4 => ⟨S32x5632, .f32⟩
  | 5 => ⟨S32, .i32⟩
  | 6 => ⟨S_, .i32⟩
  | 7 => ⟨S_, .i32⟩
  | 8 => ⟨S32, .i32⟩
  | 9 => ⟨S32, .i32⟩
  | 10 => ⟨S_, .i32⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S32, .i32⟩
  | 19 => ⟨S32, .i32⟩
  | 20 => ⟨S_, .i32⟩
  | 21 => ⟨S32, .i32⟩
  | 22 => ⟨S32, .i1⟩
  | 23 => ⟨S32, .i1⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S32, .i32⟩
  | 33 => ⟨S32, .i32⟩
  | 34 => ⟨S_, .i32⟩
  | 35 => ⟨S_, .i32⟩
  | 36 => ⟨S32, .i32⟩
  | 37 => ⟨S32, .i32⟩
  | 38 => ⟨S32, .i32⟩
  | 39 => ⟨S_, .i32⟩
  | 40 => ⟨S32, .i32⟩
  | 41 => ⟨S32, .i1⟩
  | 42 => ⟨S32, .i32⟩
  | 43 => ⟨S32, .i32⟩
  | 44 => ⟨S_, .i32⟩
  | 45 => ⟨S32, .i32⟩
  | 46 => ⟨S32, .i1⟩
  | 47 => ⟨S32, .i1⟩
  | 48 => ⟨S_, .i32⟩
  | 49 => ⟨S32, .i32⟩
  | 50 => ⟨S32, .i32⟩
  | 51 => ⟨S32, .i32⟩
  | 52 => ⟨S_, .i32⟩
  | 53 => ⟨S32, .i32⟩
  | 54 => ⟨S32, .i1⟩
  | 55 => ⟨S32, .i32⟩
  | 56 => ⟨S_, .i32⟩
  | 57 => ⟨S32, .i32⟩
  | 58 => ⟨S32, .i32⟩
  | 59 => ⟨S_, .i32⟩
  | 60 => ⟨S_, .i32⟩
  | 61 => ⟨S32, .i32⟩
  | 62 => ⟨S32, .i32⟩
  | 63 => ⟨S_, .i32⟩
  | 64 => ⟨S_, .i32⟩
  | 65 => ⟨S32, .i32⟩
  | 66 => ⟨S96, .i32⟩
  | 67 => ⟨S96x1, .i32⟩
  | 68 => ⟨S1x32, .i32⟩
  | 69 => ⟨S96x32, .i32⟩
  | 70 => ⟨S96x32, .i32⟩
  | 71 => ⟨S96x32, .i1⟩
  | 72 => ⟨S96x32, .i32⟩
  | 73 => ⟨S_, .i32⟩
  | 74 => ⟨S96, .i32⟩
  | 75 => ⟨S_, .i32⟩
  | 76 => ⟨S96, .i32⟩
  | 77 => ⟨S1, .i32⟩
  | 78 => ⟨S_, .i32⟩
  | 79 => ⟨S96, .i32⟩
  | 80 => ⟨S96, .i1⟩
  | 81 => ⟨S_, .i32⟩
  | 82 => ⟨S96, .i32⟩
  | 83 => ⟨S96, .i1⟩
  | 84 => ⟨S_, .i32⟩
  | 85 => ⟨S96, .i32⟩
  | 86 => ⟨S96, .i32⟩
  | 87 => ⟨S96, .i32⟩
  | 88 => ⟨S96x1, .i32⟩
  | 89 => ⟨S96, .i32⟩
  | 90 => ⟨S96, .i32⟩
  | 91 => ⟨S32, .i32⟩
  | 92 => ⟨S_, .i32⟩
  | 93 => ⟨S96, .i32⟩
  | 94 => ⟨S96, .i1⟩
  | 95 => ⟨S_, .i32⟩
  | 96 => ⟨S96, .i32⟩
  | 97 => ⟨S96, .i32⟩
  | 98 => ⟨S96, .i32⟩
  | 99 => ⟨S96x1, .i32⟩
  | 100 => ⟨S96, .i32⟩
  | 101 => ⟨S96, .i32⟩
  | 102 => ⟨S_, .i32⟩
  | 103 => ⟨S_, .i32⟩
  | 104 => ⟨S96, .i32⟩
  | 105 => ⟨S_, .i32⟩
  | 106 => ⟨S96, .i32⟩
  | 107 => ⟨S96, .i1⟩
  | 108 => ⟨S_, .i32⟩
  | 109 => ⟨S96, .i32⟩
  | 110 => ⟨S96, .i32⟩
  | 111 => ⟨S96, .i32⟩
  | 112 => ⟨S96x1, .i32⟩
  | 113 => ⟨S96, .i32⟩
  | 114 => ⟨S_, .i32⟩
  | 115 => ⟨S_, .i32⟩
  | 116 => ⟨S96, .i32⟩
  | 117 => ⟨S_, .i32⟩
  | 118 => ⟨S96, .i32⟩
  | 119 => ⟨S96, .i1⟩
  | 120 => ⟨S_, .i32⟩
  | 121 => ⟨S96, .i32⟩
  | 122 => ⟨S96, .i32⟩
  | 123 => ⟨S96, .i32⟩
  | 124 => ⟨S96x1, .i32⟩
  | 125 => ⟨S96, .i32⟩
  | 126 => ⟨S_, .i32⟩
  | 127 => ⟨S_, .i32⟩
  | _ => ⟨S32768x2816, .fp8e4m3⟩

abbrev hbmTy0_1 (i : Nat) : BufTy := match i % 128 with
  | 0 => ⟨S96, .i32⟩
  | 1 => ⟨S30976, .f32⟩
  | 2 => ⟨S32768x2816, .fp8e4m3⟩
  | 3 => ⟨S32768x22, .f32⟩
  | _ => ⟨S32768x2816, .fp8e4m3⟩

abbrev hbmTy (i : Nat) : BufTy := match i / 128 with
  | 0 => hbmTy0_0 i
  | 1 => hbmTy0_1 i
  | _ => ⟨S32768x2816, .fp8e4m3⟩

abbrev bufTy : (tb : Table) → Fin (tcTables nBuf tb) → BufTy
  | .hbm, ⟨i, _⟩ => hbmTy i
  | .local _ .vmem, ⟨0, _⟩ => ⟨S512x2816, .fp8e4m3⟩
  | .local _ .vmem, ⟨1, _⟩ => ⟨S512x2816, .fp8e4m3⟩
  | .local _ .vmem, ⟨2, _⟩ => ⟨S512x22, .f32⟩
  | .local _ .vmem, ⟨3, _⟩ => ⟨S512x22, .f32⟩
  | .local _ .vmem, ⟨4, _⟩ => ⟨S1x2816x512, .fp8e4m3⟩
  | .local _ .vmem, ⟨5, _⟩ => ⟨S1x2816x512, .fp8e4m3⟩
  | .local _ .vmem, ⟨6, _⟩ => ⟨S32x5632, .f32⟩
  | .local _ .vmem, ⟨7, _⟩ => ⟨S512x256, .fp8e4m3⟩
  | .local _ .vmem, ⟨8, _⟩ => ⟨S512x256, .fp8e4m3⟩
  | .local _ .vmem, ⟨9, _⟩ => ⟨S32768x22, .f32⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | .local _ .smem, ⟨4, _⟩ => ⟨S30976, .f32⟩
  | _, _ => ⟨S32768x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v7 : Ref sig .tc := ⟨.hbm, 51, rfl⟩
abbrev main_c_3 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_v11 : Ref sig .tc := ⟨.hbm, 57, rfl⟩
abbrev main_v12 : Ref sig .tc := ⟨.hbm, 58, rfl⟩
abbrev main_c_5 : Ref sig .tc := ⟨.hbm, 59, rfl⟩
abbrev main_call3_v0 : Ref sig .tc := ⟨.hbm, 60, rfl⟩
abbrev main_call3_v1 : Ref sig .tc := ⟨.hbm, 61, rfl⟩
abbrev main_v13 : Ref sig .tc := ⟨.hbm, 62, rfl⟩
abbrev main_call4_call0_c : Ref sig .tc := ⟨.hbm, 63, rfl⟩
abbrev main_call4_call0_v0 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_c_6 : Ref sig .tc := ⟨.hbm, 73, rfl⟩
abbrev main_v22 : Ref sig .tc := ⟨.hbm, 74, rfl⟩
abbrev main_c_7 : Ref sig .tc := ⟨.hbm, 75, rfl⟩
abbrev main_v23 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_c_8 : Ref sig .tc := ⟨.hbm, 81, rfl⟩
abbrev main_v29 : Ref sig .tc := ⟨.hbm, 82, rfl⟩
abbrev main_v30 : Ref sig .tc := ⟨.hbm, 83, rfl⟩
abbrev main_c_9 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_c_10 : Ref sig .tc := ⟨.hbm, 92, rfl⟩
abbrev main_v38 : Ref sig .tc := ⟨.hbm, 93, rfl⟩
abbrev main_v39 : Ref sig .tc := ⟨.hbm, 94, rfl⟩
abbrev main_c_11 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_12 : Ref sig .tc := ⟨.hbm, 102, rfl⟩
abbrev main_call5_v0 : Ref sig .tc := ⟨.hbm, 103, rfl⟩
abbrev main_call5_v1 : Ref sig .tc := ⟨.hbm, 104, rfl⟩
abbrev main_c_13 : Ref sig .tc := ⟨.hbm, 105, rfl⟩
abbrev main_v47 : Ref sig .tc := ⟨.hbm, 106, rfl⟩
abbrev main_v48 : Ref sig .tc := ⟨.hbm, 107, rfl⟩
abbrev main_c_14 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_c_15 : Ref sig .tc := ⟨.hbm, 114, rfl⟩
abbrev main_call6_v0 : Ref sig .tc := ⟨.hbm, 115, rfl⟩
abbrev main_call6_v1 : Ref sig .tc := ⟨.hbm, 116, rfl⟩
abbrev main_c_16 : Ref sig .tc := ⟨.hbm, 117, rfl⟩
abbrev main_v55 : Ref sig .tc := ⟨.hbm, 118, rfl⟩
abbrev main_v56 : Ref sig .tc := ⟨.hbm, 119, rfl⟩
abbrev main_c_17 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_c_18 : Ref sig .tc := ⟨.hbm, 126, rfl⟩
abbrev main_call7_v0 : Ref sig .tc := ⟨.hbm, 127, rfl⟩
abbrev main_call7_v1 : Ref sig .tc := ⟨.hbm, 128, rfl⟩
abbrev main_v63 : Ref sig .tc := ⟨.hbm, 129, rfl⟩
abbrev main_v64_0 : Ref sig .tc := ⟨.hbm, 130, rfl⟩
abbrev main_v64_1 : Ref sig .tc := ⟨.hbm, 131, rfl⟩
abbrev main_v46 : Ref sig .tc := ⟨.smem, 0, rfl⟩
abbrev main_v24 : Ref sig .tc := ⟨.smem, 1, rfl⟩
abbrev main_v54 : Ref sig .tc := ⟨.smem, 2, rfl⟩
abbrev main_v62 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg3_0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![11, 96], ![false, false]⟩

abbrev pre0 : Pipeline.Prefetch sig := ⟨4, ![main_v46.idx, main_v24.idx, main_v54.idx, main_v62.idx], fun | 0 => main_v46.names | 1 => main_v24.names | 2 => main_v54.names | 3 => main_v62.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v1 : BitVec 32) (c0_i32_6 : BitVec 32) (c0_i32_7 : BitVec 32) : Fin 1 → Nat :=
  let c22_i32 : BitVec 32 := 22#32
  let v22 : BitVec 32 := Scalar.muli v1 c22_i32
  let v23 : BitVec 32 := Scalar.addi v22 c0_i32_6
  let c44_i32 : BitVec 32 := 44#32
  let v24 : BitVec 32 := Scalar.muli v23 c44_i32
  let arg0 : BitVec 32 := BitVec.ofNat 32 (i 0).val
  let c4_i32 : BitVec 32 := 4#32
  let v25 : BitVec 32 := Scalar.muli arg0 c4_i32
  let v26 : BitVec 32 := Scalar.addi v24 v25
  let v27 : BitVec 32 := Scalar.addi v26 c0_i32_7
  let v28 : Index := Scalar.indexCast v27
  ![v28.toNat]
def k0_cond2 (v10 : BitVec 32) (v12 : BitVec 32) : BitVec 1 :=
  let v13 : BitVec 1 := Scalar.cmpi .sgt v10 v12
  let v14 : BitVec 32 := Scalar.extui v13
  let c0_i32_2 : BitVec 32 := 0#32
  let v15 : BitVec 1 := Scalar.cmpi .ne v14 c0_i32_2
  v15

def k0_off3 (i : grid0.Coords) (v1 : BitVec 32) : Fin 2 → Nat :=
  let v1406 : Index := Scalar.indexCast v1
  let arg0 : BitVec 32 := BitVec.ofNat 32 (i 0).val
  let c512_i32 : BitVec 32 := 512#32
  let v1405 : BitVec 32 := Scalar.muli arg0 c512_i32
  let v1407 : Index := Scalar.indexCast v1405
  ![v1406.toNat, v1407.toNat]
def k0_off4 (i : grid0.Coords) : Fin 1 → Nat :=
  let arg1 : BitVec 32 := BitVec.ofNat 32 (i 1).val
  let v1413 : Index := Scalar.indexCast arg1
  ![v1413.toNat]
def k0_mult1 (v3 : BitVec 32) : BitVec 32 :=
  let c512_i32_730 : BitVec 32 := 512#32
  let v1423 : BitVec 32 := Scalar.muli v3 c512_i32_730
  v1423
def k0_off5 (v3 : BitVec 32) : Fin 2 → Nat :=
  let c512_i32_730 : BitVec 32 := 512#32
  let v1423 : BitVec 32 := Scalar.muli v3 c512_i32_730
  let v1424 : BitVec 32 := v1423
  let v1551 : Index := Scalar.indexCast v1424
  let c0_757 : Index := 0#32
  ![v1551.toNat, 0]

def k0_chk1 (i : grid0.Coords) (v1 : BitVec 32) (v3 : BitVec 32) (v10 : BitVec 32) (v12 : BitVec 32) : Prop :=
  (∀ (k0_h2 : k0_cond2 v10 v12 = 1#1), ∀ (r₁ : Fin 22) (r₂ : Fin 4), ∀ a, (k0_off2 i v1 (BitVec.ofNat 32 r₁.val) (BitVec.ofNat 32 r₂.val)) a + S1.size a ≤ S30976.size a) ∧
  (∀ (k0_h2 : k0_cond2 v10 v12 = 1#1), ∀ a, (k0_off3 i v1) a + S1x512.size a ≤ S32x5632.size a) ∧
  (∀ (k0_h2 : k0_cond2 v10 v12 = 1#1), 512 ∣ (k0_mult1 v3).toNat) ∧
  (∀ (k0_h2 : k0_cond2 v10 v12 = 1#1), ∀ a, (k0_off5 v3) a + S512x22.size a ≤ S32768x22.size a)
theorem k0_off2_inb : ∀ (i : grid0.Coords) (v1 : BitVec 32) (v3 : BitVec 32) (v10 : BitVec 32) (v12 : BitVec 32) (k0_hw1 : k0_chk1 i v1 v3 v10 v12), ∀ (k0_h2 : k0_cond2 v10 v12 = 1#1), ∀ (r₁ : Fin 22) (r₂ : Fin 4), ∀ a, (k0_off2 i v1 (BitVec.ofNat 32 r₁.val) (BitVec.ofNat 32 r₂.val)) a + S1.size a ≤ S30976.size a := fun i v1 v3 v10 v12 k0_hw1 k0_h2 r₁ r₂ => k0_hw1.1 k0_h2 r₁ r₂
theorem k0_off3_inb : ∀ (i : grid0.Coords) (v1 : BitVec 32) (v3 : BitVec 32) (v10 : BitVec 32) (v12 : BitVec 32) (k0_hw1 : k0_chk1 i v1 v3 v10 v12), ∀ (k0_h2 : k0_cond2 v10 v12 = 1#1), ∀ a, (k0_off3 i v1) a + S1x512.size a ≤ S32x5632.size a := fun i v1 v3 v10 v12 k0_hw1 k0_h2 => k0_hw1.2.1 k0_h2
theorem k0_mult1_dvd : ∀ (i : grid0.Coords) (v1 : BitVec 32) (v3 : BitVec 32) (v10 : BitVec 32) (v12 : BitVec 32) (k0_hw1 : k0_chk1 i v1 v3 v10 v12), ∀ (k0_h2 : k0_cond2 v10 v12 = 1#1), 512 ∣ (k0_mult1 v3).toNat := fun i v1 v3 v10 v12 k0_hw1 k0_h2 => k0_hw1.2.2.1 k0_h2
theorem k0_off5_inb : ∀ (i : grid0.Coords) (v1 : BitVec 32) (v3 : BitVec 32) (v10 : BitVec 32) (v12 : BitVec 32) (k0_hw1 : k0_chk1 i v1 v3 v10 v12), ∀ (k0_h2 : k0_cond2 v10 v12 = 1#1), ∀ a, (k0_off5 v3) a + S512x22.size a ≤ S32768x22.size a := fun i v1 v3 v10 v12 k0_hw1 k0_h2 => k0_hw1.2.2.2 k0_h2

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S96) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x22 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2816x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S30976 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32768x22 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S32768x2816 : Shape := ⟨2, ![32768, 2816]⟩
abbrev S32768x22 : Shape := ⟨2, ![32768, 22]⟩
abbrev S32x2816x5632 : Shape := ⟨3, ![32, 2816, 5632]⟩
abbrev S32x22x44 : Shape := ⟨3, ![32, 22, 44]⟩
abbrev S32x5632 : Shape := ⟨2, ![32, 5632]⟩
abbrev S32 : Shape := ⟨1, ![32]⟩
abbrev S32768x22x128 : Shape := ⟨3, ![32768, 22, 128]⟩
abbrev S32x22x128x44 : Shape := ⟨4, ![32, 22, 128, 44]⟩
abbrev S32x2816x44 : Shape := ⟨3, ![32, 2816, 44]⟩
abbrev S32x2816x44x128 : Shape := ⟨4, ![32, 2816, 44, 128]⟩
abbrev S_ : Shape := ⟨0, ![]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S32768x5632 : Shape := ⟨2, ![32768, 5632]⟩
abbrev S1x2816x5632 : Shape := ⟨3, ![1, 2816, 5632]⟩
abbrev S2816x5632 : Shape := ⟨2, ![2816, 5632]⟩
abbrev S1x5632 : Shape := ⟨2, ![1, 5632]⟩
abbrev S5632 : Shape := ⟨1, ![5632]⟩
abbrev S32768x2816x2 : Shape := ⟨3, ![32768, 2816, 2]⟩
abbrev S32768x2816x1 : Shape := ⟨3, ![32768, 2816, 1]⟩
abbrev S32768x22x1 : Shape := ⟨3, ![32768, 22, 1]⟩
abbrev S1x1x253 : Shape := ⟨3, ![1, 1, 253]⟩
abbrev S32768x22x253 : Shape := ⟨3, ![32768, 22, 253]⟩

abbrev nBuf : Space → Nat
  | .hbm => 32
  | .vmem => 8
  | .smem => 0
  | _ => 0

abbrev bufTy : (tb : Table) → Fin (tcTables nBuf tb) → BufTy
  | .hbm, ⟨0, _⟩ => ⟨S32768x2816, .fp8e4m3⟩
  | .hbm, ⟨1, _⟩ => ⟨S32768x22, .f32⟩
  | .hbm, ⟨2, _⟩ => ⟨S32x2816x5632, .fp8e4m3⟩
  | .hbm, ⟨3, _⟩ => ⟨S32x22x44, .f32⟩
  | .hbm, ⟨4, _⟩ => ⟨S32x5632, .f32⟩
  | .hbm, ⟨5, _⟩ => ⟨S32, .i32⟩
  | .hbm, ⟨6, _⟩ => ⟨S32768x22, .bf16⟩
  | .hbm, ⟨7, _⟩ => ⟨S32768x22x128, .bf16⟩
  | .hbm, ⟨8, _⟩ => ⟨S32768x2816, .bf16⟩
  | .hbm, ⟨9, _⟩ => ⟨S32x22x44, .bf16⟩
  | .hbm, ⟨10, _⟩ => ⟨S32x22x128x44, .bf16⟩
  | .hbm, ⟨11, _⟩ => ⟨S32x2816x44, .bf16⟩
  | .hbm, ⟨12, _⟩ => ⟨S32x2816x44x128, .bf16⟩
  | .hbm, ⟨13, _⟩ => ⟨S32x2816x5632, .bf16⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32768, .i32⟩
  | .hbm, ⟨18, _⟩ => ⟨S32768x1, .i32⟩
  | .hbm, ⟨19, _⟩ => ⟨S1x32, .i32⟩
  | .hbm, ⟨20, _⟩ => ⟨S32768x32, .i32⟩
  | .hbm, ⟨21, _⟩ => ⟨S32768x32, .i32⟩
  | .hbm, ⟨22, _⟩ => ⟨S32768x32, .i1⟩
  | .hbm, ⟨23, _⟩ => ⟨S32768x32, .i32⟩
  | .hbm, ⟨24, _⟩ => ⟨S_, .i32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768x2816, .fp8e4m3⟩
  | .hbm, ⟨31, _⟩ => ⟨S32768x22, .f32⟩
  | .local _ .vmem, ⟨0, _⟩ => ⟨S32768x2816, .fp8e4m3⟩
  | .local _ .vmem, ⟨1, _⟩ => ⟨S32768x2816, .bf16⟩
  | .local _ .vmem, ⟨2, _⟩ => ⟨S32x2816x5632, .fp8e4m3⟩
  | .local _ .vmem, ⟨3, _⟩ => ⟨S32x2816x5632, .bf16⟩
  | .local _ .vmem, ⟨4, _⟩ => ⟨S32x5632, .f32⟩
  | .local _ .vmem, ⟨5, _⟩ => ⟨S32768x1, .i32⟩
  | .local _ .vmem, ⟨6, _⟩ => ⟨S32768x2816, .fp8e4m3⟩
  | .local _ .vmem, ⟨7, _⟩ => ⟨S32768x22, .f32⟩
  | _, _ => ⟨S32768x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_c : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2816x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2816x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x2816 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x22 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Visits.lean ====
/-
  THE VISITS, AS NATURAL NUMBERS. Thirty-two groups of rows (`c e` rows in group `e`) lie one after the other; tiles of 512 rows cut across them. A visit is a
  pair of a group and a tile that share rows; the visits are numbered group by group, tile by tile. This file says which group and which tile visit `v` has and
  which rows it covers, and proves what the run needs: tiles never go back, a covered row belongs to the visit's group, and every row is covered.
-/
module

public import Mathlib.Data.Nat.Count
public import Mathlib.Data.List.Basic
public import Mathlib.Order.Monotone.Basic
public import Mathlib.Tactic.Ring
public import Mathlib.Algebra.BigOperators.Group.List.Basic

@[expose] public section

namespace MoeVisits

/-- `f 0 + … + f (e - 1)`. -/
def pre (f : Nat → Nat) (e : Nat) : Nat := ((List.range e).map f).sum

theorem pre_zero (f : Nat → Nat) : pre f 0 = 0 := rfl
theorem pre_succ (f : Nat → Nat) (e : Nat) : pre f (e + 1) = pre f e + f e := by
  simp [pre, List.range_succ]
theorem pre_mono (f : Nat → Nat) {a b : Nat} (h : a ≤ b) : pre f a ≤ pre f b :=
  monotone_nat_of_le_succ (fun n => by rw [pre_succ]; omega) h

/-- The number of the groups below `n` whose end is at or before `r`. -/
def find (f : Nat → Nat) (n r : Nat) : Nat := Nat.count (fun e => pre f (e + 1) ≤ r) n

theorem find_le (f : Nat → Nat) (n r : Nat) : find f n r ≤ n := Nat.count_le _

/-- The group that `find` names contains `r`. -/
theorem find_spec (f : Nat → Nat) (n r : Nat) (h : r < pre f n) : find f n r < n ∧ pre f (find f n r) ≤ r ∧ r < pre f (find f n r + 1) := by
  induction n with
  | zero => simp [pre_zero] at h
  | succ n ih =>
    unfold find
    rw [Nat.count_succ]
    by_cases h1 : r < pre f n
    · obtain ⟨a, b, c⟩ := ih h1
      have : ¬ pre f (n + 1) ≤ r := by omega
      rw [if_neg this]
      exact ⟨Nat.lt_succ_of_lt a, b, c⟩
    · have e : Nat.count (fun e => pre f (e + 1) ≤ r) n = n :=
        Nat.count_iff_forall.2 fun {k} hk => le_trans (pre_mono f hk) (by omega)
      rw [e, if_neg (by omega), Nat.add_zero]
      exact ⟨by omega, by omega, by omega⟩

/-- Two groups that contain the same row are one. -/
theorem group_unique (f : Nat → Nat) {a b r : Nat} (ha : pre f a ≤ r) (ha' : r < pre f (a + 1)) (hb : pre f b ≤ r) (hb' : r < pre f (b + 1)) : a = b := by
  rcases lt_trichotomy a b with h | h | h
  · have := pre_mono f (show a + 1 ≤ b from h); omega
  · exact h
  · have := pre_mono f (show b + 1 ≤ a from h); omega

section
variable (c : Nat → Nat)

/-- The first tile that group `e` touches. -/
def fst (e : Nat) : Nat := pre c e / 512
/-- The last tile that group `e` touches. -/
def lst (e : Nat) : Nat := (pre c (e + 1) - 1) / 512
/-- How many tiles group `e` touches. -/
def cnt (e : Nat) : Nat := if 0 < c e then lst c e - fst c e + 1 else 0
/-- The number of visits. -/
def total : Nat := pre (cnt c) 32
/-- The group of visit `v`. -/
def ex (v : Nat) : Nat := min (find (cnt c) 32 v) 31
/-- The tile of visit `v`. -/
def vt (v : Nat) : Nat := if v < total c then fst c (ex c v) + v - pre (cnt c) (ex c v) else 63
/-- The first row that visit `v` covers. -/
def lo (v : Nat) : Nat := if v < total c then pre c (ex c v) else 0
/-- The row after the last that visit `v` covers. -/
def hi (v : Nat) : Nat := if v < total c then pre c (ex c v + 1) else 0
/-- The group of row `r`. -/
def rowEx (r : Nat) : Nat := find c 32 r

theorem cnt_pos {e : Nat} (h : 0 < c e) : cnt c e = lst c e - fst c e + 1 := if_pos h
theorem cnt_zero {e : Nat} (h : ¬ 0 < c e) : cnt c e = 0 := if_neg h

theorem ex_lt (v : Nat) : ex c v < 32 := by unfold ex; omega

theorem fst_le_lst {e : Nat} (h : 0 < c e) : fst c e ≤ lst c e := by
  unfold fst lst; rw [pre_succ]; omega

/-- A live visit's place among its group's. -/
theorem live_spec {v : Nat} (h : v < total c) : pre (cnt c) (ex c v) ≤ v ∧ v < pre (cnt c) (ex c v + 1) ∧ 0 < c (ex c v)
    ∧ v < pre (cnt c) (ex c v) + (lst c (ex c v) - fst c (ex c v) + 1) := by
  obtain ⟨a, b, d⟩ := find_spec (cnt c) 32 v h
  have e : ex c v = find (cnt c) 32 v := by unfold ex; omega
  rw [e]
  have d' := d
  rw [pre_succ] at d'
  by_cases hp : 0 < c (find (cnt c) 32 v)
  · rw [cnt_pos c hp] at d'
    exact ⟨b, d, hp, d'⟩
  · rw [cnt_zero c hp] at d'
    omega

theorem pre_le {T e : Nat} (hT : pre c 32 = T) (he : e ≤ 32) : pre c e ≤ T := hT ▸ pre_mono c he

/-- Tiles times groups bound the visits. -/
theorem total_le (hT : pre c 32 = 32768) : total c ≤ 96 := by
  have key : ∀ e, pre (cnt c) e ≤ (pre c e + 511) / 512 + e := fun e => by
    induction e with
    | zero => simp [pre_zero]
    | succ e ih =>
      rw [pre_succ (cnt c)]
      by_cases h : 0 < c e
      · have hl := fst_le_lst c h
        rw [cnt_pos c h]
        unfold fst lst at *
        rw [pre_succ c] at *
        omega
      · rw [cnt_zero c h, pre_succ c]
        omega
  have := key 32
  rw [hT] at this
  unfold total
  omega

theorem vt_bounds (hT : pre c 32 = 32768) {v : Nat} (h : v < total c) : fst c (ex c v) ≤ vt c v ∧ vt c v ≤ lst c (ex c v) ∧ lst c (ex c v) < 64 := by
  obtain ⟨a, b, d, e⟩ := live_spec c h
  have := fst_le_lst c d
  have h1 := pre_le c hT (show ex c v + 1 ≤ 32 from ex_lt c v)
  unfold vt
  rw [if_pos h]
  refine ⟨by omega, by omega, ?_⟩
  unfold lst; omega

theorem vt_lt (hT : pre c 32 = 32768) (v : Nat) : vt c v < 64 := by
  by_cases h : v < total c
  · have := vt_bounds c hT h; omega
  · unfold vt; rw [if_neg h]; omega

/-- Tiles never go back. -/
theorem vt_mono (hT : pre c 32 = 32768) {v w : Nat} (hvw : v ≤ w) : vt c v ≤ vt c w := by
  by_cases hw : w < total c
  · have hv : v < total c := by omega
    obtain ⟨a, b, d, e⟩ := live_spec c hv
    obtain ⟨a', b', d', e'⟩ := live_spec c hw
    rcases lt_trichotomy (ex c v) (ex c w) with h | h | h
    · have h1 := (vt_bounds c hT hv).2.1
      have h2 := (vt_bounds c hT hw).1
      have h3 := pre_mono c (show ex c v + 1 ≤ ex c w from h)
      unfold lst at h1
      unfold fst at h2
      omega
    · unfold vt
      rw [if_pos hw, if_pos hv, h]
      omega
    · have := pre_mono (cnt c) (show ex c w + 1 ≤ ex c v from h); omega
  · have := vt_lt c hT v
    unfold vt at *
    rw [if_neg hw]
    omega

/-- A covered row lies in the visit's group. -/
theorem cover_ex (hT : pre c 32 = 32768) {v r : Nat} (h1 : lo c v ≤ r) (h2 : r < hi c v) : v < total c ∧ r < 32768 ∧ rowEx c r = ex c v := by
  by_cases h : v < total c
  · have h1' : pre c (ex c v) ≤ r := by rw [lo, if_pos h] at h1; exact h1
    have h2' : r < pre c (ex c v + 1) := by rw [hi, if_pos h] at h2; exact h2
    have h3 := pre_le c hT (show ex c v + 1 ≤ 32 from ex_lt c v)
    have h4 : r < 32768 := Nat.lt_of_lt_of_le h2' h3
    obtain ⟨a, b, d⟩ := find_spec c 32 r (hT ▸ h4)
    exact ⟨h, h4, group_unique c b d h1' h2'⟩
  · rw [hi, if_neg h] at h2
    exact absurd h2 (Nat.not_lt_zero _)

/-- Every row is covered by a visit of its tile. -/
theorem covered (hT : pre c 32 = 32768) {r : Nat} (hr : r < 32768) : ∃ v, v < 96 ∧ vt c v = r / 512 ∧ lo c v ≤ r ∧ r < hi c v := by
  obtain ⟨a, b, d⟩ := find_spec c 32 r (hT ▸ hr)
  generalize find c 32 r = e at *
  have hd := d
  rw [pre_succ] at hd
  have hp : 0 < c e := by omega
  have hl : fst c e ≤ r / 512 ∧ r / 512 ≤ lst c e := by unfold fst lst; omega
  have hv1 : pre (cnt c) (e + 1) = pre (cnt c) e + (lst c e - fst c e + 1) := by
    rw [pre_succ]; rw [cnt_pos c hp]
  have hlt : pre (cnt c) e + (r / 512 - fst c e) < pre (cnt c) (e + 1) := by omega
  have htot : pre (cnt c) (e + 1) ≤ total c := pre_mono _ (show e + 1 ≤ 32 from a)
  have hT' := total_le c hT
  have hlive : pre (cnt c) e + (r / 512 - fst c e) < total c := by omega
  obtain ⟨a', b', _, _⟩ := live_spec c hlive
  have hex : ex c (pre (cnt c) e + (r / 512 - fst c e)) = e :=
    group_unique (cnt c) a' b' (by omega) hlt
  refine ⟨pre (cnt c) e + (r / 512 - fst c e), by omega, ?_, ?_, ?_⟩
  · unfold vt; rw [if_pos hlive, hex]; omega
  · unfold lo; rw [if_pos hlive, hex]; exact b
  · unfold hi; rw [if_pos hlive, hex]; exact d

end

end MoeVisits
-- ==== Proof.Tables.lean ====
/-
  THE FOUR TABLES. The program computes, from the group sizes, four tables of 96 words: a visit's tile, its group, its first row and the row after its last. Here
  are those operations, written as functions of the sizes alone, and what they hold: the natural numbers of `Visits.lean`, as words.
-/
module

public import proofs.«01_k».proof.Proof.Visits
public import Idealize.ShloMosaic.Lib.Routing.OpsSet
public import Idealize.ShloMosaic.Lib.Routing.Words
public import Idealize.ShloMosaic.Lib.WordCmp
public import Idealize.ShloMosaic.Lib.ReduceAll

@[expose] public section

noncomputable section

namespace MoeTables

open Idealize.ShloMosaic Idealize.ShloMosaic.ValueIdx Idealize.ShloMosaic.WordCmp
open Idealize.ShloMosaic.Routing (shape0 shape1 shape2 pyDiv bc0 bcCol bcRows bcCols slice1 reduce_count cumsum1 gather_take1 addi_ap subi_ap iota1_ap ofNat32_sub maxsi_pred pyDiv_ap)
open MoeVisits

abbrev V32 : Type := IVec (shape1 32) 32
abbrev V96 : Type := IVec (shape1 96) 32

theorem bc32 : shape0.BroadcastsInDim (shape1 32) (![] : Fin 0 → Fin (shape1 32).rank) := by decide
theorem bc96 : shape0.BroadcastsInDim (shape1 96) (![] : Fin 0 → Fin (shape1 96).rank) := by decide
theorem bc00 : shape0.BroadcastsInDim shape0 (![] : Fin 0 → Fin shape0.rank) := by decide
theorem h0 : 0 < shape0.numel := by decide
theorem win : (shape1 32).ReduceWindows (![32] : Fin 1 → Nat) ![1] ![31] ![0] (shape1 32) := by decide
theorem bcol : (shape1 96).BroadcastsInDim (shape2 96 1) (![0] : Fin 1 → Fin (shape2 96 1).rank) := by decide
theorem brow : (shape1 32).BroadcastsInDim (shape2 1 32) (![1] : Fin 1 → Fin (shape2 1 32).rank) := by decide
theorem bcolR : (shape2 96 1).BroadcastsInDim (shape2 96 32) (![0, 1] : Fin 2 → Fin (shape2 96 32).rank) := by decide
theorem browR : (shape2 1 32).BroadcastsInDim (shape2 96 32) (![0, 1] : Fin 2 → Fin (shape2 96 32).rank) := by decide
theorem red : (shape2 96 32).ReducesTo [1] (shape1 96) := by decide
theorem lt_1_32 : 1 < 32 := by decide
theorem sl31 : (shape1 32).Slices ![31] (shape1 1) := by decide
theorem cast10 : (shape1 1).ShapeCasts shape0 := by decide
theorem gwf : GatherDims.WF (shape1 32) (shape2 96 1) (shape1 96) [] [0] [] [0] [] 1 ![1] := by decide

/-- Reading a table of 32 words at 96 places. -/
def gd : GatherDims (shape1 32) (shape2 96 1) (shape1 96) where
  offsetDims := []
  collapsedSliceDims := [0]
  operandBatchingDims := []
  startIndicesBatchingDims := []
  startIndexMap := [0]
  indexVectorDim := 1
  sliceSizes := ![1]
  wf := gwf

/-- A word in all 32 places. -/
def c32 (v : BitVec 32) : V32 := broadcastInDim (shape1 32) ![] bc32 (constantI shape0 32 v)
/-- A word in all 96 places. -/
def c96 (v : BitVec 32) : V96 := broadcastInDim (shape1 96) ![] bc96 (constantI shape0 32 v)
/-- The running sum. -/
def cum (x : V32) : V32 := Host.reduceWindow IntOp.addi ![32] ![1] ![31] ![0] x (broadcastInDim shape0 ![] bc00 (constantI shape0 32 0#32)) win h0

/-- Each group's first row. -/
def starts (x : V32) : V32 := subi (cum x) x
/-- Each group's first tile. -/
def firstT (x : V32) : V32 := pyDiv bc32 (starts x) (constantI shape0 32 512#32)
/-- Each group's last tile. -/
def lastT (x : V32) : V32 := pyDiv bc32 (maxsi (subi (cum x) (c32 1#32)) (c32 0#32)) (constantI shape0 32 512#32)
/-- Each group's number of visits. -/
def cntT (x : V32) : V32 := select (cmpi .sgt x (c32 0#32)) (addi (subi (lastT x) (firstT x)) (c32 1#32)) (c32 0#32)
/-- The visits before each group's end. -/
def offT (x : V32) : V32 := cum (cntT x)
/-- Each visit's group. -/
def exT (x : V32) : V96 :=
  minsi (Host.reduce IntOp.addi (extui 32 (cmpi .sge
      (broadcastInDim (shape2 96 32) ![0, 1] bcolR (broadcastInDim (shape2 96 1) ![0] bcol (iotaInDim (shape1 96) 32 0)))
      (broadcastInDim (shape2 96 32) ![0, 1] browR (broadcastInDim (shape2 1 32) ![1] brow (offT x)))) lt_1_32)
    (constantI shape0 32 0#32) red h0) (c96 31#32)
/-- Whether a visit is live. -/
def liveT (x : V32) : IVec (shape1 96) 1 :=
  cmpi .slt (iotaInDim (shape1 96) 32 0) (broadcastInDim (shape1 96) ![] bc96 (shapeCast shape0 (extractStridedSlice (shape1 1) ![31] (offT x) sl31) cast10))
/-- The groups as places to read at. -/
def ixT (x : V32) : IVec (shape2 96 1) 32 :=
  broadcastInDim (shape2 96 1) ![0] bcol (select (cmpi .slt (exT x) (c96 0#32)) (addi (exT x) (c96 32#32)) (exT x))
/-- Each visit's tile. -/
def vtT (x : V32) : V96 :=
  select (liveT x) (subi (addi (Host.gather gd (firstT x) (ixT x)) (iotaInDim (shape1 96) 32 0)) (Host.gather gd (subi (offT x) (cntT x)) (ixT x))) (c96 63#32)
/-- Each visit's first row. -/
def loT (x : V32) : V96 := select (liveT x) (Host.gather gd (starts x) (ixT x)) (c96 0#32)
/-- The row after each visit's last. -/
def hiT (x : V32) : V96 := select (liveT x) (Host.gather gd (cum x) (ixT x)) (c96 0#32)

section
variable (x : V32) (c : Nat → Nat) (hx : ∀ e : Fin 32, x (ix1 e) = BitVec.ofNat 32 (c e.val)) (hT : pre c 32 = 32768)

theorem c32_ap (v : BitVec 32) (i) : c32 v i = v := by unfold c32; rw [bc0, constantI_at]
theorem c96_ap (v : BitVec 32) (i) : c96 v i = v := by unfold c96; rw [bc0, constantI_at]

theorem cum_ap (y : V32) (f : Nat → Nat) (hy : ∀ e : Fin 32, y (ix1 e) = BitVec.ofNat 32 (f e.val)) (e : Fin 32) :
    cum y (ix1 e) = BitVec.ofNat 32 (pre f (e.val + 1)) :=
  cumsum1 rfl y f hy _ (by rw [bc0, constantI_at]) win h0 e

include hx in
theorem starts_ap (e : Fin 32) : starts x (ix1 e) = BitVec.ofNat 32 (pre c e.val) := by
  unfold starts
  rw [subi_ap, cum_ap x c hx, hx, pre_succ, ofNat32_sub (Nat.le_add_left _ _), Nat.add_sub_cancel]

include hT in
theorem pre_lt {e : Nat} (he : e ≤ 32) : pre c e < 2 ^ 31 := lt_of_le_of_lt (pre_le c hT he) (by decide)

include hT in
theorem c_lt {e : Nat} (he : e < 32) : c e < 2 ^ 31 := by
  have := pre_lt c hT (show e + 1 ≤ 32 from he)
  rw [pre_succ] at this; omega

include hx hT in
theorem firstT_ap (e : Fin 32) : firstT x (ix1 e) = BitVec.ofNat 32 (fst c e.val) :=
  pyDiv_ap bc32 _ _ _ (starts_ap x c hx e) rfl (pre_lt c hT e.isLt.le) (by decide) (by decide)

include hx hT in
theorem lastT_ap (e : Fin 32) : lastT x (ix1 e) = BitVec.ofNat 32 (lst c e.val) := by
  have h := pre_lt c hT (show e.val + 1 ≤ 32 from e.isLt)
  refine pyDiv_ap bc32 _ _ _ ?_ rfl (a := pre c (e.val + 1) - 1) (by omega) (by decide) (by decide)
  rw [maxsi_apply, subi_ap, cum_ap x c hx, c32_ap, c32_ap, maxsi_pred h]

include hx hT in
theorem cntT_ap (e : Fin 32) : cntT x (ix1 e) = BitVec.ofNat 32 (cnt c e.val) := by
  unfold cntT
  rw [select_at, cmpi_at, hx, c32_ap, addi_ap, subi_ap, lastT_ap x c hx hT, firstT_ap x c hx hT, c32_ap,
    show (0#32 : BitVec 32) = BitVec.ofNat 32 0 from rfl, cmpi_sgt_ofNat (w := 32) (c_lt c hT e.isLt) (by decide), select_decide]
  by_cases h : 0 < c e.val
  · rw [if_pos h, cnt_pos c h, ofNat32_sub (fst_le_lst c h), show (1#32 : BitVec 32) = BitVec.ofNat 32 1 from rfl, BitVec.ofNat_add_ofNat]
  · rw [if_neg h, cnt_zero c h]

include hx hT in
theorem offT_ap (e : Fin 32) : offT x (ix1 e) = BitVec.ofNat 32 (pre (cnt c) (e.val + 1)) :=
  cum_ap _ _ (cntT_ap x c hx hT) e

include hT in
theorem off_lt {e : Nat} (he : e ≤ 32) : pre (cnt c) e < 2 ^ 31 :=
  lt_of_le_of_lt (le_trans (pre_mono _ he) (total_le c hT)) (by decide)

include hx hT in
theorem exT_ap (v : Fin 96) : exT x (ix1 v) = BitVec.ofNat 32 (ex c v.val) := by
  unfold exT
  have hv := v.isLt
  have hf := find_le (cnt c) 32 v.val
  rw [minsi_apply, c96_ap, reduce_count (by decide) _ lt_1_32 red h0 v (fun e => pre (cnt c) (e + 1) ≤ v.val) ?_]
  · show IntOp.minsi (BitVec.ofNat 32 (find (cnt c) 32 v.val)) (BitVec.ofNat 32 31) = _
    unfold IntOp.minsi ex
    rw [Routing.slt_ofNat32 (by omega) (by decide)]
    by_cases h : find (cnt c) 32 v.val < 31
    · rw [decide_eq_true h, if_pos rfl, Nat.min_eq_left (Nat.le_of_lt h)]
    · rw [decide_eq_false h, if_neg Bool.false_ne_true, Nat.min_eq_right (Nat.le_of_not_lt h)]
  · intro q
    rw [cmpi_at, bcRows, bcCols, iota1_ap, offT_ap x c hx hT, cmpi_sge_ofNat (w := 32) (by omega) (off_lt c hT (show q.val + 1 ≤ 32 from q.isLt)),
      ofBool_eq_one_iff, decide_eq_true_eq]

include hx hT in
theorem liveT_ap (v : Fin 96) : liveT x (ix1 v) = BitVec.ofBool (decide (v.val < total c)) := by
  have hv := v.isLt
  unfold liveT
  rw [cmpi_at, iota1_ap, bc0, shapeCast_apply _ _ ix0 (ix1 (0 : Fin 1)) (by decide), slice1 31 _ _ _ (by decide)]
  show IntOp.cmpi _ _ (offT x (ix1 (31 : Fin 32))) = _
  rw [offT_ap x c hx hT, cmpi_slt_ofNat (w := 32) (by omega) (off_lt c hT (by decide))]
  rfl

include hx hT in
theorem ixT_ap (v : Fin 96) : ixT x (ix2 v (0 : Fin 1)) = BitVec.ofNat 32 (ex c v.val) := by
  have := ex_lt c v.val
  unfold ixT
  rw [bcCol, select_at, cmpi_at, exT_ap x c hx hT, c96_ap, show (0#32 : BitVec 32) = BitVec.ofNat 32 0 from rfl,
    cmpi_slt_ofNat (w := 32) (by omega) (by decide), select_decide, if_neg (Nat.not_lt_zero _)]

include hx hT in
theorem take_ap (y : V32) (v : Fin 96) : Host.gather gd y (ixT x) (ix1 v) = y (ix1 ⟨ex c v.val, ex_lt c v.val⟩) :=
  gather_take1 gd rfl rfl rfl rfl y _ v ⟨ex c v.val, ex_lt c v.val⟩ (ixT_ap x c hx hT v) (by decide)

include hx hT in
theorem vtT_ap (v : Fin 96) : vtT x (ix1 v) = BitVec.ofNat 32 (vt c v.val) := by
  unfold vtT
  rw [select_at, liveT_ap x c hx hT, select_decide, subi_ap, addi_ap, take_ap x c hx hT, take_ap x c hx hT, iota1_ap, c96_ap, firstT_ap x c hx hT,
    subi_ap, offT_ap x c hx hT, cntT_ap x c hx hT]
  unfold vt
  by_cases h : v.val < total c
  · have := live_spec c h
    rw [if_pos h, if_pos h, pre_succ, ofNat32_sub (Nat.le_add_left _ _), Nat.add_sub_cancel, BitVec.ofNat_add_ofNat,
      ofNat32_sub (show pre (cnt c) (ex c v.val) ≤ fst c (ex c v.val) + v.val by omega)]
  · rw [if_neg h, if_neg h]

include hx hT in
theorem loT_ap (v : Fin 96) : loT x (ix1 v) = BitVec.ofNat 32 (lo c v.val) := by
  unfold loT
  rw [select_at, liveT_ap x c hx hT, select_decide, take_ap x c hx hT, c96_ap, starts_ap x c hx]
  unfold lo
  by_cases h : v.val < total c <;> simp only [h, if_true, if_false]

include hx hT in
theorem hiT_ap (v : Fin 96) : hiT x (ix1 v) = BitVec.ofNat 32 (hi c v.val) := by
  unfold hiT
  rw [select_at, liveT_ap x c hx hT, select_decide, take_ap x c hx hT, c96_ap, cum_ap x c hx]
  unfold hi
  by_cases h : v.val < total c <;> simp only [h, if_true, if_false]

end

/-- The sizes as natural numbers. -/
def sizes (x : V32) (e : Nat) : Nat := if h : e < 32 then (x (ix1 ⟨e, h⟩)).toNat else 0

theorem sizes_ap (x : V32) (e : Fin 32) : x (ix1 e) = BitVec.ofNat 32 (sizes x e.val) := by
  unfold sizes; rw [dif_pos e.isLt, BitVec.ofNat_toNat, BitVec.setWidth_eq]

/-- Sizes from 0 to 32768 whose wrapped sum is 32768 sum to 32768. -/
theorem sizes_sum (x : V32) (h1 : ∀ e : Fin 32, 0 ≤ (x (ix1 e)).toInt ∧ (x (ix1 e)).toInt ≤ 32768)
    (h2 : BitVec.ofNat 32 (pre (sizes x) 32) = 32768#32) : pre (sizes x) 32 = 32768 := by
  have hs : ∀ e, sizes x e ≤ 32768 := fun e => by
    unfold sizes
    split
    · next h =>
      have := h1 ⟨e, h⟩
      rw [BitVec.toInt_eq_toNat_cond] at this
      split at this <;> omega
    · omega
  have hb : ∀ n, pre (sizes x) n ≤ n * 32768 := fun n => by
    induction n with
    | zero => simp [pre_zero]
    | succ n ih => rw [pre_succ]; have := hs n; omega
  have hb32 := hb 32
  have := congrArg BitVec.toNat h2
  rw [BitVec.toNat_ofNat, Nat.mod_eq_of_lt (by omega)] at this
  exact this

end MoeTables
-- ==== Proof.KRun.lean ====
/- The body of the kernel, run once at a grid point. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.Frame
public import Idealize.ShloMosaic.Lib.Pipeline.FrameBody
public import Idealize.ShloMosaic.Lib.Pipeline.TableIdle

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-- A table's memref, held at half share at raw contents. -/
abbrev tb0 : Memref sig .tc .smem S96 .i32 := Memref.whole main_v46
abbrev tb1 : Memref sig .tc .smem S96 .i32 := Memref.whole main_v24
abbrev tb2 : Memref sig .tc .smem S96 .i32 := Memref.whole main_v54
abbrev tb3 : Memref sig .tc .smem S96 .i32 := Memref.whole main_v62

/-- The word of a table at the point's visit, as the body loads it. -/
abbrev word (i : grid0.Coords) (c : Dev nD) (m : Memref sig .tc .smem S96 .i32) (f : Buf (Elt F) (m.view.loc (c : Thread nD τ))) : BitVec 32 :=
  View.readAt (Elt F) m.view (Rect.unit (s := S96) (k0_off1 i) S1.size (k0_off1_inb i)).toLoadRect f (Shape.Idx.first (by show 0 < S1.numel; rw [numel1_S1]; decide))

/-- What the body assumes of the four words it loads. -/
abbrev Chk (i : grid0.Coords) (c : Dev nD) (ft0 : Buf (Elt F) (tb0.view.loc (c : Thread nD τ))) (ft1 : Buf (Elt F) (tb1.view.loc (c : Thread nD τ)))
    (ft2 : Buf (Elt F) (tb2.view.loc (c : Thread nD τ))) (ft3 : Buf (Elt F) (tb3.view.loc (c : Thread nD τ))) : Prop :=
  k0_chk1 i (word i c tb1 ft1) (word i c tb0 ft0) (word i c tb3 ft3) (word i c tb2 ft2)

/-- The visit covers a row. -/
abbrev Live (i : grid0.Coords) (c : Dev nD) (ft2 : Buf (Elt F) (tb2.view.loc (c : Thread nD τ))) (ft3 : Buf (Elt F) (tb3.view.loc (c : Thread nD τ))) : Prop :=
  k0_cond2 (word i c tb3 ft3) (word i c tb2 ft2) = 1#1

section Body

variable (c : Dev nD) (i : grid0.Coords)
    (arg6 : Memref sig .tc .vmem S512x2816 .fp8e4m3) (harg6 : arg6.IsWhole) (arg7 : Memref sig .tc .vmem S512x22 .f32) (harg7 : arg7.IsWhole)
    (arg8 : Memref sig .tc .vmem S1x2816x512 .fp8e4m3) (harg8 : arg8.IsWhole) (arg9 : Memref sig .tc .smem S30976 .f32) (harg9 : arg9.IsWhole)
    (arg10 : Memref sig .tc .vmem S32x5632 .f32) (harg10 : arg10.IsWhole) (arg11 : Memref sig .tc .vmem S512x256 .fp8e4m3) (harg11 : arg11.IsWhole)
    (arg12 : Memref sig .tc .vmem S32768x22 .f32) (harg12 : arg12.IsWhole)
    (ft0 : Buf (Elt F) (tb0.view.loc (c : Thread nD τ))) (ft1 : Buf (Elt F) (tb1.view.loc (c : Thread nD τ)))
    (ft2 : Buf (Elt F) (tb2.view.loc (c : Thread nD τ))) (ft3 : Buf (Elt F) (tb3.view.loc (c : Thread nD τ)))
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (f11 : BufTy.Contents (Elt F) arg11.view.ty) (f12 : BufTy.Contents (Elt F) arg12.view.ty)

/-- The buffers the body runs on: the four tables at half share, the five inputs and the two results whole. -/
def bufs (g11 : BufTy.Contents (Elt F) arg11.view.ty) (g12 : BufTy.Contents (Elt F) arg12.view.ty) : sProp 𝕄 :=
    iprop((tb0.view.loc (c : Thread nD τ) ↦{fullShare.right} ft0)
        ∗ (tb1.view.loc (c : Thread nD τ) ↦{fullShare.right} ft1)
        ∗ (tb2.view.loc (c : Thread nD τ) ↦{fullShare.right} ft2)
        ∗ (tb3.view.loc (c : Thread nD τ) ↦{fullShare.right} ft3)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} g11)
        ∗ (arg12.view.loc (c : Thread nD τ) ↦[arg12.view.set]{fullShare} g12))

set_option sl_exec.resultNames true in
/-- A live visit: what the body leaves in the two results' buffers, with the run that leaves it. -/
def runPos (hchk : Chk i c ft0 ft1 ft2 ft3)
    (hc2 : Live i c ft2 ft3) :
    { p : BufTy.Contents (Elt F) arg11.view.ty × BufTy.Contents (Elt F) arg12.view.ty //
      ∀ Q : PUnit → sProp 𝕄,
        iprop(bufs c arg6 arg7 arg8 arg9 arg10 arg11 arg12 ft0 ft1 ft2 ft3 f6 f7 f8 f9 f10 f11 f12
          ∗ (bufs c arg6 arg7 arg8 arg9 arg10 arg11 arg12 ft0 ft1 ft2 ft3 f6 f7 f8 f9 f10 p.1 p.2 -∗ Q ⟨⟩))
        ⊢ wp frame (wpE (defs₀ (F := F)) Variants.none c none) Set.univ
          (cc0_moe_gate_up i tb0 (Memref.isWhole_whole _) tb1 (Memref.isWhole_whole _) tb2 (Memref.isWhole_whole _) tb3 (Memref.isWhole_whole _) arg6 harg6 arg7 harg7 arg8 harg8 arg9 harg9 arg10 harg10 arg11 harg11 arg12 harg12) Q } := by
  refine ⟨⟨?_, ?_⟩, fun Q => ?run⟩
  case run =>
    unfold bufs cc0_moe_gate_up
    iintro ⟨⟨T0, T1, T2, T3, H6, H7, H8, H9, H10, H11, H12⟩, Hk⟩
    sl_exec_parts (disch := first | (with_reducible show k0_chk1 _ _ _ _ _); exact hchk | (with_reducible show k0_cond2 _ _ = 1#1); exact hc2)
    sl_step
    iapply Hk
    isplitl [T0]; · iexact T0
    isplitl [T1]; · iexact T1
    isplitl [T2]; · iexact T2
    isplitl [T3]; · iexact T3
    isplitl [H6]; · iexact H6
    isplitl [H7]; · iexact H7
    isplitl [H8]; · iexact H8
    isplitl [H9]; · iexact H9
    isplitl [H10]; · iexact H10
    isplitl [H11]; · iexact H11
    iexact H12

set_option sl_exec.resultNames true in
/-- A dead visit: the second result's buffer zeroed at the first point, else nothing changed. -/
def runNeg (hchk : Chk i c ft0 ft1 ft2 ft3)
    (hc2 : ¬ Live i c ft2 ft3) :
    { p : BufTy.Contents (Elt F) arg11.view.ty × BufTy.Contents (Elt F) arg12.view.ty //
      ∀ Q : PUnit → sProp 𝕄,
        iprop(bufs c arg6 arg7 arg8 arg9 arg10 arg11 arg12 ft0 ft1 ft2 ft3 f6 f7 f8 f9 f10 f11 f12
          ∗ (bufs c arg6 arg7 arg8 arg9 arg10 arg11 arg12 ft0 ft1 ft2 ft3 f6 f7 f8 f9 f10 p.1 p.2 -∗ Q ⟨⟩))
        ⊢ wp frame (wpE (defs₀ (F := F)) Variants.none c none) Set.univ
          (cc0_moe_gate_up i tb0 (Memref.isWhole_whole _) tb1 (Memref.isWhole_whole _) tb2 (Memref.isWhole_whole _) tb3 (Memref.isWhole_whole _) arg6 harg6 arg7 harg7 arg8 harg8 arg9 harg9 arg10 harg10 arg11 harg11 arg12 harg12) Q } := by
  refine ⟨⟨?_, ?_⟩, fun Q => ?run⟩
  case run =>
    unfold bufs cc0_moe_gate_up
    iintro ⟨⟨T0, T1, T2, T3, H6, H7, H8, H9, H10, H11, H12⟩, Hk⟩
    sl_exec_parts (disch := first | (with_reducible show ¬ k0_cond2 _ _ = 1#1); exact hc2 | (with_reducible show k0_chk1 _ _ _ _ _); exact hchk)
    sl_step
    iapply Hk
    isplitl [T0]; · iexact T0
    isplitl [T1]; · iexact T1
    isplitl [T2]; · iexact T2
    isplitl [T3]; · iexact T3
    isplitl [H6]; · iexact H6
    isplitl [H7]; · iexact H7
    isplitl [H8]; · iexact H8
    isplitl [H9]; · iexact H9
    isplitl [H10]; · iexact H10
    isplitl [H11]; · iexact H11
    iexact H12

end Body

end Cert.KernelIdeal.Hand

end
-- ==== Proof.KBody.lean ====
module

public import proofs.«01_k».proof.Proof.KRun

/-!
The kernel's run as a whole, at any float instance: the body's obligation at every grid point, and the launch. The
proof data say of each input window that the body leaves it as it found it, and of each of the two outputs that the
body leaves what the two runs of the body (`KRun.lean`) compute from the fetched blocks.
-/

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-- The tables' assumption holds at every grid point. -/
def ChkAll (a : (pcfg0 (F := F)).Adm) : Prop := ∀ (c : Dev nD) (i : grid0.Coords), Chk (F := F) i c (a.1 0) (a.1 1) (a.1 2) (a.1 3)

section Step

variable (a : (pcfg0 (F := F)).Adm) (hck : ChkAll a) (c : Dev nD) (t : Fin grid0.N)

abbrev st0 : Memref sig .tc .vmem S512x2816 .fp8e4m3 := spec0_0.stage ((cfg0 a).slots t 0)
abbrev st1 : Memref sig .tc .vmem S512x22 .f32 := spec0_1.stage ((cfg0 a).slots t 1)
abbrev st2 : Memref sig .tc .vmem S1x2816x512 .fp8e4m3 := spec0_2.stage ((cfg0 a).slots t 2)
abbrev st3 : Memref sig .tc .smem S30976 .f32 := spec0_3.stage ((cfg0 a).slots t 3)
abbrev st4 : Memref sig .tc .vmem S32x5632 .f32 := spec0_4.stage ((cfg0 a).slots t 4)
abbrev st5 : Memref sig .tc .vmem S512x256 .fp8e4m3 := spec0_5.stage ((cfg0 a).slots t 5)
abbrev st6 : Memref sig .tc .vmem S32768x22 .f32 := spec0_6.stage ((cfg0 a).slots t 6)

open Classical in
/-- What the body leaves in the two outputs' buffers at a point, from what it finds in the seven buffers. -/
def stepOut (X0 : S512x2816.Idx → Elt F .fp8e4m3) (X1 : S512x22.Idx → Elt F .f32) (X2 : S1x2816x512.Idx → Elt F .fp8e4m3)
    (X3 : S30976.Idx → Elt F .f32) (X4 : S32x5632.Idx → Elt F .f32) (X5 : S512x256.Idx → Elt F .fp8e4m3) (X6 : S32768x22.Idx → Elt F .f32) :
    BufTy.Contents (Elt F) (st5 a t).view.ty × BufTy.Contents (Elt F) (st6 a t).view.ty :=
  if h : Live (F := F) (grid0.coords t) c (a.1 2) (a.1 3) then
    (runPos c (grid0.coords t) (st0 a t) (hstage0_0 _) (st1 a t) (hstage0_1 _) (st2 a t) (hstage0_2 _) (st3 a t) (hstage0_3 _)
      (st4 a t) (hstage0_4 _) (st5 a t) (hstage0_5 _) (st6 a t) (hstage0_6 _) (a.1 0) (a.1 1) (a.1 2) (a.1 3)
      ((st0 a t).view.rep X0) ((st1 a t).view.rep X1) ((st2 a t).view.rep X2) ((st3 a t).view.rep X3) ((st4 a t).view.rep X4)
      ((st5 a t).view.rep X5) ((st6 a t).view.rep X6) (hck c _) h).1
  else
    (runNeg c (grid0.coords t) (st0 a t) (hstage0_0 _) (st1 a t) (hstage0_1 _) (st2 a t) (hstage0_2 _) (st3 a t) (hstage0_3 _)
      (st4 a t) (hstage0_4 _) (st5 a t) (hstage0_5 _) (st6 a t) (hstage0_6 _) (a.1 0) (a.1 1) (a.1 2) (a.1 3)
      ((st0 a t).view.rep X0) ((st1 a t).view.rep X1) ((st2 a t).view.rep X2) ((st3 a t).view.rep X3) ((st4 a t).view.rep X4)
      ((st5 a t).view.rep X5) ((st6 a t).view.rep X6) (hck c _) h).1

/-- The body at a point, as the pipeline calls it. -/
abbrev bodyAt : Prog (TpuEff nD τ sig (Elt F) Λ₀ .tc) PUnit :=
  cc0_moe_gate_up (grid0.coords t) tb0 (Memref.isWhole_whole _) tb1 (Memref.isWhole_whole _) tb2 (Memref.isWhole_whole _) tb3 (Memref.isWhole_whole _)
    (st0 a t) (hstage0_0 _) (st1 a t) (hstage0_1 _) (st2 a t) (hstage0_2 _) (st3 a t) (hstage0_3 _)
      (st4 a t) (hstage0_4 _) (st5 a t) (hstage0_5 _) (st6 a t) (hstage0_6 _)

theorem body_run (X0 : S512x2816.Idx → Elt F .fp8e4m3) (X1 : S512x22.Idx → Elt F .f32) (X2 : S1x2816x512.Idx → Elt F .fp8e4m3)
    (X3 : S30976.Idx → Elt F .f32) (X4 : S32x5632.Idx → Elt F .f32) (X5 : S512x256.Idx → Elt F .fp8e4m3) (X6 : S32768x22.Idx → Elt F .f32)
    (Q : PUnit → sProp 𝕄) :
    iprop(bufs c (st0 a t) (st1 a t) (st2 a t) (st3 a t) (st4 a t) (st5 a t) (st6 a t) (a.1 0) (a.1 1) (a.1 2) (a.1 3)
          ((st0 a t).view.rep X0) ((st1 a t).view.rep X1) ((st2 a t).view.rep X2) ((st3 a t).view.rep X3) ((st4 a t).view.rep X4)
          ((st5 a t).view.rep X5) ((st6 a t).view.rep X6)
        ∗ (bufs c (st0 a t) (st1 a t) (st2 a t) (st3 a t) (st4 a t) (st5 a t) (st6 a t) (a.1 0) (a.1 1) (a.1 2) (a.1 3)
          ((st0 a t).view.rep X0) ((st1 a t).view.rep X1) ((st2 a t).view.rep X2) ((st3 a t).view.rep X3) ((st4 a t).view.rep X4)
          (stepOut a hck c t X0 X1 X2 X3 X4 X5 X6).1 (stepOut a hck c t X0 X1 X2 X3 X4 X5 X6).2 -∗ Q ⟨⟩))
      ⊢ wp frame (wpE (defs₀ (F := F)) Variants.none c none) Set.univ (bodyAt a t) Q := by
  unfold stepOut
  split
  · exact Subtype.property (runPos c _ _ _ _ _ _ _ _ _ _ _ _ _ _ _ _ _ _ _ _ _ _ _ _ _ _ _ _) Q
  · exact Subtype.property (runNeg c _ _ _ _ _ _ _ _ _ _ _ _ _ _ _ _ _ _ _ _ _ _ _ _ _ _ _ _) Q

end Step

section Launch

variable (a : (pcfg0 (F := F)).Adm) (hck : ChkAll a)
variable (V : (c : Dev nD) → (b : Ref sig .tc) → Buf (Elt F) ((c : Thread nD τ).loc b))

/-- The blocks the five inputs hold at a point. -/
def blk (c : Dev nD) (w : Fin 7) (t : Fin grid0.N) : ((win0 a w).xblock (grid0.coords t)).Idx → Elt F (win0 a w).elt :=
  ((win0 a w).blk t).view.read (Elt F) (V c (Pipeline.arrRef spec0 w))

/-- `stepOut` at the fetched blocks. -/
def stepAt (c : Dev nD) (t : Fin grid0.N) (X5 : S512x256.Idx → Elt F .fp8e4m3) (X6 : S32768x22.Idx → Elt F .f32) :
    BufTy.Contents (Elt F) (st5 a t).view.ty × BufTy.Contents (Elt F) (st6 a t).view.ty :=
  stepOut a hck c t (blk a V c 0 t) (blk a V c 1 t) (blk a V c 2 t) (blk a V c 3 t) (blk a V c 4 t) X5 X6

/-- The proof data: inputs as found, outputs as the body's run leaves them. -/
def rdat (c : Dev nD) : RDat τ (Elt F) Unit ℕ (UR sig nD τ) ℕ (cfg0 a) c where
  A w := V c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun t Y X => ∃ Y6, X = (st5 a t).view.read (Elt F) (stepAt a hck V c t Y Y6).1
    | 6 => fun t Y X => ∃ Y5, X = (st6 a t).view.read (Elt F) (stepAt a hck V c t Y5 Y).2
    | ⟨_ + 7, h⟩ => absurd h (Nat.not_lt.2 (Nat.le_add_left _ _))
  Φ _ := iprop(Pipeline.ΦA spec0 c ∗ Pipeline.ΦT pre0 a.1 c)
  q _ := fullShare
  owed _ := 0

theorem PhiT_eq (v : pre0.Contents (Elt F)) (c : Dev nD) :
    (Pipeline.ΦT (U := UR sig nD τ) pre0 v c : sProp 𝕄) = iprop((tb0.view.loc (c : Thread nD τ) ↦{fullShare.right} v 0)
        ∗ (tb1.view.loc (c : Thread nD τ) ↦{fullShare.right} v 1)
        ∗ (tb2.view.loc (c : Thread nD τ) ↦{fullShare.right} v 2)
        ∗ (tb3.view.loc (c : Thread nD τ) ↦{fullShare.right} v 3)) := by
  unfold Pipeline.ΦT Pipeline.prefHeld
  rw [BI.bigSep_eq_bigSepL_of_eq [(0 : Fin 4), 1, 2, 3] (by decide) (by decide)]; rfl

theorem defs₀_row (t : Fin (cfg0 a).N) : defs₀ (F := F) .tc (cfg0 a).body ((cfg0 a).bodyArgs t ((cfg0 a).slots t)) = bodyAt a t := by
  unfold defs₀; rw [Defs.onTc_tc]

theorem finds_in (c : Dev nD) (w : Fin 7) (hw : (win0 a w).isOut = false) (hkeep : ∀ t Y X, (rdat a hck V c).after w t Y X → X = Y)
    (hclip : ∀ i k, (win0 a w).clip i k = none)
    (t : Fin (cfg0 a).N) (Y) (hY : (rdat a hck V c).Finds w t Y) : ∃ d, Y = (rdat a hck V c).fetched w t d := by
  haveI : ∀ e, Nonempty (Elt F e) := fun e => inferInstance
  exact RDat.finds_in_eq_fetched (rdat a hck V c) w hw (fun t t' _ => by funext k; exact (hclip _ k).trans (hclip _ k).symm) hkeep t Y hY

theorem sound_body (c : Dev nD) : (rdat a hck V c).BodyObligation (defs₀ (F := F)) Variants.none () Set.univ := by
  haveI : ∀ e, Nonempty (Elt F e) := fun e => inferInstance
  intro t Y hY
  obtain ⟨d0, e0⟩ := finds_in a hck V c 0 rfl (fun _ _ _ h => h) (fun _ _ => rfl) t _ (hY 0)
  obtain ⟨d1, e1⟩ := finds_in a hck V c 1 rfl (fun _ _ _ h => h) (fun _ _ => rfl) t _ (hY 1)
  obtain ⟨d2, e2⟩ := finds_in a hck V c 2 rfl (fun _ _ _ h => h) (fun _ _ => rfl) t _ (hY 2)
  obtain ⟨d3, e3⟩ := finds_in a hck V c 3 rfl (fun _ _ _ h => h) (fun _ _ => rfl) t _ (hY 3)
  obtain ⟨d4, e4⟩ := finds_in a hck V c 4 rfl (fun _ _ _ h => h) (fun _ _ => rfl) t _ (hY 4)
  have f0 : Y 0 = blk a V c 0 t := e0
  have f1 : Y 1 = blk a V c 1 t := e1
  have f2 : Y 2 = blk a V c 2 t := e2
  have f3 : Y 3 = blk a V c 3 t := e3
  have f4 : Y 4 = blk a V c 4 t := e4
  rw [bigSep_W0, bigSep_W0, defs₀_row]
  rw [show (rdat a hck V c).Φ t.succ = (rdat a hck V c).Φ t.castSucc from rfl,
    show (rdat a hck V c).owesAt () t.succ = (rdat a hck V c).owesAt () t.castSucc from rfl,
    show (rdat a hck V c).Φ t.castSucc = iprop(Pipeline.ΦA spec0 c ∗ Pipeline.ΦT pre0 a.1 c) from rfl, PhiT_eq]
  iintro ⟨⟨HA, ⟨T0, T1, T2, T3⟩⟩, HO, H0, H1, H2, H3, H4, H5, H6⟩
  iapply (body_run a hck c t (Y 0) (Y 1) (Y 2) (Y 3) (Y 4) (Y 5) (Y 6) _)
  unfold bufs
  isplitl [T0 T1 T2 T3 H0 H1 H2 H3 H4 H5 H6]
  · isplitl [T0]; · iexact T0
    isplitl [T1]; · iexact T1
    isplitl [T2]; · iexact T2
    isplitl [T3]; · iexact T3
    isplitl [H0]; · iapply (rep_of_owns (c : Thread nD τ) (st0 a t) fullShare (Y 0)); iexact H0
    isplitl [H1]; · iapply (rep_of_owns (c : Thread nD τ) (st1 a t) fullShare (Y 1)); iexact H1
    isplitl [H2]; · iapply (rep_of_owns (c : Thread nD τ) (st2 a t) fullShare (Y 2)); iexact H2
    isplitl [H3]; · iapply (rep_of_owns (c : Thread nD τ) (st3 a t) fullShare (Y 3)); iexact H3
    isplitl [H4]; · iapply (rep_of_owns (c : Thread nD τ) (st4 a t) fullShare (Y 4)); iexact H4
    isplitl [H5]; · iapply (rep_of_owns (c : Thread nD τ) (st5 a t) fullShare (Y 5)); iexact H5
    iapply (rep_of_owns (c : Thread nD τ) (st6 a t) fullShare (Y 6)); iexact H6
  iintro ⟨T0, T1, T2, T3, H0, H1, H2, H3, H4, H5, H6⟩
  isplitl [HA T0 T1 T2 T3]
  · isplitl [HA]; · iexact HA
    isplitl [T0]; · iexact T0
    isplitl [T1]; · iexact T1
    isplitl [T2]; · iexact T2
    iexact T3
  isplitl [HO]; · iexact HO
  isplitl [H0]
  · iexists (Y 0); isplitr; · ipureintro; rfl
    iapply (owns_of_rep (c : Thread nD τ) (st0 a t) fullShare (Y 0)); iexact H0
  isplitl [H1]
  · iexists (Y 1); isplitr; · ipureintro; rfl
    iapply (owns_of_rep (c : Thread nD τ) (st1 a t) fullShare (Y 1)); iexact H1
  isplitl [H2]
  · iexists (Y 2); isplitr; · ipureintro; rfl
    iapply (owns_of_rep (c : Thread nD τ) (st2 a t) fullShare (Y 2)); iexact H2
  isplitl [H3]
  · iexists (Y 3); isplitr; · ipureintro; rfl
    iapply (owns_of_rep (c : Thread nD τ) (st3 a t) fullShare (Y 3)); iexact H3
  isplitl [H4]
  · iexists (Y 4); isplitr; · ipureintro; rfl
    iapply (owns_of_rep (c : Thread nD τ) (st4 a t) fullShare (Y 4)); iexact H4
  isplitl [H5]
  · iexists ((st5 a t).view.read (Elt F) (stepOut a hck c t (Y 0) (Y 1) (Y 2) (Y 3) (Y 4) (Y 5) (Y 6)).1)
    isplitr; · ipureintro; exact ⟨Y 6, by rw [f0, f1, f2, f3, f4]; rfl⟩
    unfold owns
    iexists _; isplitr; swap; · iexact H5
    ipureintro; rfl
  · iexists ((st6 a t).view.read (Elt F) (stepOut a hck c t (Y 0) (Y 1) (Y 2) (Y 3) (Y 4) (Y 5) (Y 6)).2)
    isplitr; · ipureintro; exact ⟨Y 5, by rw [f0, f1, f2, f3, f4]; rfl⟩
    unfold owns
    iexists _; isplitr; swap; · iexact H6
    ipureintro; rfl

end Launch

end Cert.KernelIdeal.Hand
-- ==== Proof.KTables.lean ====
/-
  The tables as the region finds them: what the host's operations leave in the buffers that the region reads.
-/
module

public import proofs.«01_k».proof.Proof.Tables
public import proofs.«01_k».proof.Proof.KBody
public import Idealize.ShloMosaic.Lib.StableHlo.Run

@[expose] public section

noncomputable section

namespace Cert.KernelIdeal.Hand

open Cert.KernelIdeal Cert.KernelIdeal.Gen
open Idealize.ShloMosaic Idealize.ShloMosaic.TcCoe

variable {F : FTy → Type} [FloatOps F]

/-- The host's operations, in order. -/
abbrev hostOpss : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14]

section Casts
variable (h₁ h₂ h₃)

/-! A typed reference to a literal buffer reads and writes it as it is. -/

theorem ob_arg5 (x) : (StableHlo.TRef.of main_arg5 h₁ h₂ h₃ : StableHlo.TRef sig ⟨S32, .i32⟩).ofBuf (Val := Elt F) x = x := rfl
theorem tb_arg5 (x) : (StableHlo.TRef.of main_arg5 h₁ h₂ h₃ : StableHlo.TRef sig ⟨S32, .i32⟩).toBuf (Val := Elt F) x = x := rfl
theorem ob_c (x) : (StableHlo.TRef.of main_c h₁ h₂ h₃ : StableHlo.TRef sig ⟨S_, .i32⟩).ofBuf (Val := Elt F) x = x := rfl
theorem tb_c (x) : (StableHlo.TRef.of main_c h₁ h₂ h₃ : StableHlo.TRef sig ⟨S_, .i32⟩).toBuf (Val := Elt F) x = x := rfl
theorem ob_c_2 (x) : (StableHlo.TRef.of main_c_2 h₁ h₂ h₃ : StableHlo.TRef sig ⟨S_, .i32⟩).ofBuf (Val := Elt F) x = x := rfl
theorem tb_c_2 (x) : (StableHlo.TRef.of main_c_2 h₁ h₂ h₃ : StableHlo.TRef sig ⟨S_, .i32⟩).toBuf (Val := Elt F) x = x := rfl
theorem ob_c_5 (x) : (StableHlo.TRef.of main_c_5 h₁ h₂ h₃ : StableHlo.TRef sig ⟨S_, .i32⟩).ofBuf (Val := Elt F) x = x := rfl
theorem tb_c_5 (x) : (StableHlo.TRef.of main_c_5 h₁ h₂ h₃ : StableHlo.TRef sig ⟨S_, .i32⟩).toBuf (Val := Elt F) x = x := rfl
theorem ob_c_12 (x) : (StableHlo.TRef.of main_c_12 h₁ h₂ h₃ : StableHlo.TRef sig ⟨S_, .i32⟩).ofBuf (Val := Elt F) x = x := rfl
theorem tb_c_12 (x) : (StableHlo.TRef.of main_c_12 h₁ h₂ h₃ : StableHlo.TRef sig ⟨S_, .i32⟩).toBuf (Val := Elt F) x = x := rfl
theorem ob_c_15 (x) : (StableHlo.TRef.of main_c_15 h₁ h₂ h₃ : StableHlo.TRef sig ⟨S_, .i32⟩).ofBuf (Val := Elt F) x = x := rfl
theorem tb_c_15 (x) : (StableHlo.TRef.of main_c_15 h₁ h₂ h₃ : StableHlo.TRef sig ⟨S_, .i32⟩).toBuf (Val := Elt F) x = x := rfl
theorem ob_c_18 (x) : (StableHlo.TRef.of main_c_18 h₁ h₂ h₃ : StableHlo.TRef sig ⟨S_, .i32⟩).ofBuf (Val := Elt F) x = x := rfl
theorem tb_c_18 (x) : (StableHlo.TRef.of main_c_18 h₁ h₂ h₃ : StableHlo.TRef sig ⟨S_, .i32⟩).toBuf (Val := Elt F) x = x := rfl
theorem ob_v0 (x) : (StableHlo.TRef.of main_v0 h₁ h₂ h₃ : StableHlo.TRef sig ⟨S32, .i32⟩).ofBuf (Val := Elt F) x = x := rfl
theorem tb_v0 (x) : (StableHlo.TRef.of main_v0 h₁ h₂ h₃ : StableHlo.TRef sig ⟨S32, .i32⟩).toBuf (Val := Elt F) x = x := rfl
theorem ob_v1 (x) : (StableHlo.TRef.of main_v1 h₁ h₂ h₃ : StableHlo.TRef sig ⟨S32, .i32⟩).ofBuf (Val := Elt F) x = x := rfl
theorem tb_v1 (x) : (StableHlo.TRef.of main_v1 h₁ h₂ h₃ : StableHlo.TRef sig ⟨S32, .i32⟩).toBuf (Val := Elt F) x = x := rfl
theorem ob_v2 (x) : (StableHlo.TRef.of main_v2 h₁ h₂ h₃ : StableHlo.TRef sig ⟨S32, .i32⟩).ofBuf (Val := Elt F) x = x := rfl
theorem tb_v2 (x) : (StableHlo.TRef.of main_v2 h₁ h₂ h₃ : StableHlo.TRef sig ⟨S32, .i32⟩).toBuf (Val := Elt F) x = x := rfl
theorem ob_v6 (x) : (StableHlo.TRef.of main_v6 h₁ h₂ h₃ : StableHlo.TRef sig ⟨S32, .i32⟩).ofBuf (Val := Elt F) x = x := rfl
theorem tb_v6 (x) : (StableHlo.TRef.of main_v6 h₁ h₂ h₃ : StableHlo.TRef sig ⟨S32, .i32⟩).toBuf (Val := Elt F) x = x := rfl
theorem ob_v7 (x) : (StableHlo.TRef.of main_v7 h₁ h₂ h₃ : StableHlo.TRef sig ⟨S32, .i32⟩).ofBuf (Val := Elt F) x = x := rfl
theorem tb_v7 (x) : (StableHlo.TRef.of main_v7 h₁ h₂ h₃ : StableHlo.TRef sig ⟨S32, .i32⟩).toBuf (Val := Elt F) x = x := rfl
theorem ob_v12 (x) : (StableHlo.TRef.of main_v12 h₁ h₂ h₃ : StableHlo.TRef sig ⟨S32, .i32⟩).ofBuf (Val := Elt F) x = x := rfl
theorem tb_v12 (x) : (StableHlo.TRef.of main_v12 h₁ h₂ h₃ : StableHlo.TRef sig ⟨S32, .i32⟩).toBuf (Val := Elt F) x = x := rfl
theorem ob_v13 (x) : (StableHlo.TRef.of main_v13 h₁ h₂ h₃ : StableHlo.TRef sig ⟨S32, .i32⟩).ofBuf (Val := Elt F) x = x := rfl
theorem tb_v13 (x) : (StableHlo.TRef.of main_v13 h₁ h₂ h₃ : StableHlo.TRef sig ⟨S32, .i32⟩).toBuf (Val := Elt F) x = x := rfl
theorem ob_v14 (x) : (StableHlo.TRef.of main_v14 h₁ h₂ h₃ : StableHlo.TRef sig ⟨S32, .i32⟩).ofBuf (Val := Elt F) x = x := rfl
theorem tb_v14 (x) : (StableHlo.TRef.of main_v14 h₁ h₂ h₃ : StableHlo.TRef sig ⟨S32, .i32⟩).toBuf (Val := Elt F) x = x := rfl
theorem ob_v9 (x) : (StableHlo.TRef.of main_v9 h₁ h₂ h₃ : StableHlo.TRef sig ⟨S32, .i1⟩).ofBuf (Val := Elt F) x = x := rfl
theorem tb_v9 (x) : (StableHlo.TRef.of main_v9 h₁ h₂ h₃ : StableHlo.TRef sig ⟨S32, .i1⟩).toBuf (Val := Elt F) x = x := rfl
theorem ob_v28 (x) : (StableHlo.TRef.of main_v28 h₁ h₂ h₃ : StableHlo.TRef sig ⟨S96, .i1⟩).ofBuf (Val := Elt F) x = x := rfl
theorem tb_v28 (x) : (StableHlo.TRef.of main_v28 h₁ h₂ h₃ : StableHlo.TRef sig ⟨S96, .i1⟩).toBuf (Val := Elt F) x = x := rfl
theorem ob_v45 (x) : (StableHlo.TRef.of main_v45 h₁ h₂ h₃ : StableHlo.TRef sig ⟨S96, .i32⟩).ofBuf (Val := Elt F) x = x := rfl
theorem tb_v45 (x) : (StableHlo.TRef.of main_v45 h₁ h₂ h₃ : StableHlo.TRef sig ⟨S96, .i32⟩).toBuf (Val := Elt F) x = x := rfl
theorem ob_v46 (x) : (StableHlo.TRef.of main_v46 h₁ h₂ h₃ : StableHlo.TRef sig ⟨S96, .i32⟩).ofBuf (Val := Elt F) x = x := rfl
theorem tb_v46 (x) : (StableHlo.TRef.of main_v46 h₁ h₂ h₃ : StableHlo.TRef sig ⟨S96, .i32⟩).toBuf (Val := Elt F) x = x := rfl
theorem ob_v53 (x) : (StableHlo.TRef.of main_v53 h₁ h₂ h₃ : StableHlo.TRef sig ⟨S96, .i32⟩).ofBuf (Val := Elt F) x = x := rfl
theorem tb_v53 (x) : (StableHlo.TRef.of main_v53 h₁ h₂ h₃ : StableHlo.TRef sig ⟨S96, .i32⟩).toBuf (Val := Elt F) x = x := rfl
theorem ob_v54 (x) : (StableHlo.TRef.of main_v54 h₁ h₂ h₃ : StableHlo.TRef sig ⟨S96, .i32⟩).ofBuf (Val := Elt F) x = x := rfl
theorem tb_v54 (x) : (StableHlo.TRef.of main_v54 h₁ h₂ h₃ : StableHlo.TRef sig ⟨S96, .i32⟩).toBuf (Val := Elt F) x = x := rfl
theorem ob_v61 (x) : (StableHlo.TRef.of main_v61 h₁ h₂ h₃ : StableHlo.TRef sig ⟨S96, .i32⟩).ofBuf (Val := Elt F) x = x := rfl
theorem tb_v61 (x) : (StableHlo.TRef.of main_v61 h₁ h₂ h₃ : StableHlo.TRef sig ⟨S96, .i32⟩).toBuf (Val := Elt F) x = x := rfl
theorem ob_v62 (x) : (StableHlo.TRef.of main_v62 h₁ h₂ h₃ : StableHlo.TRef sig ⟨S96, .i32⟩).ofBuf (Val := Elt F) x = x := rfl
theorem tb_v62 (x) : (StableHlo.TRef.of main_v62 h₁ h₂ h₃ : StableHlo.TRef sig ⟨S96, .i32⟩).toBuf (Val := Elt F) x = x := rfl

end Casts

variable (m : (ℓ : Loc nD τ sig) → Buf (Elt F) ℓ)

/-- What the region finds in each buffer. -/
abbrev V (c : Dev nD) (b : Ref sig .tc) : Buf (Elt F) ((c : Thread nD τ).loc b) :=
  StableHlo.after (hostOpss (F := F)).flatten (fun b => m (c, b)) b

set_option maxHeartbeats 1000000 in
/-- The groups' ends. -/
theorem V_ends (c : Dev nD) : V m c main_v0 = MoeTables.cum (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- The groups' first tiles. -/
theorem V_first (c : Dev nD) : V m c main_v2 = MoeTables.firstT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- The visits before each group's end. -/
theorem V_off (c : Dev nD) : V m c main_v14 = MoeTables.offT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- Each visit's tile. -/
theorem V_vt (c : Dev nD) : V m c main_v46 = MoeTables.vtT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- Each visit's group. -/
theorem V_ve (c : Dev nD) : V m c main_v24 = MoeTables.exT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- Each visit's first row. -/
theorem V_lo (c : Dev nD) : V m c main_v54 = MoeTables.loT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- The row after each visit's last. -/
theorem V_hi (c : Dev nD) : V m c main_v62 = MoeTables.hiT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

/-- The weights' scales, as one row. -/
theorem V_ws (c : Dev nD) : V m c main_v63 = shapeCast S30976 (m ((c : Thread nD τ).loc main_arg3)) shapeCasts_S32x22x44_S30976 := by
  simp only [V, hostOpss, List.flatten_cons, List.flatten_nil, List.append_nil, List.cons_append, List.nil_append]
  after_results_simp
  rfl

/-- No host operation writes argument 0. -/
theorem V_arg0 (c : Dev nD) : V m c main_arg0 = m ((c : Thread nD τ).loc main_arg0) := by
  simp only [V, hostOpss, List.flatten_cons, List.flatten_nil, List.append_nil, List.cons_append, List.nil_append]
  after_results_simp

/-- No host operation writes argument 1. -/
theorem V_arg1 (c : Dev nD) : V m c main_arg1 = m ((c : Thread nD τ).loc main_arg1) := by
  simp only [V, hostOpss, List.flatten_cons, List.flatten_nil, List.append_nil, List.cons_append, List.nil_append]
  after_results_simp

/-- No host operation writes argument 2. -/
theorem V_arg2 (c : Dev nD) : V m c main_arg2 = m ((c : Thread nD τ).loc main_arg2) := by
  simp only [V, hostOpss, List.flatten_cons, List.flatten_nil, List.append_nil, List.cons_append, List.nil_append]
  after_results_simp

/-- No host operation writes argument 3. -/
theorem V_arg3 (c : Dev nD) : V m c main_arg3 = m ((c : Thread nD τ).loc main_arg3) := by
  simp only [V, hostOpss, List.flatten_cons, List.flatten_nil, List.append_nil, List.cons_append, List.nil_append]
  after_results_simp

/-- No host operation writes argument 4. -/
theorem V_arg4 (c : Dev nD) : V m c main_arg4 = m ((c : Thread nD τ).loc main_arg4) := by
  simp only [V, hostOpss, List.flatten_cons, List.flatten_nil, List.append_nil, List.cons_append, List.nil_append]
  after_results_simp

/-- No host operation writes argument 5. -/
theorem V_arg5 (c : Dev nD) : V m c main_arg5 = m ((c : Thread nD τ).loc main_arg5) := by
  simp only [V, hostOpss, List.flatten_cons, List.flatten_nil, List.append_nil, List.cons_append, List.nil_append]
  after_results_simp

end Cert.KernelIdeal.Hand
-- ==== Proof.KLaunch.lean ====
/-
  The launch: the tables the host computes are admissible, the body's assumption about their words holds, and the
  program runs with its arguments left as they were.
-/
module

public import proofs.«01_k».proof.Proof.KTables
public import Idealize.ShloMosaic.Lib.Pipeline.ArrRel

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix1)
open MoeVisits

variable {F : FTy → Type} [FloatOps F]

local notation "𝕄" => MT nD τ sig Unit (Elt F) ℕ (UR sig nD τ) ℕ

/-! ## Tables holding numbers -/

/-- The index of a visit. -/
abbrev vi (i : grid0.Coords) : Fin 96 := ⟨(i 1).val, (i 1).isLt⟩

theorem coord1_lt (i : grid0.Coords) : (i 1).val < 96 := (i 1).isLt
theorem coord0_lt (i : grid0.Coords) : (i 0).val < 11 := (i 0).isLt

theorem off1_eq (i : grid0.Coords) : k0_off1 i = ![(i 1).val] := by
  have h := coord1_lt i
  unfold k0_off1
  funext a
  have ha : a = 0 := Subsingleton.elim _ _
  subst ha
  show (BitVec.ofNat 32 (i 1).val).toNat = (i 1).val
  rw [BitVec.toNat_ofNat]
  omega

theorem emb_eq (i : grid0.Coords) (x : Shape.Idx S1) : (Rect.unit (s := S96) (k0_off1 i) S1.size (k0_off1_inb i)).emb x = ix1 (vi i) := by
  funext a
  apply Fin.ext
  have ha : a = 0 := Subsingleton.elim _ _
  subst ha
  have hx : (x 0).val = 0 := by have := (x 0).isLt; have : (x 0).val < 1 := this; omega
  show k0_off1 i 0 + 1 * (x 0).val = (i 1).val
  rw [off1_eq, hx]; simp

/-- Four tables that hold the numbers `f0 … f3`. -/
structure Holds (pf : pre0.Contents (Elt F)) (f0 f1 f2 f3 : Nat → Nat) : Prop where
  h0 : ∀ v : Fin 96, (pf 0 : S96.Idx → BitVec 32) (ix1 v) = BitVec.ofNat 32 (f0 v.val)
  h1 : ∀ v : Fin 96, (pf 1 : S96.Idx → BitVec 32) (ix1 v) = BitVec.ofNat 32 (f1 v.val)
  h2 : ∀ v : Fin 96, (pf 2 : S96.Idx → BitVec 32) (ix1 v) = BitVec.ofNat 32 (f2 v.val)
  h3 : ∀ v : Fin 96, (pf 3 : S96.Idx → BitVec 32) (ix1 v) = BitVec.ofNat 32 (f3 v.val)
  b0 : ∀ v, f0 v < 64
  b1 : ∀ v, f1 v < 32

variable {pf : pre0.Contents (Elt F)} {f0 f1 f2 f3 : Nat → Nat} (H : Holds pf f0 f1 f2 f3)
include H

theorem word0 (i : grid0.Coords) (c : Dev nD) : word (F := F) i c tb0 (pf 0) = BitVec.ofNat 32 (f0 (i 1).val) :=
  (congrArg (pf 0 : S96.Idx → BitVec 32) (emb_eq i _)).trans (H.h0 (vi i))
theorem word1 (i : grid0.Coords) (c : Dev nD) : word (F := F) i c tb1 (pf 1) = BitVec.ofNat 32 (f1 (i 1).val) :=
  (congrArg (pf 1 : S96.Idx → BitVec 32) (emb_eq i _)).trans (H.h1 (vi i))
theorem word2 (i : grid0.Coords) (c : Dev nD) : word (F := F) i c tb2 (pf 2) = BitVec.ofNat 32 (f2 (i 1).val) :=
  (congrArg (pf 2 : S96.Idx → BitVec 32) (emb_eq i _)).trans (H.h2 (vi i))
theorem word3 (i : grid0.Coords) (c : Dev nD) : word (F := F) i c tb3 (pf 3) = BitVec.ofNat 32 (f3 (i 1).val) :=
  (congrArg (pf 3 : S96.Idx → BitVec 32) (emb_eq i _)).trans (H.h3 (vi i))

theorem at0 (i : grid0.Coords) (h) : pf.at 0 (Rect.unit (s := S96) (k0_off1 i) S1.size (k0_off1_inb i)) h = BitVec.ofNat 32 (f0 (i 1).val) :=
  (congrArg (pf 0 : S96.Idx → BitVec 32) (emb_eq i _)).trans (H.h0 (vi i))
theorem at1 (i : grid0.Coords) (h) : pf.at 1 (Rect.unit (s := S96) (k0_off1 i) S1.size (k0_off1_inb i)) h = BitVec.ofNat 32 (f1 (i 1).val) :=
  (congrArg (pf 1 : S96.Idx → BitVec 32) (emb_eq i _)).trans (H.h1 (vi i))

theorem toNat_small {n : Nat} (h : n < 2 ^ 32) : (BitVec.ofNat 32 n).toNat = n := by
  rw [BitVec.toNat_ofNat]; exact Nat.mod_eq_of_lt h

/-- The blocks' indices. -/
theorem tr0 (i : grid0.Coords) : cc0_transform_0 k0_off1_inb numel1_S1 pf i = ![f0 (i 1).val, 0] := by
  have h := H.b0 (i 1).val
  show ![(pf.at 0 (Rect.unit (s := S96) (k0_off1 i) S1.size (k0_off1_inb i)) numel1_S1 : BitVec 32).toNat, 0] = _
  rw [at0 H i numel1_S1, toNat_small H (by omega)]
theorem tr1 (i : grid0.Coords) : cc0_transform_1 k0_off1_inb numel1_S1 pf i = ![f0 (i 1).val, 0] := by
  have h := H.b0 (i 1).val
  show ![(pf.at 0 (Rect.unit (s := S96) (k0_off1 i) S1.size (k0_off1_inb i)) numel1_S1 : BitVec 32).toNat, 0] = _
  rw [at0 H i numel1_S1, toNat_small H (by omega)]
theorem tr2 (i : grid0.Coords) : cc0_transform_2 k0_off1_inb numel1_S1 pf i = ![f1 (i 1).val, 0, (i 0).val] := by
  have h := H.b1 (i 1).val
  have h' := coord0_lt i
  show ![(pf.at 1 (Rect.unit (s := S96) (k0_off1 i) S1.size (k0_off1_inb i)) numel1_S1 : BitVec 32).toNat, 0, (BitVec.ofNat 32 (i 0).val).toNat] = _
  rw [at1 H i numel1_S1, toNat_small H (by omega), toNat_small H (by omega)]
theorem tr5 (i : grid0.Coords) : cc0_transform_5 k0_off1_inb numel1_S1 pf i = ![f0 (i 1).val, (i 0).val] := by
  have h := H.b0 (i 1).val
  have h' := coord0_lt i
  show ![(pf.at 0 (Rect.unit (s := S96) (k0_off1 i) S1.size (k0_off1_inb i)) numel1_S1 : BitVec 32).toNat, (BitVec.ofNat 32 (i 0).val).toNat] = _
  rw [at0 H i numel1_S1, toNat_small H (by omega), toNat_small H (by omega)]

theorem blk0_in (i : grid0.Coords) (a) : (cc0_transform_0 k0_off1_inb numel1_S1 pf i a + 1) * S512x2816.size a ≤ S32768x2816.size a := by
  have h := H.b0 (i 1).val
  rw [tr0 H]
  fin_cases a
  · show (f0 (i 1).val + 1) * 512 ≤ 32768; omega
  · show (0 + 1) * 2816 ≤ 2816; omega
theorem blk1_in (i : grid0.Coords) (a) : (cc0_transform_1 k0_off1_inb numel1_S1 pf i a + 1) * S512x22.size a ≤ S32768x22.size a := by
  have h := H.b0 (i 1).val
  rw [tr1 H]
  fin_cases a
  · show (f0 (i 1).val + 1) * 512 ≤ 32768; omega
  · show (0 + 1) * 22 ≤ 22; omega
theorem blk2_in (i : grid0.Coords) (a) : (cc0_transform_2 k0_off1_inb numel1_S1 pf i a + 1) * S1x2816x512.size a ≤ S32x2816x5632.size a := by
  have h := H.b1 (i 1).val
  have h' := coord0_lt i
  rw [tr2 H]
  fin_cases a
  · show (f1 (i 1).val + 1) * 1 ≤ 32; omega
  · show (0 + 1) * 2816 ≤ 2816; omega
  · show ((i 0).val + 1) * 512 ≤ 5632; omega
theorem blk5_in (i : grid0.Coords) (a) : (cc0_transform_5 k0_off1_inb numel1_S1 pf i a + 1) * S512x256.size a ≤ S32768x2816.size a := by
  have h := H.b0 (i 1).val
  have h' := coord0_lt i
  rw [tr5 H]
  fin_cases a
  · show (f0 (i 1).val + 1) * 512 ≤ 32768; omega
  · show ((i 0).val + 1) * 256 ≤ 2816; omega

/-- The tables are admissible. -/
theorem ok_of_holds : ok0 pf := by
  refine ⟨fun i => ⟨blk0_in H i, .inr (.inl (.inr ⟨by decide, rfl, .inl ⟨?_, ?_⟩⟩))⟩, fun i => ⟨blk1_in H i, .inl rfl⟩,
    fun i => ⟨blk2_in H i, .inr (.inl (.inr ⟨by decide, rfl, .inl ⟨?_, ?_⟩⟩))⟩, fun i => ⟨blk5_in H i, .inr (.inl (.inr ⟨by decide, rfl, .inl ⟨?_, ?_⟩⟩))⟩⟩
  · show 4 ∣ cc0_transform_0 k0_off1_inb numel1_S1 pf i 0 * 512; omega
  · show 4 ∣ 512; omega
  · show 4 ∣ cc0_transform_2 k0_off1_inb numel1_S1 pf i 1 * 2816; omega
  · show 4 ∣ 2816; omega
  · show 4 ∣ cc0_transform_5 k0_off1_inb numel1_S1 pf i 0 * 512; omega
  · show 4 ∣ 512; omega

theorem off2_eq (i : grid0.Coords) (e r₁ r₂ : Nat) (he : e < 32) (h1 : r₁ < 22) (h2 : r₂ < 4) :
    k0_off2 i (BitVec.ofNat 32 e) (BitVec.ofNat 32 r₁) (BitVec.ofNat 32 r₂) = ![(e * 22 + r₁) * 44 + (i 0).val * 4 + r₂] := by
  have h' := coord0_lt i
  unfold k0_off2
  show ![((((BitVec.ofNat 32 e * 22#32) + BitVec.ofNat 32 r₁) * 44#32 + BitVec.ofNat 32 (i 0).val * 4#32) + BitVec.ofNat 32 r₂).toNat] = _
  congr 1
  simp only [BitVec.toNat_add, BitVec.toNat_mul, BitVec.toNat_ofNat]
  omega

theorem off3_eq (i : grid0.Coords) (e : Nat) (he : e < 32) : k0_off3 i (BitVec.ofNat 32 e) = ![e, (i 0).val * 512] := by
  have h' := coord0_lt i
  unfold k0_off3
  show ![(BitVec.ofNat 32 e).toNat, (BitVec.ofNat 32 (i 0).val * 512#32).toNat] = _
  simp only [BitVec.toNat_mul, BitVec.toNat_ofNat]
  congr 1
  · omega
  · congr 1; omega

theorem mult1_eq (b : Nat) (hb : b < 64) : (k0_mult1 (BitVec.ofNat 32 b)).toNat = b * 512 := by
  show (BitVec.ofNat 32 b * 512#32).toNat = _
  simp only [BitVec.toNat_mul, BitVec.toNat_ofNat]
  omega

theorem off5_eq (b : Nat) (hb : b < 64) : k0_off5 (BitVec.ofNat 32 b) = ![b * 512, 0] := by
  show ![(k0_mult1 (BitVec.ofNat 32 b)).toNat, 0] = _
  rw [mult1_eq H b hb]

/-- The body's assumption. -/
theorem chk_of_holds (c : Dev nD) (i : grid0.Coords) : Chk (F := F) i c (pf 0) (pf 1) (pf 2) (pf 3) := by
  have h := H.b0 (i 1).val
  have he := H.b1 (i 1).val
  have h' := coord0_lt i
  unfold Chk
  rw [word0 H, word1 H]
  refine ⟨fun _ r₁ r₂ a => ?_, fun _ a => ?_, fun _ => ?_, fun _ a => ?_⟩
  · have := r₁.isLt
    have := r₂.isLt
    rw [off2_eq H i _ _ _ he r₁.isLt r₂.isLt]
    fin_cases a
    show (f1 (i 1).val * 22 + r₁.val) * 44 + (i 0).val * 4 + r₂.val + 1 ≤ 30976; omega
  · rw [off3_eq H i _ he]
    fin_cases a
    · show f1 (i 1).val + 1 ≤ 32; omega
    · show (i 0).val * 512 + 512 ≤ 5632; omega
  · rw [mult1_eq H _ h]; exact ⟨_, Nat.mul_comm _ _⟩
  · rw [off5_eq H _ h]
    fin_cases a
    · show f0 (i 1).val * 512 + 512 ≤ 32768; omega
    · show 0 + 22 ≤ 22; omega
omit H

/-! ## The run -/

section Run

variable (m : (ℓ : Loc nD τ sig) → Buf (Elt F) ℓ)

/-- The groups' sizes. -/
def gs (c : Dev nD) : MoeTables.V32 := m ((c : Thread nD τ).loc main_arg5)
/-- The groups' sizes, as numbers. -/
def cn (c : Dev nD) : Nat → Nat := MoeTables.sizes (gs m c)

/-- The tables' contents the region reads. -/
def pfv (c : Dev nD) : pre0.Contents (Elt F) := fun k => V m c (pre0.ref k)

theorem holds (c : Dev nD) (hT : pre (cn m c) 32 = 32768) : Holds (pfv m c) (vt (cn m c)) (ex (cn m c)) (lo (cn m c)) (hi (cn m c)) where
  h0 v := (congrFun (V_vt m c) (ix1 v)).trans (MoeTables.vtT_ap _ _ (MoeTables.sizes_ap _) hT v)
  h1 v := (congrFun (V_ve m c) (ix1 v)).trans (MoeTables.exT_ap _ _ (MoeTables.sizes_ap _) hT v)
  h2 v := (congrFun (V_lo m c) (ix1 v)).trans (MoeTables.loT_ap _ _ (MoeTables.sizes_ap _) hT v)
  h3 v := (congrFun (V_hi m c) (ix1 v)).trans (MoeTables.hiT_ap _ _ (MoeTables.sizes_ap _) hT v)
  b0 v := vt_lt _ hT v
  b1 v := ex_lt _ v

variable (hT : ∀ c : Dev nD, pre (cn m c) 32 = 32768)
include hT

/-- The one core's tables, admissible. -/
def adm : (pcfg0 (F := F)).Adm := ⟨pfv m 0, ok_of_holds (holds m 0 (hT 0))⟩

omit hT in
theorem chk_at (a : (pcfg0 (F := F)).Adm) {pf : pre0.Contents (Elt F)} (e : a.1 = pf) (h : ∀ c i, Chk (F := F) i c (pf 0) (pf 1) (pf 2) (pf 3)) : ChkAll a := by
  subst e; exact h

theorem hck : ChkAll (adm m hT) := chk_at _ (pf := pfv m 0) rfl fun c i => chk_of_holds (holds m 0 (hT 0)) c i

/-- The launch's proof data. -/
abbrev rd (c : Dev nD) : RDat τ (Elt F) Unit ℕ (UR sig nD τ) ℕ (cfg0 (adm m hT)) c := rdat (adm m hT) (hck m hT) (V m) c

omit hT in
theorem hmain : Pipeline.HMainP (Ix := Unit) (Name := ℕ) (U := UR sig nD τ) (Lvl := ℕ) (pcfgs (F := F)) 0 (defs₀ (F := F)) Variants.none m (main (F := F)) (V m) :=
  Pipeline.hmainP_prefixes (pcfgs (F := F)) 0 defs₀ Variants.none m main hostOpss
    (by unfold hostOpss; simp only [List.Forall]
        exact ⟨hostOps0_sub, hostOps0_1_sub, hostOps0_2_sub, hostOps0_3_sub, hostOps0_4_sub, hostOps0_5_sub, hostOps0_6_sub, hostOps0_7_sub, hostOps0_8_sub, hostOps0_9_sub,
          hostOps0_10_sub, hostOps0_11_sub, hostOps0_12_sub, hostOps0_13_sub, hostOps0_14_sub⟩)
    (by unfold hostOpss; simp only [List.Forall]; repeat' constructor)
    main_chain

set_option backward.isDefEq.respectTransparency.types false in
set_option maxHeartbeats 800000 in
theorem run_main (ρ : Dev nD → PrngReg) : θ_run (defs (F := F)) (onTc (τ := τ) (main (F := F))) ⟨m, fun _ => 0, ρ⟩
    (fun r => RDat.FramePost (cfg0 (adm m hT)) (rd m hT) (V m) r ∧ r.2.sem = fun _ => 0) :=
  RDat.θ_run_frameP (pcfgs (F := F)) (fun _ => adm m hT) 0 launch0 defs₀ Variants.none (rd m hT) m ρ main
    (hbody := fun c => sound_body (adm m hT) (hck m hT) (V m) c)
    (hshare := fun c => (rd m hT c).share_full fun _ => rfl)
    (howed := fun _ _ => rfl) (V := V m) (hmain := hmain m)
    (hA := fun _ _ => rfl)
    (hpf := fun c k => by have : c = 0 := Subsingleton.elim _ _; subst this; rfl)
    (hΦ := fun _ _ => rfl) (Q' := _) (hQ' := fun _ h => h)

end Run

end Cert.KernelIdeal.Hand
-- ==== Proof.KFrame.lean ====
/-
  The program runs: it ends, leaves its arguments as they were and every semaphore at zero.
-/
module

public import proofs.«01_k».proof.Proof.KLaunch

@[expose] public section

set_option synthInstance.maxSize 4096

noncomputable section

namespace Cert.KernelIdeal.Hand

open Cert.KernelIdeal Cert.KernelIdeal.Gen
open Idealize.ShloMosaic Idealize.ShloMosaic.TcCoe
open Idealize.ShloMosaic.Pipeline (RDat)
open Idealize.SL.Sem
open MoeVisits

variable {F : FTy → Type} [FloatOps F] (m : (ℓ : Loc nD τ sig) → Buf (Elt F) ℓ) (hT : ∀ c : Dev nD, pre (cn m c) 32 = 32768)

/-- What a final state leaves of the arguments. -/
theorem args_of_post (r) (h : RDat.FramePost (cfg0 (adm m hT)) (rd m hT) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans (V_arg0 m c), (RDat.FramePost.arr_in h c 1 rfl).trans (V_arg1 m c),
    (RDat.FramePost.arr_in h c 2 rfl).trans (V_arg2 m c),
    ((h c).2 main_arg3 (Pipeline.mem_restRefs_of main_arg3 (by decide) (show ∀ w : Fin 7, (spec0 w).arr.view.ref ≠ main_arg3 by decide))).trans (V_arg3 m c),
    (RDat.FramePost.arr_in h c 4 rfl).trans (V_arg4 m c),
    ((h c).2 main_arg5 (Pipeline.mem_restRefs_of main_arg5 (by decide) (show ∀ w : Fin 7, (spec0 w).arr.view.ref ≠ main_arg5 by decide))).trans (V_arg5 m c)⟩

include hT in
theorem quiescent (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of_post m hT r h.1 c, h.2⟩) (run_main m hT ρ)

end Cert.KernelIdeal.Hand
-- ==== Proof.PRun.lean ====
/- The body of the kernel, run once at a grid point. -/
module

public import proofs.«01_k».proof.Proof.Gen.Kernel
public import proofs.«01_k».proof.Proof.Gen.Kernel.Skeleton
public import proofs.«01_k».proof.Proof.Gen.Kernel.Launch
public import Idealize.ShloMosaic.Lib.Tactic
public import Idealize.ShloMosaic.Lib.Pipeline.Frame
public import Idealize.ShloMosaic.Lib.Pipeline.FrameBody
public import Idealize.ShloMosaic.Lib.Pipeline.TableIdle

@[expose] public section

set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-- A table's memref, held at half share at raw contents. -/
abbrev tb0 : Memref sig .tc .smem S96 .i32 := Memref.whole main_v46
abbrev tb1 : Memref sig .tc .smem S96 .i32 := Memref.whole main_v24
abbrev tb2 : Memref sig .tc .smem S96 .i32 := Memref.whole main_v54
abbrev tb3 : Memref sig .tc .smem S96 .i32 := Memref.whole main_v62

/-- The word of a table at the point's visit, as the body loads it. -/
abbrev word (i : grid0.Coords) (c : Dev nD) (m : Memref sig .tc .smem S96 .i32) (f : Buf (Elt F) (m.view.loc (c : Thread nD τ))) : BitVec 32 :=
  View.readAt (Elt F) m.view (Rect.unit (s := S96) (k0_off1 i) S1.size (k0_off1_inb i)).toLoadRect f (Shape.Idx.first (by show 0 < S1.numel; rw [numel1_S1]; decide))

/-- What the body assumes of the four words it loads. -/
abbrev Chk (i : grid0.Coords) (c : Dev nD) (ft0 : Buf (Elt F) (tb0.view.loc (c : Thread nD τ))) (ft1 : Buf (Elt F) (tb1.view.loc (c : Thread nD τ)))
    (ft2 : Buf (Elt F) (tb2.view.loc (c : Thread nD τ))) (ft3 : Buf (Elt F) (tb3.view.loc (c : Thread nD τ))) : Prop :=
  k0_chk1 i (word i c tb1 ft1) (word i c tb0 ft0) (word i c tb3 ft3) (word i c tb2 ft2)

/-- The visit covers a row. -/
abbrev Live (i : grid0.Coords) (c : Dev nD) (ft2 : Buf (Elt F) (tb2.view.loc (c : Thread nD τ))) (ft3 : Buf (Elt F) (tb3.view.loc (c : Thread nD τ))) : Prop :=
  k0_cond2 (word i c tb3 ft3) (word i c tb2 ft2) = 1#1

section Body

variable (c : Dev nD) (i : grid0.Coords)
    (arg6 : Memref sig .tc .vmem S512x2816 .fp8e4m3) (harg6 : arg6.IsWhole) (arg7 : Memref sig .tc .vmem S512x22 .f32) (harg7 : arg7.IsWhole)
    (arg8 : Memref sig .tc .vmem S1x2816x512 .fp8e4m3) (harg8 : arg8.IsWhole) (arg9 : Memref sig .tc .smem S30976 .f32) (harg9 : arg9.IsWhole)
    (arg10 : Memref sig .tc .vmem S32x5632 .f32) (harg10 : arg10.IsWhole) (arg11 : Memref sig .tc .vmem S512x256 .fp8e4m3) (harg11 : arg11.IsWhole)
    (arg12 : Memref sig .tc .vmem S32768x22 .f32) (harg12 : arg12.IsWhole)
    (ft0 : Buf (Elt F) (tb0.view.loc (c : Thread nD τ))) (ft1 : Buf (Elt F) (tb1.view.loc (c : Thread nD τ)))
    (ft2 : Buf (Elt F) (tb2.view.loc (c : Thread nD τ))) (ft3 : Buf (Elt F) (tb3.view.loc (c : Thread nD τ)))
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (f11 : BufTy.Contents (Elt F) arg11.view.ty) (f12 : BufTy.Contents (Elt F) arg12.view.ty)

/-- The buffers the body runs on: the four tables at half share, the five inputs and the two results whole. -/
def bufs (g11 : BufTy.Contents (Elt F) arg11.view.ty) (g12 : BufTy.Contents (Elt F) arg12.view.ty) : sProp 𝕄 :=
    iprop((tb0.view.loc (c : Thread nD τ) ↦{fullShare.right} ft0)
        ∗ (tb1.view.loc (c : Thread nD τ) ↦{fullShare.right} ft1)
        ∗ (tb2.view.loc (c : Thread nD τ) ↦{fullShare.right} ft2)
        ∗ (tb3.view.loc (c : Thread nD τ) ↦{fullShare.right} ft3)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} g11)
        ∗ (arg12.view.loc (c : Thread nD τ) ↦[arg12.view.set]{fullShare} g12))

set_option sl_exec.resultNames true in
/-- A live visit: what the body leaves in the two results' buffers, with the run that leaves it. -/
def runPos (hchk : Chk i c ft0 ft1 ft2 ft3)
    (hc2 : Live i c ft2 ft3) :
    { p : BufTy.Contents (Elt F) arg11.view.ty × BufTy.Contents (Elt F) arg12.view.ty //
      ∀ Q : PUnit → sProp 𝕄,
        iprop(bufs c arg6 arg7 arg8 arg9 arg10 arg11 arg12 ft0 ft1 ft2 ft3 f6 f7 f8 f9 f10 f11 f12
          ∗ (bufs c arg6 arg7 arg8 arg9 arg10 arg11 arg12 ft0 ft1 ft2 ft3 f6 f7 f8 f9 f10 p.1 p.2 -∗ Q ⟨⟩))
        ⊢ wp frame (wpE (defs₀ (F := F)) Variants.none c none) Set.univ
          (cc0_moe_gate_up i tb0 (Memref.isWhole_whole _) tb1 (Memref.isWhole_whole _) tb2 (Memref.isWhole_whole _) tb3 (Memref.isWhole_whole _) arg6 harg6 arg7 harg7 arg8 harg8 arg9 harg9 arg10 harg10 arg11 harg11 arg12 harg12) Q } := by
  refine ⟨⟨?_, ?_⟩, fun Q => ?run⟩
  case run =>
    unfold bufs cc0_moe_gate_up
    iintro ⟨⟨T0, T1, T2, T3, H6, H7, H8, H9, H10, H11, H12⟩, Hk⟩
    sl_exec_parts (disch := first | (with_reducible show k0_chk1 _ _ _ _ _); exact hchk | (with_reducible show k0_cond2 _ _ = 1#1); exact hc2)
    sl_step
    iapply Hk
    isplitl [T0]; · iexact T0
    isplitl [T1]; · iexact T1
    isplitl [T2]; · iexact T2
    isplitl [T3]; · iexact T3
    isplitl [H6]; · iexact H6
    isplitl [H7]; · iexact H7
    isplitl [H8]; · iexact H8
    isplitl [H9]; · iexact H9
    isplitl [H10]; · iexact H10
    isplitl [H11]; · iexact H11
    iexact H12

set_option sl_exec.resultNames true in
/-- A dead visit: the second result's buffer zeroed at the first point, else nothing changed. -/
def runNeg (hchk : Chk i c ft0 ft1 ft2 ft3)
    (hc2 : ¬ Live i c ft2 ft3) :
    { p : BufTy.Contents (Elt F) arg11.view.ty × BufTy.Contents (Elt F) arg12.view.ty //
      ∀ Q : PUnit → sProp 𝕄,
        iprop(bufs c arg6 arg7 arg8 arg9 arg10 arg11 arg12 ft0 ft1 ft2 ft3 f6 f7 f8 f9 f10 f11 f12
          ∗ (bufs c arg6 arg7 arg8 arg9 arg10 arg11 arg12 ft0 ft1 ft2 ft3 f6 f7 f8 f9 f10 p.1 p.2 -∗ Q ⟨⟩))
        ⊢ wp frame (wpE (defs₀ (F := F)) Variants.none c none) Set.univ
          (cc0_moe_gate_up i tb0 (Memref.isWhole_whole _) tb1 (Memref.isWhole_whole _) tb2 (Memref.isWhole_whole _) tb3 (Memref.isWhole_whole _) arg6 harg6 arg7 harg7 arg8 harg8 arg9 harg9 arg10 harg10 arg11 harg11 arg12 harg12) Q } := by
  refine ⟨⟨?_, ?_⟩, fun Q => ?run⟩
  case run =>
    unfold bufs cc0_moe_gate_up
    iintro ⟨⟨T0, T1, T2, T3, H6, H7, H8, H9, H10, H11, H12⟩, Hk⟩
    sl_exec_parts (disch := first | (with_reducible show ¬ k0_cond2 _ _ = 1#1); exact hc2 | (with_reducible show k0_chk1 _ _ _ _ _); exact hchk)
    sl_step
    iapply Hk
    isplitl [T0]; · iexact T0
    isplitl [T1]; · iexact T1
    isplitl [T2]; · iexact T2
    isplitl [T3]; · iexact T3
    isplitl [H6]; · iexact H6
    isplitl [H7]; · iexact H7
    isplitl [H8]; · iexact H8
    isplitl [H9]; · iexact H9
    isplitl [H10]; · iexact H10
    isplitl [H11]; · iexact H11
    iexact H12

end Body

end Cert.Kernel.Hand

end
-- ==== Proof.PBody.lean ====
module

public import proofs.«01_k».proof.Proof.PRun

/-!
The kernel's run as a whole, at any float instance: the body's obligation at every grid point, and the launch. The
proof data say of each input window that the body leaves it as it found it, and of each of the two outputs that the
body leaves what the two runs of the body (`PRun.lean`) compute from the fetched blocks.
-/

@[expose] public section

set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-- The tables' assumption holds at every grid point. -/
def ChkAll (a : (pcfg0 (F := F)).Adm) : Prop := ∀ (c : Dev nD) (i : grid0.Coords), Chk (F := F) i c (a.1 0) (a.1 1) (a.1 2) (a.1 3)

section Step

variable (a : (pcfg0 (F := F)).Adm) (hck : ChkAll a) (c : Dev nD) (t : Fin grid0.N)

abbrev st0 : Memref sig .tc .vmem S512x2816 .fp8e4m3 := spec0_0.stage ((cfg0 a).slots t 0)
abbrev st1 : Memref sig .tc .vmem S512x22 .f32 := spec0_1.stage ((cfg0 a).slots t 1)
abbrev st2 : Memref sig .tc .vmem S1x2816x512 .fp8e4m3 := spec0_2.stage ((cfg0 a).slots t 2)
abbrev st3 : Memref sig .tc .smem S30976 .f32 := spec0_3.stage ((cfg0 a).slots t 3)
abbrev st4 : Memref sig .tc .vmem S32x5632 .f32 := spec0_4.stage ((cfg0 a).slots t 4)
abbrev st5 : Memref sig .tc .vmem S512x256 .fp8e4m3 := spec0_5.stage ((cfg0 a).slots t 5)
abbrev st6 : Memref sig .tc .vmem S32768x22 .f32 := spec0_6.stage ((cfg0 a).slots t 6)

open Classical in
/-- What the body leaves in the two outputs' buffers at a point, from what it finds in the seven buffers. -/
def stepOut (X0 : S512x2816.Idx → Elt F .fp8e4m3) (X1 : S512x22.Idx → Elt F .f32) (X2 : S1x2816x512.Idx → Elt F .fp8e4m3)
    (X3 : S30976.Idx → Elt F .f32) (X4 : S32x5632.Idx → Elt F .f32) (X5 : S512x256.Idx → Elt F .fp8e4m3) (X6 : S32768x22.Idx → Elt F .f32) :
    BufTy.Contents (Elt F) (st5 a t).view.ty × BufTy.Contents (Elt F) (st6 a t).view.ty :=
  if h : Live (F := F) (grid0.coords t) c (a.1 2) (a.1 3) then
    (runPos c (grid0.coords t) (st0 a t) (hstage0_0 _) (st1 a t) (hstage0_1 _) (st2 a t) (hstage0_2 _) (st3 a t) (hstage0_3 _)
      (st4 a t) (hstage0_4 _) (st5 a t) (hstage0_5 _) (st6 a t) (hstage0_6 _) (a.1 0) (a.1 1) (a.1 2) (a.1 3)
      ((st0 a t).view.rep X0) ((st1 a t).view.rep X1) ((st2 a t).view.rep X2) ((st3 a t).view.rep X3) ((st4 a t).view.rep X4)
      ((st5 a t).view.rep X5) ((st6 a t).view.rep X6) (hck c _) h).1
  else
    (runNeg c (grid0.coords t) (st0 a t) (hstage0_0 _) (st1 a t) (hstage0_1 _) (st2 a t) (hstage0_2 _) (st3 a t) (hstage0_3 _)
      (st4 a t) (hstage0_4 _) (st5 a t) (hstage0_5 _) (st6 a t) (hstage0_6 _) (a.1 0) (a.1 1) (a.1 2) (a.1 3)
      ((st0 a t).view.rep X0) ((st1 a t).view.rep X1) ((st2 a t).view.rep X2) ((st3 a t).view.rep X3) ((st4 a t).view.rep X4)
      ((st5 a t).view.rep X5) ((st6 a t).view.rep X6) (hck c _) h).1

/-- The body at a point, as the pipeline calls it. -/
abbrev bodyAt : Prog (TpuEff nD τ sig (Elt F) Λ₀ .tc) PUnit :=
  cc0_moe_gate_up (grid0.coords t) tb0 (Memref.isWhole_whole _) tb1 (Memref.isWhole_whole _) tb2 (Memref.isWhole_whole _) tb3 (Memref.isWhole_whole _)
    (st0 a t) (hstage0_0 _) (st1 a t) (hstage0_1 _) (st2 a t) (hstage0_2 _) (st3 a t) (hstage0_3 _)
      (st4 a t) (hstage0_4 _) (st5 a t) (hstage0_5 _) (st6 a t) (hstage0_6 _)

theorem body_run (X0 : S512x2816.Idx → Elt F .fp8e4m3) (X1 : S512x22.Idx → Elt F .f32) (X2 : S1x2816x512.Idx → Elt F .fp8e4m3)
    (X3 : S30976.Idx → Elt F .f32) (X4 : S32x5632.Idx → Elt F .f32) (X5 : S512x256.Idx → Elt F .fp8e4m3) (X6 : S32768x22.Idx → Elt F .f32)
    (Q : PUnit → sProp 𝕄) :
    iprop(bufs c (st0 a t) (st1 a t) (st2 a t) (st3 a t) (st4 a t) (st5 a t) (st6 a t) (a.1 0) (a.1 1) (a.1 2) (a.1 3)
          ((st0 a t).view.rep X0) ((st1 a t).view.rep X1) ((st2 a t).view.rep X2) ((st3 a t).view.rep X3) ((st4 a t).view.rep X4)
          ((st5 a t).view.rep X5) ((st6 a t).view.rep X6)
        ∗ (bufs c (st0 a t) (st1 a t) (st2 a t) (st3 a t) (st4 a t) (st5 a t) (st6 a t) (a.1 0) (a.1 1) (a.1 2) (a.1 3)
          ((st0 a t).view.rep X0) ((st1 a t).view.rep X1) ((st2 a t).view.rep X2) ((st3 a t).view.rep X3) ((st4 a t).view.rep X4)
          (stepOut a hck c t X0 X1 X2 X3 X4 X5 X6).1 (stepOut a hck c t X0 X1 X2 X3 X4 X5 X6).2 -∗ Q ⟨⟩))
      ⊢ wp frame (wpE (defs₀ (F := F)) Variants.none c none) Set.univ (bodyAt a t) Q := by
  unfold stepOut
  split
  · exact Subtype.property (runPos c _ _ _ _ _ _ _ _ _ _ _ _ _ _ _ _ _ _ _ _ _ _ _ _ _ _ _ _) Q
  · exact Subtype.property (runNeg c _ _ _ _ _ _ _ _ _ _ _ _ _ _ _ _ _ _ _ _ _ _ _ _ _ _ _ _) Q

end Step

section Launch

variable (a : (pcfg0 (F := F)).Adm) (hck : ChkAll a)
variable (V : (c : Dev nD) → (b : Ref sig .tc) → Buf (Elt F) ((c : Thread nD τ).loc b))

/-- The blocks the five inputs hold at a point. -/
def blk (c : Dev nD) (w : Fin 7) (t : Fin grid0.N) : ((win0 a w).xblock (grid0.coords t)).Idx → Elt F (win0 a w).elt :=
  ((win0 a w).blk t).view.read (Elt F) (V c (Pipeline.arrRef spec0 w))

/-- `stepOut` at the fetched blocks. -/
def stepAt (c : Dev nD) (t : Fin grid0.N) (X5 : S512x256.Idx → Elt F .fp8e4m3) (X6 : S32768x22.Idx → Elt F .f32) :
    BufTy.Contents (Elt F) (st5 a t).view.ty × BufTy.Contents (Elt F) (st6 a t).view.ty :=
  stepOut a hck c t (blk a V c 0 t) (blk a V c 1 t) (blk a V c 2 t) (blk a V c 3 t) (blk a V c 4 t) X5 X6

/-- The proof data: inputs as found, outputs as the body's run leaves them. -/
def rdat (c : Dev nD) : RDat τ (Elt F) Unit ℕ (UR sig nD τ) ℕ (cfg0 a) c where
  A w := V c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun t Y X => ∃ Y6, X = (st5 a t).view.read (Elt F) (stepAt a hck V c t Y Y6).1
    | 6 => fun t Y X => ∃ Y5, X = (st6 a t).view.read (Elt F) (stepAt a hck V c t Y5 Y).2
    | ⟨_ + 7, h⟩ => absurd h (Nat.not_lt.2 (Nat.le_add_left _ _))
  Φ _ := iprop(Pipeline.ΦA spec0 c ∗ Pipeline.ΦT pre0 a.1 c)
  q _ := fullShare
  owed _ := 0

theorem PhiT_eq (v : pre0.Contents (Elt F)) (c : Dev nD) :
    (Pipeline.ΦT (U := UR sig nD τ) pre0 v c : sProp 𝕄) = iprop((tb0.view.loc (c : Thread nD τ) ↦{fullShare.right} v 0)
        ∗ (tb1.view.loc (c : Thread nD τ) ↦{fullShare.right} v 1)
        ∗ (tb2.view.loc (c : Thread nD τ) ↦{fullShare.right} v 2)
        ∗ (tb3.view.loc (c : Thread nD τ) ↦{fullShare.right} v 3)) := by
  unfold Pipeline.ΦT Pipeline.prefHeld
  rw [BI.bigSep_eq_bigSepL_of_eq [(0 : Fin 4), 1, 2, 3] (by decide) (by decide)]; rfl

theorem defs₀_row (t : Fin (cfg0 a).N) : defs₀ (F := F) .tc (cfg0 a).body ((cfg0 a).bodyArgs t ((cfg0 a).slots t)) = bodyAt a t := by
  unfold defs₀; rw [Defs.onTc_tc]

theorem finds_in (c : Dev nD) (w : Fin 7) (hw : (win0 a w).isOut = false) (hkeep : ∀ t Y X, (rdat a hck V c).after w t Y X → X = Y)
    (hclip : ∀ i k, (win0 a w).clip i k = none)
    (t : Fin (cfg0 a).N) (Y) (hY : (rdat a hck V c).Finds w t Y) : ∃ d, Y = (rdat a hck V c).fetched w t d := by
  haveI : ∀ e, Nonempty (Elt F e) := fun e => inferInstance
  exact RDat.finds_in_eq_fetched (rdat a hck V c) w hw (fun t t' _ => by funext k; exact (hclip _ k).trans (hclip _ k).symm) hkeep t Y hY

theorem sound_body (c : Dev nD) : (rdat a hck V c).BodyObligation (defs₀ (F := F)) Variants.none () Set.univ := by
  haveI : ∀ e, Nonempty (Elt F e) := fun e => inferInstance
  intro t Y hY
  obtain ⟨d0, e0⟩ := finds_in a hck V c 0 rfl (fun _ _ _ h => h) (fun _ _ => rfl) t _ (hY 0)
  obtain ⟨d1, e1⟩ := finds_in a hck V c 1 rfl (fun _ _ _ h => h) (fun _ _ => rfl) t _ (hY 1)
  obtain ⟨d2, e2⟩ := finds_in a hck V c 2 rfl (fun _ _ _ h => h) (fun _ _ => rfl) t _ (hY 2)
  obtain ⟨d3, e3⟩ := finds_in a hck V c 3 rfl (fun _ _ _ h => h) (fun _ _ => rfl) t _ (hY 3)
  obtain ⟨d4, e4⟩ := finds_in a hck V c 4 rfl (fun _ _ _ h => h) (fun _ _ => rfl) t _ (hY 4)
  have f0 : Y 0 = blk a V c 0 t := e0
  have f1 : Y 1 = blk a V c 1 t := e1
  have f2 : Y 2 = blk a V c 2 t := e2
  have f3 : Y 3 = blk a V c 3 t := e3
  have f4 : Y 4 = blk a V c 4 t := e4
  rw [bigSep_W0, bigSep_W0, defs₀_row]
  rw [show (rdat a hck V c).Φ t.succ = (rdat a hck V c).Φ t.castSucc from rfl,
    show (rdat a hck V c).owesAt () t.succ = (rdat a hck V c).owesAt () t.castSucc from rfl,
    show (rdat a hck V c).Φ t.castSucc = iprop(Pipeline.ΦA spec0 c ∗ Pipeline.ΦT pre0 a.1 c) from rfl, PhiT_eq]
  iintro ⟨⟨HA, ⟨T0, T1, T2, T3⟩⟩, HO, H0, H1, H2, H3, H4, H5, H6⟩
  iapply (body_run a hck c t (Y 0) (Y 1) (Y 2) (Y 3) (Y 4) (Y 5) (Y 6) _)
  unfold bufs
  isplitl [T0 T1 T2 T3 H0 H1 H2 H3 H4 H5 H6]
  · isplitl [T0]; · iexact T0
    isplitl [T1]; · iexact T1
    isplitl [T2]; · iexact T2
    isplitl [T3]; · iexact T3
    isplitl [H0]; · iapply (rep_of_owns (c : Thread nD τ) (st0 a t) fullShare (Y 0)); iexact H0
    isplitl [H1]; · iapply (rep_of_owns (c : Thread nD τ) (st1 a t) fullShare (Y 1)); iexact H1
    isplitl [H2]; · iapply (rep_of_owns (c : Thread nD τ) (st2 a t) fullShare (Y 2)); iexact H2
    isplitl [H3]; · iapply (rep_of_owns (c : Thread nD τ) (st3 a t) fullShare (Y 3)); iexact H3
    isplitl [H4]; · iapply (rep_of_owns (c : Thread nD τ) (st4 a t) fullShare (Y 4)); iexact H4
    isplitl [H5]; · iapply (rep_of_owns (c : Thread nD τ) (st5 a t) fullShare (Y 5)); iexact H5
    iapply (rep_of_owns (c : Thread nD τ) (st6 a t) fullShare (Y 6)); iexact H6
  iintro ⟨T0, T1, T2, T3, H0, H1, H2, H3, H4, H5, H6⟩
  isplitl [HA T0 T1 T2 T3]
  · isplitl [HA]; · iexact HA
    isplitl [T0]; · iexact T0
    isplitl [T1]; · iexact T1
    isplitl [T2]; · iexact T2
    iexact T3
  isplitl [HO]; · iexact HO
  isplitl [H0]
  · iexists (Y 0); isplitr; · ipureintro; rfl
    iapply (owns_of_rep (c : Thread nD τ) (st0 a t) fullShare (Y 0)); iexact H0
  isplitl [H1]
  · iexists (Y 1); isplitr; · ipureintro; rfl
    iapply (owns_of_rep (c : Thread nD τ) (st1 a t) fullShare (Y 1)); iexact H1
  isplitl [H2]
  · iexists (Y 2); isplitr; · ipureintro; rfl
    iapply (owns_of_rep (c : Thread nD τ) (st2 a t) fullShare (Y 2)); iexact H2
  isplitl [H3]
  · iexists (Y 3); isplitr; · ipureintro; rfl
    iapply (owns_of_rep (c : Thread nD τ) (st3 a t) fullShare (Y 3)); iexact H3
  isplitl [H4]
  · iexists (Y 4); isplitr; · ipureintro; rfl
    iapply (owns_of_rep (c : Thread nD τ) (st4 a t) fullShare (Y 4)); iexact H4
  isplitl [H5]
  · iexists ((st5 a t).view.read (Elt F) (stepOut a hck c t (Y 0) (Y 1) (Y 2) (Y 3) (Y 4) (Y 5) (Y 6)).1)
    isplitr; · ipureintro; exact ⟨Y 6, by rw [f0, f1, f2, f3, f4]; rfl⟩
    unfold owns
    iexists _; isplitr; swap; · iexact H5
    ipureintro; rfl
  · iexists ((st6 a t).view.read (Elt F) (stepOut a hck c t (Y 0) (Y 1) (Y 2) (Y 3) (Y 4) (Y 5) (Y 6)).2)
    isplitr; · ipureintro; exact ⟨Y 5, by rw [f0, f1, f2, f3, f4]; rfl⟩
    unfold owns
    iexists _; isplitr; swap; · iexact H6
    ipureintro; rfl

end Launch

end Cert.Kernel.Hand
-- ==== Proof.PTables.lean ====
/-
  The tables as the region finds them: what the host's operations leave in the buffers that the region reads.
-/
module

public import proofs.«01_k».proof.Proof.Tables
public import proofs.«01_k».proof.Proof.PBody
public import Idealize.ShloMosaic.Lib.StableHlo.Run

@[expose] public section

noncomputable section

namespace Cert.Kernel.Hand

open Cert.Kernel Cert.Kernel.Gen
open Idealize.ShloMosaic Idealize.ShloMosaic.TcCoe

variable {F : FTy → Type} [FloatOps F]

/-- The host's operations, in order. -/
abbrev hostOpss : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14]

section Casts
variable (h₁ h₂ h₃)

/-! A typed reference to a literal buffer reads and writes it as it is. -/

theorem ob_arg5 (x) : (StableHlo.TRef.of main_arg5 h₁ h₂ h₃ : StableHlo.TRef sig ⟨S32, .i32⟩).ofBuf (Val := Elt F) x = x := rfl
theorem tb_arg5 (x) : (StableHlo.TRef.of main_arg5 h₁ h₂ h₃ : StableHlo.TRef sig ⟨S32, .i32⟩).toBuf (Val := Elt F) x = x := rfl
theorem ob_c (x) : (StableHlo.TRef.of main_c h₁ h₂ h₃ : StableHlo.TRef sig ⟨S_, .i32⟩).ofBuf (Val := Elt F) x = x := rfl
theorem tb_c (x) : (StableHlo.TRef.of main_c h₁ h₂ h₃ : StableHlo.TRef sig ⟨S_, .i32⟩).toBuf (Val := Elt F) x = x := rfl
theorem ob_c_2 (x) : (StableHlo.TRef.of main_c_2 h₁ h₂ h₃ : StableHlo.TRef sig ⟨S_, .i32⟩).ofBuf (Val := Elt F) x = x := rfl
theorem tb_c_2 (x) : (StableHlo.TRef.of main_c_2 h₁ h₂ h₃ : StableHlo.TRef sig ⟨S_, .i32⟩).toBuf (Val := Elt F) x = x := rfl
theorem ob_c_5 (x) : (StableHlo.TRef.of main_c_5 h₁ h₂ h₃ : StableHlo.TRef sig ⟨S_, .i32⟩).ofBuf (Val := Elt F) x = x := rfl
theorem tb_c_5 (x) : (StableHlo.TRef.of main_c_5 h₁ h₂ h₃ : StableHlo.TRef sig ⟨S_, .i32⟩).toBuf (Val := Elt F) x = x := rfl
theorem ob_c_12 (x) : (StableHlo.TRef.of main_c_12 h₁ h₂ h₃ : StableHlo.TRef sig ⟨S_, .i32⟩).ofBuf (Val := Elt F) x = x := rfl
theorem tb_c_12 (x) : (StableHlo.TRef.of main_c_12 h₁ h₂ h₃ : StableHlo.TRef sig ⟨S_, .i32⟩).toBuf (Val := Elt F) x = x := rfl
theorem ob_c_15 (x) : (StableHlo.TRef.of main_c_15 h₁ h₂ h₃ : StableHlo.TRef sig ⟨S_, .i32⟩).ofBuf (Val := Elt F) x = x := rfl
theorem tb_c_15 (x) : (StableHlo.TRef.of main_c_15 h₁ h₂ h₃ : StableHlo.TRef sig ⟨S_, .i32⟩).toBuf (Val := Elt F) x = x := rfl
theorem ob_c_18 (x) : (StableHlo.TRef.of main_c_18 h₁ h₂ h₃ : StableHlo.TRef sig ⟨S_, .i32⟩).ofBuf (Val := Elt F) x = x := rfl
theorem tb_c_18 (x) : (StableHlo.TRef.of main_c_18 h₁ h₂ h₃ : StableHlo.TRef sig ⟨S_, .i32⟩).toBuf (Val := Elt F) x = x := rfl
theorem ob_v0 (x) : (StableHlo.TRef.of main_v0 h₁ h₂ h₃ : StableHlo.TRef sig ⟨S32, .i32⟩).ofBuf (Val := Elt F) x = x := rfl
theorem tb_v0 (x) : (StableHlo.TRef.of main_v0 h₁ h₂ h₃ : StableHlo.TRef sig ⟨S32, .i32⟩).toBuf (Val := Elt F) x = x := rfl
theorem ob_v1 (x) : (StableHlo.TRef.of main_v1 h₁ h₂ h₃ : StableHlo.TRef sig ⟨S32, .i32⟩).ofBuf (Val := Elt F) x = x := rfl
theorem tb_v1 (x) : (StableHlo.TRef.of main_v1 h₁ h₂ h₃ : StableHlo.TRef sig ⟨S32, .i32⟩).toBuf (Val := Elt F) x = x := rfl
theorem ob_v2 (x) : (StableHlo.TRef.of main_v2 h₁ h₂ h₃ : StableHlo.TRef sig ⟨S32, .i32⟩).ofBuf (Val := Elt F) x = x := rfl
theorem tb_v2 (x) : (StableHlo.TRef.of main_v2 h₁ h₂ h₃ : StableHlo.TRef sig ⟨S32, .i32⟩).toBuf (Val := Elt F) x = x := rfl
theorem ob_v6 (x) : (StableHlo.TRef.of main_v6 h₁ h₂ h₃ : StableHlo.TRef sig ⟨S32, .i32⟩).ofBuf (Val := Elt F) x = x := rfl
theorem tb_v6 (x) : (StableHlo.TRef.of main_v6 h₁ h₂ h₃ : StableHlo.TRef sig ⟨S32, .i32⟩).toBuf (Val := Elt F) x = x := rfl
theorem ob_v7 (x) : (StableHlo.TRef.of main_v7 h₁ h₂ h₃ : StableHlo.TRef sig ⟨S32, .i32⟩).ofBuf (Val := Elt F) x = x := rfl
theorem tb_v7 (x) : (StableHlo.TRef.of main_v7 h₁ h₂ h₃ : StableHlo.TRef sig ⟨S32, .i32⟩).toBuf (Val := Elt F) x = x := rfl
theorem ob_v12 (x) : (StableHlo.TRef.of main_v12 h₁ h₂ h₃ : StableHlo.TRef sig ⟨S32, .i32⟩).ofBuf (Val := Elt F) x = x := rfl
theorem tb_v12 (x) : (StableHlo.TRef.of main_v12 h₁ h₂ h₃ : StableHlo.TRef sig ⟨S32, .i32⟩).toBuf (Val := Elt F) x = x := rfl
theorem ob_v13 (x) : (StableHlo.TRef.of main_v13 h₁ h₂ h₃ : StableHlo.TRef sig ⟨S32, .i32⟩).ofBuf (Val := Elt F) x = x := rfl
theorem tb_v13 (x) : (StableHlo.TRef.of main_v13 h₁ h₂ h₃ : StableHlo.TRef sig ⟨S32, .i32⟩).toBuf (Val := Elt F) x = x := rfl
theorem ob_v14 (x) : (StableHlo.TRef.of main_v14 h₁ h₂ h₃ : StableHlo.TRef sig ⟨S32, .i32⟩).ofBuf (Val := Elt F) x = x := rfl
theorem tb_v14 (x) : (StableHlo.TRef.of main_v14 h₁ h₂ h₃ : StableHlo.TRef sig ⟨S32, .i32⟩).toBuf (Val := Elt F) x = x := rfl
theorem ob_v9 (x) : (StableHlo.TRef.of main_v9 h₁ h₂ h₃ : StableHlo.TRef sig ⟨S32, .i1⟩).ofBuf (Val := Elt F) x = x := rfl
theorem tb_v9 (x) : (StableHlo.TRef.of main_v9 h₁ h₂ h₃ : StableHlo.TRef sig ⟨S32, .i1⟩).toBuf (Val := Elt F) x = x := rfl
theorem ob_v28 (x) : (StableHlo.TRef.of main_v28 h₁ h₂ h₃ : StableHlo.TRef sig ⟨S96, .i1⟩).ofBuf (Val := Elt F) x = x := rfl
theorem tb_v28 (x) : (StableHlo.TRef.of main_v28 h₁ h₂ h₃ : StableHlo.TRef sig ⟨S96, .i1⟩).toBuf (Val := Elt F) x = x := rfl
theorem ob_v45 (x) : (StableHlo.TRef.of main_v45 h₁ h₂ h₃ : StableHlo.TRef sig ⟨S96, .i32⟩).ofBuf (Val := Elt F) x = x := rfl
theorem tb_v45 (x) : (StableHlo.TRef.of main_v45 h₁ h₂ h₃ : StableHlo.TRef sig ⟨S96, .i32⟩).toBuf (Val := Elt F) x = x := rfl
theorem ob_v46 (x) : (StableHlo.TRef.of main_v46 h₁ h₂ h₃ : StableHlo.TRef sig ⟨S96, .i32⟩).ofBuf (Val := Elt F) x = x := rfl
theorem tb_v46 (x) : (StableHlo.TRef.of main_v46 h₁ h₂ h₃ : StableHlo.TRef sig ⟨S96, .i32⟩).toBuf (Val := Elt F) x = x := rfl
theorem ob_v53 (x) : (StableHlo.TRef.of main_v53 h₁ h₂ h₃ : StableHlo.TRef sig ⟨S96, .i32⟩).ofBuf (Val := Elt F) x = x := rfl
theorem tb_v53 (x) : (StableHlo.TRef.of main_v53 h₁ h₂ h₃ : StableHlo.TRef sig ⟨S96, .i32⟩).toBuf (Val := Elt F) x = x := rfl
theorem ob_v54 (x) : (StableHlo.TRef.of main_v54 h₁ h₂ h₃ : StableHlo.TRef sig ⟨S96, .i32⟩).ofBuf (Val := Elt F) x = x := rfl
theorem tb_v54 (x) : (StableHlo.TRef.of main_v54 h₁ h₂ h₃ : StableHlo.TRef sig ⟨S96, .i32⟩).toBuf (Val := Elt F) x = x := rfl
theorem ob_v61 (x) : (StableHlo.TRef.of main_v61 h₁ h₂ h₃ : StableHlo.TRef sig ⟨S96, .i32⟩).ofBuf (Val := Elt F) x = x := rfl
theorem tb_v61 (x) : (StableHlo.TRef.of main_v61 h₁ h₂ h₃ : StableHlo.TRef sig ⟨S96, .i32⟩).toBuf (Val := Elt F) x = x := rfl
theorem ob_v62 (x) : (StableHlo.TRef.of main_v62 h₁ h₂ h₃ : StableHlo.TRef sig ⟨S96, .i32⟩).ofBuf (Val := Elt F) x = x := rfl
theorem tb_v62 (x) : (StableHlo.TRef.of main_v62 h₁ h₂ h₃ : StableHlo.TRef sig ⟨S96, .i32⟩).toBuf (Val := Elt F) x = x := rfl

end Casts

variable (m : (ℓ : Loc nD τ sig) → Buf (Elt F) ℓ)

/-- What the region finds in each buffer. -/
abbrev V (c : Dev nD) (b : Ref sig .tc) : Buf (Elt F) ((c : Thread nD τ).loc b) :=
  StableHlo.after (hostOpss (F := F)).flatten (fun b => m (c, b)) b

set_option maxHeartbeats 1000000 in
/-- The groups' ends. -/
theorem V_ends (c : Dev nD) : V m c main_v0 = MoeTables.cum (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- The groups' first tiles. -/
theorem V_first (c : Dev nD) : V m c main_v2 = MoeTables.firstT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- The visits before each group's end. -/
theorem V_off (c : Dev nD) : V m c main_v14 = MoeTables.offT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- Each visit's tile. -/
theorem V_vt (c : Dev nD) : V m c main_v46 = MoeTables.vtT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- Each visit's group. -/
theorem V_ve (c : Dev nD) : V m c main_v24 = MoeTables.exT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- Each visit's first row. -/
theorem V_lo (c : Dev nD) : V m c main_v54 = MoeTables.loT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

set_option maxHeartbeats 1000000 in
/-- The row after each visit's last. -/
theorem V_hi (c : Dev nD) : V m c main_v62 = MoeTables.hiT (m ((c : Thread nD τ).loc main_arg5)) := by
  simp only [V, hostOpss, List.flatten_cons, List.flatten_nil, List.append_nil, List.cons_append, List.nil_append]
  after_results_simp
  simp only [StableHlo.TRef.ofBuf_toBuf, id, ob_arg5, tb_arg5, ob_c, tb_c, ob_c_2, tb_c_2, ob_c_5, tb_c_5, ob_c_12, tb_c_12, ob_c_15, tb_c_15, ob_c_18, tb_c_18, ob_v0, tb_v0, ob_v1, tb_v1, ob_v2, tb_v2, ob_v6, tb_v6, ob_v7, tb_v7, ob_v12, tb_v12, ob_v13, tb_v13, ob_v14, tb_v14, ob_v9, tb_v9, ob_v28, tb_v28, ob_v45, tb_v45, ob_v46, tb_v46, ob_v53, tb_v53, ob_v54, tb_v54, ob_v61, tb_v61, ob_v62, tb_v62]
  rfl

/-- The weights' scales, as one row. -/
theorem V_ws (c : Dev nD) : V m c main_v63 = shapeCast S30976 (m ((c : Thread nD τ).loc main_arg3)) shapeCasts_S32x22x44_S30976 := by
  simp only [V, hostOpss, List.flatten_cons, List.flatten_nil, List.append_nil, List.cons_append, List.nil_append]
  after_results_simp
  rfl

/-- No host operation writes argument 0. -/
theorem V_arg0 (c : Dev nD) : V m c main_arg0 = m ((c : Thread nD τ).loc main_arg0) := by
  simp only [V, hostOpss, List.flatten_cons, List.flatten_nil, List.append_nil, List.cons_append, List.nil_append]
  after_results_simp

/-- No host operation writes argument 1. -/
theorem V_arg1 (c : Dev nD) : V m c main_arg1 = m ((c : Thread nD τ).loc main_arg1) := by
  simp only [V, hostOpss, List.flatten_cons, List.flatten_nil, List.append_nil, List.cons_append, List.nil_append]
  after_results_simp

/-- No host operation writes argument 2. -/
theorem V_arg2 (c : Dev nD) : V m c main_arg2 = m ((c : Thread nD τ).loc main_arg2) := by
  simp only [V, hostOpss, List.flatten_cons, List.flatten_nil, List.append_nil, List.cons_append, List.nil_append]
  after_results_simp

/-- No host operation writes argument 3. -/
theorem V_arg3 (c : Dev nD) : V m c main_arg3 = m ((c : Thread nD τ).loc main_arg3) := by
  simp only [V, hostOpss, List.flatten_cons, List.flatten_nil, List.append_nil, List.cons_append, List.nil_append]
  after_results_simp

/-- No host operation writes argument 4. -/
theorem V_arg4 (c : Dev nD) : V m c main_arg4 = m ((c : Thread nD τ).loc main_arg4) := by
  simp only [V, hostOpss, List.flatten_cons, List.flatten_nil, List.append_nil, List.cons_append, List.nil_append]
  after_results_simp

/-- No host operation writes argument 5. -/
theorem V_arg5 (c : Dev nD) : V m c main_arg5 = m ((c : Thread nD τ).loc main_arg5) := by
  simp only [V, hostOpss, List.flatten_cons, List.flatten_nil, List.append_nil, List.cons_append, List.nil_append]
  after_results_simp

end Cert.Kernel.Hand
-- ==== Proof.PLaunch.lean ====
/-
  The launch: the tables the host computes are admissible, the body's assumption about their words holds, and the
  program runs with its arguments left as they were.
-/
module

public import proofs.«01_k».proof.Proof.PTables
public import Idealize.ShloMosaic.Lib.Pipeline.ArrRel

@[expose] public section

set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix1)
open MoeVisits

variable {F : FTy → Type} [FloatOps F]

local notation "𝕄" => MT nD τ sig Unit (Elt F) ℕ (UR sig nD τ) ℕ

/-! ## Tables holding numbers -/

/-- The index of a visit. -/
abbrev vi (i : grid0.Coords) : Fin 96 := ⟨(i 1).val, (i 1).isLt⟩

theorem coord1_lt (i : grid0.Coords) : (i 1).val < 96 := (i 1).isLt
theorem coord0_lt (i : grid0.Coords) : (i 0).val < 11 := (i 0).isLt

theorem off1_eq (i : grid0.Coords) : k0_off1 i = ![(i 1).val] := by
  have h := coord1_lt i
  unfold k0_off1
  funext a
  have ha : a = 0 := Subsingleton.elim _ _
  subst ha
  show (BitVec.ofNat 32 (i 1).val).toNat = (i 1).val
  rw [BitVec.toNat_ofNat]
  omega

theorem emb_eq (i : grid0.Coords) (x : Shape.Idx S1) : (Rect.unit (s := S96) (k0_off1 i) S1.size (k0_off1_inb i)).emb x = ix1 (vi i) := by
  funext a
  apply Fin.ext
  have ha : a = 0 := Subsingleton.elim _ _
  subst ha
  have hx : (x 0).val = 0 := by have := (x 0).isLt; have : (x 0).val < 1 := this; omega
  show k0_off1 i 0 + 1 * (x 0).val = (i 1).val
  rw [off1_eq, hx]; simp

/-- Four tables that hold the numbers `f0 … f3`. -/
structure Holds (pf : pre0.Contents (Elt F)) (f0 f1 f2 f3 : Nat → Nat) : Prop where
  h0 : ∀ v : Fin 96, (pf 0 : S96.Idx → BitVec 32) (ix1 v) = BitVec.ofNat 32 (f0 v.val)
  h1 : ∀ v : Fin 96, (pf 1 : S96.Idx → BitVec 32) (ix1 v) = BitVec.ofNat 32 (f1 v.val)
  h2 : ∀ v : Fin 96, (pf 2 : S96.Idx → BitVec 32) (ix1 v) = BitVec.ofNat 32 (f2 v.val)
  h3 : ∀ v : Fin 96, (pf 3 : S96.Idx → BitVec 32) (ix1 v) = BitVec.ofNat 32 (f3 v.val)
  b0 : ∀ v, f0 v < 64
  b1 : ∀ v, f1 v < 32

variable {pf : pre0.Contents (Elt F)} {f0 f1 f2 f3 : Nat → Nat} (H : Holds pf f0 f1 f2 f3)
include H

theorem word0 (i : grid0.Coords) (c : Dev nD) : word (F := F) i c tb0 (pf 0) = BitVec.ofNat 32 (f0 (i 1).val) :=
  (congrArg (pf 0 : S96.Idx → BitVec 32) (emb_eq i _)).trans (H.h0 (vi i))
theorem word1 (i : grid0.Coords) (c : Dev nD) : word (F := F) i c tb1 (pf 1) = BitVec.ofNat 32 (f1 (i 1).val) :=
  (congrArg (pf 1 : S96.Idx → BitVec 32) (emb_eq i _)).trans (H.h1 (vi i))
theorem word2 (i : grid0.Coords) (c : Dev nD) : word (F := F) i c tb2 (pf 2) = BitVec.ofNat 32 (f2 (i 1).val) :=
  (congrArg (pf 2 : S96.Idx → BitVec 32) (emb_eq i _)).trans (H.h2 (vi i))
theorem word3 (i : grid0.Coords) (c : Dev nD) : word (F := F) i c tb3 (pf 3) = BitVec.ofNat 32 (f3 (i 1).val) :=
  (congrArg (pf 3 : S96.Idx → BitVec 32) (emb_eq i _)).trans (H.h3 (vi i))

theorem at0 (i : grid0.Coords) (h) : pf.at 0 (Rect.unit (s := S96) (k0_off1 i) S1.size (k0_off1_inb i)) h = BitVec.ofNat 32 (f0 (i 1).val) :=
  (congrArg (pf 0 : S96.Idx → BitVec 32) (emb_eq i _)).trans (H.h0 (vi i))
theorem at1 (i : grid0.Coords) (h) : pf.at 1 (Rect.unit (s := S96) (k0_off1 i) S1.size (k0_off1_inb i)) h = BitVec.ofNat 32 (f1 (i 1).val) :=
  (congrArg (pf 1 : S96.Idx → BitVec 32) (emb_eq i _)).trans (H.h1 (vi i))

theorem toNat_small {n : Nat} (h : n < 2 ^ 32) : (BitVec.ofNat 32 n).toNat = n := by
  rw [BitVec.toNat_ofNat]; exact Nat.mod_eq_of_lt h

/-- The blocks' indices. -/
theorem tr0 (i : grid0.Coords) : cc0_transform_0 k0_off1_inb numel1_S1 pf i = ![f0 (i 1).val, 0] := by
  have h := H.b0 (i 1).val
  show ![(pf.at 0 (Rect.unit (s := S96) (k0_off1 i) S1.size (k0_off1_inb i)) numel1_S1 : BitVec 32).toNat, 0] = _
  rw [at0 H i numel1_S1, toNat_small H (by omega)]
theorem tr1 (i : grid0.Coords) : cc0_transform_1 k0_off1_inb numel1_S1 pf i = ![f0 (i 1).val, 0] := by
  have h := H.b0 (i 1).val
  show ![(pf.at 0 (Rect.unit (s := S96) (k0_off1 i) S1.size (k0_off1_inb i)) numel1_S1 : BitVec 32).toNat, 0] = _
  rw [at0 H i numel1_S1, toNat_small H (by omega)]
theorem tr2 (i : grid0.Coords) : cc0_transform_2 k0_off1_inb numel1_S1 pf i = ![f1 (i 1).val, 0, (i 0).val] := by
  have h := H.b1 (i 1).val
  have h' := coord0_lt i
  show ![(pf.at 1 (Rect.unit (s := S96) (k0_off1 i) S1.size (k0_off1_inb i)) numel1_S1 : BitVec 32).toNat, 0, (BitVec.ofNat 32 (i 0).val).toNat] = _
  rw [at1 H i numel1_S1, toNat_small H (by omega), toNat_small H (by omega)]
theorem tr5 (i : grid0.Coords) : cc0_transform_5 k0_off1_inb numel1_S1 pf i = ![f0 (i 1).val, (i 0).val] := by
  have h := H.b0 (i 1).val
  have h' := coord0_lt i
  show ![(pf.at 0 (Rect.unit (s := S96) (k0_off1 i) S1.size (k0_off1_inb i)) numel1_S1 : BitVec 32).toNat, (BitVec.ofNat 32 (i 0).val).toNat] = _
  rw [at0 H i numel1_S1, toNat_small H (by omega), toNat_small H (by omega)]

theorem blk0_in (i : grid0.Coords) (a) : (cc0_transform_0 k0_off1_inb numel1_S1 pf i a + 1) * S512x2816.size a ≤ S32768x2816.size a := by
  have h := H.b0 (i 1).val
  rw [tr0 H]
  fin_cases a
  · show (f0 (i 1).val + 1) * 512 ≤ 32768; omega
  · show (0 + 1) * 2816 ≤ 2816; omega
theorem blk1_in (i : grid0.Coords) (a) : (cc0_transform_1 k0_off1_inb numel1_S1 pf i a + 1) * S512x22.size a ≤ S32768x22.size a := by
  have h := H.b0 (i 1).val
  rw [tr1 H]
  fin_cases a
  · show (f0 (i 1).val + 1) * 512 ≤ 32768; omega
  · show (0 + 1) * 22 ≤ 22; omega
theorem blk2_in (i : grid0.Coords) (a) : (cc0_transform_2 k0_off1_inb numel1_S1 pf i a + 1) * S1x2816x512.size a ≤ S32x2816x5632.size a := by
  have h := H.b1 (i 1).val
  have h' := coord0_lt i
  rw [tr2 H]
  fin_cases a
  · show (f1 (i 1).val + 1) * 1 ≤ 32; omega
  · show (0 + 1) * 2816 ≤ 2816; omega
  · show ((i 0).val + 1) * 512 ≤ 5632; omega
theorem blk5_in (i : grid0.Coords) (a) : (cc0_transform_5 k0_off1_inb numel1_S1 pf i a + 1) * S512x256.size a ≤ S32768x2816.size a := by
  have h := H.b0 (i 1).val
  have h' := coord0_lt i
  rw [tr5 H]
  fin_cases a
  · show (f0 (i 1).val + 1) * 512 ≤ 32768; omega
  · show ((i 0).val + 1) * 256 ≤ 2816; omega

/-- The tables are admissible. -/
theorem ok_of_holds : ok0 pf := by
  refine ⟨fun i => ⟨blk0_in H i, .inr (.inl (.inr ⟨by decide, rfl, .inl ⟨?_, ?_⟩⟩))⟩, fun i => ⟨blk1_in H i, .inl rfl⟩,
    fun i => ⟨blk2_in H i, .inr (.inl (.inr ⟨by decide, rfl, .inl ⟨?_, ?_⟩⟩))⟩, fun i => ⟨blk5_in H i, .inr (.inl (.inr ⟨by decide, rfl, .inl ⟨?_, ?_⟩⟩))⟩⟩
  · show 4 ∣ cc0_transform_0 k0_off1_inb numel1_S1 pf i 0 * 512; omega
  · show 4 ∣ 512; omega
  · show 4 ∣ cc0_transform_2 k0_off1_inb numel1_S1 pf i 1 * 2816; omega
  · show 4 ∣ 2816; omega
  · show 4 ∣ cc0_transform_5 k0_off1_inb numel1_S1 pf i 0 * 512; omega
  · show 4 ∣ 512; omega

theorem off2_eq (i : grid0.Coords) (e r₁ r₂ : Nat) (he : e < 32) (h1 : r₁ < 22) (h2 : r₂ < 4) :
    k0_off2 i (BitVec.ofNat 32 e) (BitVec.ofNat 32 r₁) (BitVec.ofNat 32 r₂) = ![(e * 22 + r₁) * 44 + (i 0).val * 4 + r₂] := by
  have h' := coord0_lt i
  unfold k0_off2
  show ![((((BitVec.ofNat 32 e * 22#32) + BitVec.ofNat 32 r₁) * 44#32 + BitVec.ofNat 32 (i 0).val * 4#32) + BitVec.ofNat 32 r₂).toNat] = _
  congr 1
  simp only [BitVec.toNat_add, BitVec.toNat_mul, BitVec.toNat_ofNat]
  omega

theorem off3_eq (i : grid0.Coords) (e : Nat) (he : e < 32) : k0_off3 i (BitVec.ofNat 32 e) = ![e, (i 0).val * 512] := by
  have h' := coord0_lt i
  unfold k0_off3
  show ![(BitVec.ofNat 32 e).toNat, (BitVec.ofNat 32 (i 0).val * 512#32).toNat] = _
  simp only [BitVec.toNat_mul, BitVec.toNat_ofNat]
  congr 1
  · omega
  · congr 1; omega

theorem mult1_eq (b : Nat) (hb : b < 64) : (k0_mult1 (BitVec.ofNat 32 b)).toNat = b * 512 := by
  show (BitVec.ofNat 32 b * 512#32).toNat = _
  simp only [BitVec.toNat_mul, BitVec.toNat_ofNat]
  omega

theorem off5_eq (b : Nat) (hb : b < 64) : k0_off5 (BitVec.ofNat 32 b) = ![b * 512, 0] := by
  show ![(k0_mult1 (BitVec.ofNat 32 b)).toNat, 0] = _
  rw [mult1_eq H b hb]

/-- The body's assumption. -/
theorem chk_of_holds (c : Dev nD) (i : grid0.Coords) : Chk (F := F) i c (pf 0) (pf 1) (pf 2) (pf 3) := by
  have h := H.b0 (i 1).val
  have he := H.b1 (i 1).val
  have h' := coord0_lt i
  unfold Chk
  rw [word0 H, word1 H]
  refine ⟨fun _ r₁ r₂ a => ?_, fun _ a => ?_, fun _ => ?_, fun _ a => ?_⟩
  · have := r₁.isLt
    have := r₂.isLt
    rw [off2_eq H i _ _ _ he r₁.isLt r₂.isLt]
    fin_cases a
    show (f1 (i 1).val * 22 + r₁.val) * 44 + (i 0).val * 4 + r₂.val + 1 ≤ 30976; omega
  · rw [off3_eq H i _ he]
    fin_cases a
    · show f1 (i 1).val + 1 ≤ 32; omega
    · show (i 0).val * 512 + 512 ≤ 5632; omega
  · rw [mult1_eq H _ h]; exact ⟨_, Nat.mul_comm _ _⟩
  · rw [off5_eq H _ h]
    fin_cases a
    · show f0 (i 1).val * 512 + 512 ≤ 32768; omega
    · show 0 + 22 ≤ 22; omega
omit H

/-! ## The run -/

section Run

variable (m : (ℓ : Loc nD τ sig) → Buf (Elt F) ℓ)

/-- The groups' sizes. -/
def gs (c : Dev nD) : MoeTables.V32 := m ((c : Thread nD τ).loc main_arg5)
/-- The groups' sizes, as numbers. -/
def cn (c : Dev nD) : Nat → Nat := MoeTables.sizes (gs m c)

/-- The tables' contents the region reads. -/
def pfv (c : Dev nD) : pre0.Contents (Elt F) := fun k => V m c (pre0.ref k)

theorem holds (c : Dev nD) (hT : pre (cn m c) 32 = 32768) : Holds (pfv m c) (vt (cn m c)) (ex (cn m c)) (lo (cn m c)) (hi (cn m c)) where
  h0 v := (congrFun (V_vt m c) (ix1 v)).trans (MoeTables.vtT_ap _ _ (MoeTables.sizes_ap _) hT v)
  h1 v := (congrFun (V_ve m c) (ix1 v)).trans (MoeTables.exT_ap _ _ (MoeTables.sizes_ap _) hT v)
  h2 v := (congrFun (V_lo m c) (ix1 v)).trans (MoeTables.loT_ap _ _ (MoeTables.sizes_ap _) hT v)
  h3 v := (congrFun (V_hi m c) (ix1 v)).trans (MoeTables.hiT_ap _ _ (MoeTables.sizes_ap _) hT v)
  b0 v := vt_lt _ hT v
  b1 v := ex_lt _ v

variable (hT : ∀ c : Dev nD, pre (cn m c) 32 = 32768)
include hT

/-- The one core's tables, admissible. -/
def adm : (pcfg0 (F := F)).Adm := ⟨pfv m 0, ok_of_holds (holds m 0 (hT 0))⟩

omit hT in
theorem chk_at (a : (pcfg0 (F := F)).Adm) {pf : pre0.Contents (Elt F)} (e : a.1 = pf) (h : ∀ c i, Chk (F := F) i c (pf 0) (pf 1) (pf 2) (pf 3)) : ChkAll a := by
  subst e; exact h

theorem hck : ChkAll (adm m hT) := chk_at _ (pf := pfv m 0) rfl fun c i => chk_of_holds (holds m 0 (hT 0)) c i

/-- The launch's proof data. -/
abbrev rd (c : Dev nD) : RDat τ (Elt F) Unit ℕ (UR sig nD τ) ℕ (cfg0 (adm m hT)) c := rdat (adm m hT) (hck m hT) (V m) c

omit hT in
theorem hmain : Pipeline.HMainP (Ix := Unit) (Name := ℕ) (U := UR sig nD τ) (Lvl := ℕ) (pcfgs (F := F)) 0 (defs₀ (F := F)) Variants.none m (main (F := F)) (V m) :=
  Pipeline.hmainP_prefixes (pcfgs (F := F)) 0 defs₀ Variants.none m main hostOpss
    (by unfold hostOpss; simp only [List.Forall]
        exact ⟨hostOps0_sub, hostOps0_1_sub, hostOps0_2_sub, hostOps0_3_sub, hostOps0_4_sub, hostOps0_5_sub, hostOps0_6_sub, hostOps0_7_sub, hostOps0_8_sub, hostOps0_9_sub,
          hostOps0_10_sub, hostOps0_11_sub, hostOps0_12_sub, hostOps0_13_sub, hostOps0_14_sub⟩)
    (by unfold hostOpss; simp only [List.Forall]; repeat' constructor)
    main_chain

set_option backward.isDefEq.respectTransparency.types false in
set_option maxHeartbeats 800000 in
theorem run_main (ρ : Dev nD → PrngReg) : θ_run (defs (F := F)) (onTc (τ := τ) (main (F := F))) ⟨m, fun _ => 0, ρ⟩
    (fun r => RDat.FramePost (cfg0 (adm m hT)) (rd m hT) (V m) r ∧ r.2.sem = fun _ => 0) :=
  RDat.θ_run_frameP (pcfgs (F := F)) (fun _ => adm m hT) 0 launch0 defs₀ Variants.none (rd m hT) m ρ main
    (hbody := fun c => sound_body (adm m hT) (hck m hT) (V m) c)
    (hshare := fun c => (rd m hT c).share_full fun _ => rfl)
    (howed := fun _ _ => rfl) (V := V m) (hmain := hmain m)
    (hA := fun _ _ => rfl)
    (hpf := fun c k => by have : c = 0 := Subsingleton.elim _ _; subst this; rfl)
    (hΦ := fun _ _ => rfl) (Q' := _) (hQ' := fun _ h => h)

end Run

end Cert.Kernel.Hand
-- ==== Proof.PFrame.lean ====
/-
  The program runs: it ends, leaves its arguments as they were and every semaphore at zero.
-/
module

public import proofs.«01_k».proof.Proof.PLaunch

@[expose] public section

set_option synthInstance.maxSize 4096

noncomputable section

namespace Cert.Kernel.Hand

open Cert.Kernel Cert.Kernel.Gen
open Idealize.ShloMosaic Idealize.ShloMosaic.TcCoe
open Idealize.ShloMosaic.Pipeline (RDat)
open Idealize.SL.Sem
open MoeVisits

variable {F : FTy → Type} [FloatOps F] (m : (ℓ : Loc nD τ sig) → Buf (Elt F) ℓ) (hT : ∀ c : Dev nD, pre (cn m c) 32 = 32768)

/-- What a final state leaves of the arguments. -/
theorem args_of_post (r) (h : RDat.FramePost (cfg0 (adm m hT)) (rd m hT) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans (V_arg0 m c), (RDat.FramePost.arr_in h c 1 rfl).trans (V_arg1 m c),
    (RDat.FramePost.arr_in h c 2 rfl).trans (V_arg2 m c),
    ((h c).2 main_arg3 (Pipeline.mem_restRefs_of main_arg3 (by decide) (show ∀ w : Fin 7, (spec0 w).arr.view.ref ≠ main_arg3 by decide))).trans (V_arg3 m c),
    (RDat.FramePost.arr_in h c 4 rfl).trans (V_arg4 m c),
    ((h c).2 main_arg5 (Pipeline.mem_restRefs_of main_arg5 (by decide) (show ∀ w : Fin 7, (spec0 w).arr.view.ref ≠ main_arg5 by decide))).trans (V_arg5 m c)⟩

include hT in
theorem quiescent (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of_post m hT r h.1 c, h.2⟩) (run_main m hT ρ)

end Cert.Kernel.Hand
-- ==== Proof.Pre.lean ====
/-
  What the precondition says of the groups' sizes: they sum to the number of rows.
-/
module

public import proofs.«01_k».proof.Proof.Tables
public import proofs.«01_k».proof.Proof.Gen.Pre_sizes_ok
public import Idealize.ShloMosaic.Lib.ReduceAll
public import Idealize.ShloMosaic.Lib.StableHlo.Predicate

@[expose] public section

noncomputable section

namespace MoeTables

open Idealize.ShloMosaic Idealize.ShloMosaic.ValueIdx MoeVisits

variable {F : FTy → Type} [FloatOps F]

theorem and_one {a b : BitVec 1} (h : IntOp.andi a b = 1#1) : a = 1#1 ∧ b = 1#1 := by
  revert h; revert a b; decide

theorem one_of_bool {p : Bool} (h : BitVec.ofBool p = 1#1) : p = true := by
  cases p
  · exact absurd h (by decide)
  · rfl

theorem sum_of_pre [Cert.Pre_sizes_ok.Facts] (a0 : FVec F Cert.Pre_sizes_ok.S32768x2816 .fp8e4m3) (a1 : FVec F Cert.Pre_sizes_ok.S32768x22 .f32)
    (a2 : FVec F Cert.Pre_sizes_ok.S32x2816x5632 .fp8e4m3) (a3 : FVec F Cert.Pre_sizes_ok.S32x22x44 .f32) (a4 : FVec F Cert.Pre_sizes_ok.S32x5632 .f32)
    (x : V32) (h : Cert.Pre_sizes_ok.fn (F := F) a0 a1 a2 a3 a4 x = fun _ => 1#1) : pre (sizes x) 32 = 32768 := by
  have h0 := congrFun h ix0
  obtain ⟨h12, h3⟩ := and_one (show IntOp.andi _ _ = 1#1 from h0)
  obtain ⟨h1, h2⟩ := and_one (show IntOp.andi _ _ = 1#1 from h12)
  haveI : Subsingleton Cert.Pre_sizes_ok.S_.Idx := ⟨fun a b => funext fun k => k.elim0⟩
  have g1 := fun e : Fin 32 => Host.reduce_andi_all _ _ _ _ _ h1 (ix1 e)
  have g2 := fun e : Fin 32 => Host.reduce_andi_all _ _ _ _ _ h2 (ix1 e)
  refine sizes_sum x (fun e => ⟨?_, ?_⟩) ?_
  · have := one_of_bool (show BitVec.ofBool (BitVec.sle 0#32 (x (ix1 e))) = 1#1 from g1 e)
    rw [BitVec.sle_eq_decide] at this
    simpa using this
  · have := one_of_bool (show BitVec.ofBool (BitVec.sle (x (ix1 e)) 32768#32) = 1#1 from g2 e)
    rw [BitVec.sle_eq_decide] at this
    simpa using this
  · have e := StableHlo.Predicate.cmpi_eq_iff.1 (show IntOp.cmpi .eq _ _ = 1#1 from h3)
    exact (Routing.reduce_sum x (sizes x) (sizes_ap x) _ _).symm.trans e

end MoeTables
-- ==== Proof.KDot.lean ====
module

public import proofs.«01_k».proof.Proof.KBody

/-!
The product of a live visit: the scaled tile of rows times the scaled block of weights, as two concatenations of equal
pieces.
-/

@[expose] public section

set_option synthInstance.maxSize 4096

noncomputable section

namespace Cert.KernelIdeal.Hand

open Cert.KernelIdeal Cert.KernelIdeal.Gen
open Idealize.ShloMosaic Idealize.ShloMosaic.TcCoe

variable {F : FTy → Type} [FloatOps F]

section Dot

variable (c : Dev nD) (i : grid0.Coords)
    (arg6 : Memref sig .tc .vmem S512x2816 .fp8e4m3) (arg7 : Memref sig .tc .vmem S512x22 .f32)
    (arg8 : Memref sig .tc .vmem S1x2816x512 .fp8e4m3) (arg9 : Memref sig .tc .smem S30976 .f32)
    (ft0 : Buf (Elt F) (tb0.view.loc (c : Thread nD τ))) (ft1 : Buf (Elt F) (tb1.view.loc (c : Thread nD τ)))
    (ft2 : Buf (Elt F) (tb2.view.loc (c : Thread nD τ))) (ft3 : Buf (Elt F) (tb3.view.loc (c : Thread nD τ)))
    (f6 : BufTy.Contents (Elt F) arg6.view.ty) (f7 : BufTy.Contents (Elt F) arg7.view.ty) (f8 : BufTy.Contents (Elt F) arg8.view.ty)
    (f9 : BufTy.Contents (Elt F) arg9.view.ty)
    (hchk : Chk i c ft0 ft1 ft2 ft3) (hc2 : Live i c ft2 ft3)

theorem inb_xs (r : Fin 22) : ∀ a, (![0, r.val] : Fin 2 → Nat) a + S512x1.size a ≤ S512x22.size a := by
  revert r; decide
theorem inb_xc (r : Fin 22) : ∀ a, (![0, 128 * r.val] : Fin 2 → Nat) a + S512x128.size a ≤ S512x2816.size a := by
  revert r; decide
theorem inb_wc (r : Fin 22) (q : Fin 4) : ∀ a, (![0, 128 * r.val, 128 * q.val] : Fin 3 → Nat) a + S1x128x128.size a ≤ S1x2816x512.size a := by
  revert r q; decide

/-- A piece of the scaled rows: 128 columns under one scale each row. -/
def xP (r : Fin 22) : FVec F S512x128 .bf16 :=
  k0_pay3 (View.readAt (Elt F) arg7.view (Rect.unit (s := S512x22) ![0, r.val] S512x1.size (inb_xs r)).toLoadRect f7)
    (View.readAt (Elt F) arg6.view (Rect.unit (s := S512x2816) ![0, 128 * r.val] S512x128.size (inb_xc r)).toLoadRect f6)

/-- A block of the scaled weights: 128 by 128 under one scale. -/
def wP (r : Fin 22) (q : Fin 4) : FVec F S128x128 .bf16 :=
  k0_pay4 (View.readAt (Elt F) arg9.view (Rect.unit (s := S30976) (k0_off2 i (word i c tb1 ft1) (BitVec.ofNat 32 r.val) (BitVec.ofNat 32 q.val)) S1.size
      (hchk.1 hc2 r q)).toLoadRect f9 (Shape.Idx.first (by show 0 < S1.numel; rw [numel1_S1]; decide)))
    (View.readAt (Elt F) arg8.view (Rect.unit (s := S1x2816x512) ![0, 128 * r.val, 128 * q.val] S1x128x128.size (inb_wc r q)).toLoadRect f8)

/-- Four blocks side by side. -/
def wR (r : Fin 22) : FVec F S128x512 .bf16 :=
  concatenate S128x512 1 (List.ofFn fun q : Fin 4 => ⟨S128x128, wP c i arg8 arg9 ft0 ft1 ft2 ft3 f8 f9 hchk hc2 r q⟩)
    concatenates_S128x128_S128x128_S128x128_S128x128_S128x512_d1

/-- The scaled rows. -/
def xM : FVec F S512x2816 .bf16 :=
  concatenate S512x2816 1 (List.ofFn fun r : Fin 22 => ⟨S512x128, xP arg6 arg7 f6 f7 r⟩)
    concatenates_S512x128_S512x128_S512x128_S512x128_S512x128_S512x128_S512x128_S512x128_S512x128_S512x128_S512x128_S512x128_S512x128_S512x128_S512x128_S512x128_S512x128_S512x128_S512x128_S512x128_S512x128_S512x128_S512x2816_d1

/-- The scaled weights. -/
def wM : FVec F S2816x512 .bf16 :=
  concatenate S2816x512 0 (List.ofFn fun r : Fin 22 => ⟨S128x512, wR c i arg8 arg9 ft0 ft1 ft2 ft3 f8 f9 hchk hc2 r⟩)
    concatenates_S128x512_S128x512_S128x512_S128x512_S128x512_S128x512_S128x512_S128x512_S128x512_S128x512_S128x512_S128x512_S128x512_S128x512_S128x512_S128x512_S128x512_S128x512_S128x512_S128x512_S128x512_S128x512_S2816x512_d0

theorem dot_eq : runPos.sl.v1404 c i arg6 arg7 arg8 arg9 ft0 ft1 ft2 ft3 f6 f7 f8 f9 hchk hc2
    = matmul dot_S512x2816_S2816x512_S512x512_1_0_0_1_n_n none (xM arg6 arg7 f6 f7)
      (wM c i arg8 arg9 ft0 ft1 ft2 ft3 f8 f9 hchk hc2) (constant S512x512 .f32 0x00000000#32) := by
  rfl

end Dot

end Cert.KernelIdeal.Hand
-- ==== Proof.Spec.lean ====
module

public import Idealize.ShloMosaic.PureOps.Ideal
public import Idealize.ShloMosaic.PureOps.Ideal.Laws

/-!
The quantized gated activation on extended reals: what both programs compute of one row's 128 neighbouring pairs.
-/

@[expose] public section

noncomputable section

namespace MoeSpec

open Idealize.ShloMosaic

/-- The number a 32-bit pattern denotes. -/
abbrev K (b : BitVec 32) : EReal := Ideal.ofBits .f32 b

/-- The gated activation of a pair. -/
def act (g u : EReal) : EReal :=
  ((min (K 0x40E00000#32) (max (K 0xC0E00000#32) u) + K 0x3F800000#32) * min g (K 0x40E00000#32))
    * Ideal.logistic (K 0x3FD9DB23#32 * min g (K 0x40E00000#32))

/-- The largest magnitude of a group. -/
def top (h : Fin 128 → EReal) : EReal := Finset.univ.fold max (K 0xFF800000#32) fun l => max (h l) (-(h l))

/-- The largest magnitude over 448. -/
def lev (h : Fin 128 → EReal) : EReal := top h * K 0x3B124925#32

/-- One step of the search for the exponent field: a bit is kept when the number stays at most `y`. -/
def bitStep (y : EReal) (e b : BitVec 32) : BitVec 32 := Scalar.select (Ideal.cmp .oge y (K (e + b))) (e + b) e

/-- The exponent field's bits, from the highest. -/
def expBits : List (BitVec 32) :=
  [1073741824#32, 536870912#32, 268435456#32, 134217728#32, 67108864#32, 33554432#32, 16777216#32, 8388608#32]

/-- The exponent field found for `y`. -/
def eb (y : EReal) : BitVec 32 := expBits.foldl (bitStep y) 0#32

/-- The search ended at an end of the range. -/
def plain (e : BitVec 32) : BitVec 1 := IntOp.ori (IntOp.cmpi .eq e 0#32) (IntOp.cmpi .eq e 2139095040#32)

/-- The scale of an exponent field: the power of two above. -/
def kscale (e : BitVec 32) : EReal := Scalar.select (plain e) (K 0x3F800000#32) (K (e + 8388608#32))

/-- Its reciprocal. -/
def kinv (e : BitVec 32) : EReal := Scalar.select (plain e) (K 0x3F800000#32) (K (2122317824#32 - e))

/-- A number clipped to the code's range. -/
def clip (x : EReal) : EReal := min (K 0x43E00000#32) (max (K 0xC3E00000#32) x)

/-- The inputs, as numbers. -/
structure In where
  /-- the rows' codes -/
  x : Fin 32768 → Fin 2816 → EReal
  /-- the rows' scales, one for each 128 codes -/
  xs : Fin 32768 → Fin 22 → EReal
  /-- the experts' weights' codes -/
  w : Fin 32 → Fin 2816 → Fin 5632 → EReal
  /-- the weights' scales, one for each 128 by 128 codes -/
  ws : Fin 32 → Fin 22 → Fin 44 → EReal
  /-- the experts' biases -/
  b : Fin 32 → Fin 5632 → EReal

/-- A row's product with an expert's weights, with the bias. -/
def In.lin (I : In) (r : Fin 32768) (e : Fin 32) (q : Fin 5632) : EReal :=
  (K 0#32 + ∑ k : Fin 2816, (I.x r k * I.xs r ⟨k.val / 128, by omega⟩) * (I.w e k q * I.ws e ⟨k.val / 128, by omega⟩ ⟨q.val / 128, by omega⟩)) + I.b e q

/-- A row's activations, one group of 128. -/
def In.grp (I : In) (r : Fin 32768) (e : Fin 32) (g : Fin 22) : Fin 128 → EReal :=
  fun l => act (I.lin r e ⟨256 * g.val + 2 * l.val, by omega⟩) (I.lin r e ⟨256 * g.val + 2 * l.val + 1, by omega⟩)

/-- A row's scale for a group. -/
def In.scl (I : In) (r : Fin 32768) (e : Fin 32) (g : Fin 22) : EReal := kscale (eb (lev (I.grp r e g)))

/-- A row's codes. -/
def In.code (I : In) (r : Fin 32768) (e : Fin 32) (c : Fin 2816) : EReal :=
  clip (I.grp r e ⟨c.val / 128, by omega⟩ ⟨c.val % 128, Nat.mod_lt _ (by decide)⟩ * kinv (eb (lev (I.grp r e ⟨c.val / 128, by omega⟩))))

theorem top_perm (h : Fin 128 → EReal) (e : Fin 128 ≃ Fin 128) : top (fun l => h (e l)) = top h := by
  unfold top
  conv_rhs => rw [show (Finset.univ : Finset (Fin 128)) = Finset.univ.map e.toEmbedding by simp, Finset.fold_map]
  rfl

end MoeSpec
-- ==== Proof.KTile.lean ====
module

public import proofs.«01_k».proof.Proof.KDot
public import proofs.«01_k».proof.Proof.Spec

/-!
What a live visit stores, in terms of the visit's product: per group of 256 columns, the gated activation of its
neighbouring pairs, the group's scale, and the codes.
-/

@[expose] public section

set_option synthInstance.maxSize 4096

noncomputable section

namespace Cert.KernelIdeal.Hand

open Cert.KernelIdeal Cert.KernelIdeal.Gen
open Idealize.ShloMosaic Idealize.ShloMosaic.TcCoe

variable {F : FTy → Type} [FloatOps F]

/-- The first 256 columns of a product, with the bias. -/
def grp0 (D : FVec F S512x512 .f32) (B : Vec F S1x512 .f32) : FVec F S512x256 .f32 :=
  addf (extractStridedSlice S512x256 ![0, 0] D slices_S512x512_o0_0_S512x256)
    (broadcastTo S512x256 (extractStridedSlice S1x256 ![0, 0] B slices_S1x512_o0_0_S1x256) broadcasts_S1x256_S512x256)

/-- The other 256 columns. -/
def grp1 (D : FVec F S512x512 .f32) (B : Vec F S1x512 .f32) : FVec F S512x256 .f32 :=
  addf (extractStridedSlice S512x256 ![0, 256] D slices_S512x512_o0_256_S512x256)
    (broadcastTo S512x256 (extractStridedSlice S1x256 ![0, 256] B slices_S1x512_o0_256_S1x256) broadcasts_S1x256_S512x256)

/-- The lower and the upper half of a group. -/
def halfA (G : FVec F S512x256 .f32) : FVec F S512x128 .f32 := extractStridedSlice S512x128 ![0, 0] G slices_S512x256_o0_0_S512x128
def halfB (G : FVec F S512x256 .f32) : FVec F S512x128 .f32 := extractStridedSlice S512x128 ![0, 128] G slices_S512x256_o0_128_S512x128

/-- The gated activation of a group, a pair to a lane: the pairs of the lower half in the even lanes, of the upper half in the odd. -/
def actG (G : FVec F S512x256 .f32) : FVec F S512x128 .f32 :=
  k0_pay117 (halfA G) (halfB G) k0_pay115 (dynamicRotate 1 1#32 none (halfB G) rotates_S512x128_d1)

/-- The largest magnitude of each row over 448. -/
def levG (h : FVec F S512x128 .f32) : FVec F S512x1 .f32 :=
  mulf (shapeCast S512x1 (multiReduction .maximumf [1] S512 (absf h) 0xFF800000#32 reduces_S512x128_S512 (.inl rfl) rfl) shapeCasts_S512_S512x1)
    (broadcast S512x1 (Scalar.ofBits .f32 0x3B124925#32))

/-- One step of the exponent's search. -/
def stepG (y : FVec F S512x1 .f32) (e : IVec S512x1 32) (b : BitVec 32) : IVec S512x1 32 :=
  select (cmpf .oge y (bitcastToFloat .f32 (addi e (broadcast S512x1 b)))) (addi e (broadcast S512x1 b)) e

/-- The exponent fields. -/
def ebG (y : FVec F S512x1 .f32) : IVec S512x1 32 := MoeSpec.expBits.foldl (stepG y) (broadcast S512x1 0#32)

/-- Which rows take the scale one. -/
def plainG (e : IVec S512x1 32) : IVec S512x1 1 :=
  ori (cmpi .eq e (broadcast S512x1 0#32)) (cmpi .eq e (broadcast S512x1 2139095040#32))

/-- The rows' scales. -/
def scaleG (e : IVec S512x1 32) : FVec F S512x1 .f32 :=
  select (plainG e) (broadcast S512x1 (Scalar.ofBits .f32 0x3F800000#32)) (bitcastToFloat .f32 (addi e (broadcast S512x1 8388608#32)))

/-- The rows' scales' reciprocals. -/
def invG (e : IVec S512x1 32) : FVec F S512x1 .f32 :=
  select (plainG e) (broadcast S512x1 (Scalar.ofBits .f32 0x3F800000#32)) (bitcastToFloat .f32 (subi (broadcast S512x1 2122317824#32) e))

/-- The clipped quotients. -/
def quantG (h : FVec F S512x128 .f32) (e : IVec S512x1 32) : FVec F S512x128 .f32 :=
  minimumf (broadcast S512x128 (Scalar.ofBits .f32 0x43E00000#32))
    (maximumf (broadcast S512x128 (Scalar.ofBits .f32 0xC3E00000#32))
      (mulf h (broadcastTo S512x128 (invG e) broadcasts_S512x1_S512x128)))

/-- The codes: put back into the pairs' order, in the covered rows. -/
def codeG (mask : IVec S512x128 1) (q : FVec F S512x128 .f32) (old : Vec F S512x128 .fp8e4m3) : FVec F S512x128 .fp8e4m3 :=
  k0_pay128 mask q k0_pay127 old

/-- The scales' rows: one column set, in the covered rows. -/
def colG (n : BitVec 32) (mask : IVec S512x128 1) (s : FVec F S512x1 .f32) (old : Vec F S512x22 .f32) : FVec F S512x22 .f32 :=
  select (extractStridedSlice S512x22 ![0, 0] (andi mask (cmpi .eq (iota .tc S512x128 32 [1] iota_S512x128_d1_w32) (broadcast S512x128 n))) slices_S512x128_o0_0_S512x22)
    (broadcastTo S512x22 (shapeCast S512x1 s shapeCasts_S512x1_S512x1) broadcasts_S512x1_S512x22)
    (shapeCast S512x22 old shapeCasts_S512x22_S512x22)

section Tile

variable (c : Dev nD) (i : grid0.Coords)
    (arg6 : Memref sig .tc .vmem S512x2816 .fp8e4m3) (harg6 : arg6.IsWhole) (arg7 : Memref sig .tc .vmem S512x22 .f32) (harg7 : arg7.IsWhole)
    (arg8 : Memref sig .tc .vmem S1x2816x512 .fp8e4m3) (harg8 : arg8.IsWhole) (arg9 : Memref sig .tc .smem S30976 .f32) (harg9 : arg9.IsWhole)
    (arg10 : Memref sig .tc .vmem S32x5632 .f32) (harg10 : arg10.IsWhole) (arg11 : Memref sig .tc .vmem S512x256 .fp8e4m3) (harg11 : arg11.IsWhole)
    (arg12 : Memref sig .tc .vmem S32768x22 .f32) (harg12 : arg12.IsWhole)
    (ft0 : Buf (Elt F) (tb0.view.loc (c : Thread nD τ))) (ft1 : Buf (Elt F) (tb1.view.loc (c : Thread nD τ)))
    (ft2 : Buf (Elt F) (tb2.view.loc (c : Thread nD τ))) (ft3 : Buf (Elt F) (tb3.view.loc (c : Thread nD τ)))
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (f11 : BufTy.Contents (Elt F) arg11.view.ty) (f12 : BufTy.Contents (Elt F) arg12.view.ty)
    (hchk : Chk i c ft0 ft1 ft2 ft3) (hc2 : Live i c ft2 ft3)

/-- The visit's product. -/
def dotM : FVec F S512x512 .f32 :=
  matmul dot_S512x2816_S2816x512_S512x512_1_0_0_1_n_n none (xM arg6 arg7 f6 f7)
      (wM c i arg8 arg9 ft0 ft1 ft2 ft3 f8 f9 hchk hc2) (constant S512x512 .f32 0x00000000#32)

/-- The visit's bias row. -/
def biasM : Vec F S1x512 .f32 :=
  View.readAt (Elt F) arg10.view (Rect.unit (s := S32x5632) (k0_off3 i (word i c tb1 ft1)) S1x512.size (hchk.2.1 hc2)).toLoadRect f10

/-- The rows the visit covers. -/
def maskM : IVec S512x128 1   := k0_pay111 (F := F) (word i c tb0 ft0) (word i c tb2 ft2) (word i c tb3 ft3)

theorem v1452_eq : runPos.sl.v1452 c i arg6 arg7 arg8 arg9 arg10 ft0 ft1 ft2 ft3 f6 f7 f8 f9 f10 hchk hc2
    = actG (grp0 (dotM c i arg6 arg7 arg8 arg9 ft0 ft1 ft2 ft3 f6 f7 f8 f9 hchk hc2) (biasM c i arg10 ft0 ft1 ft2 ft3 f10 hchk hc2)) := by
  rfl

theorem v1586_eq : runPos.sl.v1586 c i arg6 arg7 arg8 arg9 arg10 ft0 ft1 ft2 ft3 f6 f7 f8 f9 f10 hchk hc2
    = actG (grp1 (dotM c i arg6 arg7 arg8 arg9 ft0 ft1 ft2 ft3 f6 f7 f8 f9 hchk hc2) (biasM c i arg10 ft0 ft1 ft2 ft3 f10 hchk hc2)) := by
  rfl

theorem v1518_eq : runPos.sl.v1518 c i arg6 arg7 arg8 arg9 arg10 ft0 ft1 ft2 ft3 f6 f7 f8 f9 f10 hchk hc2
    = quantG (runPos.sl.v1452 c i arg6 arg7 arg8 arg9 arg10 ft0 ft1 ft2 ft3 f6 f7 f8 f9 f10 hchk hc2)
      (ebG (levG (runPos.sl.v1452 c i arg6 arg7 arg8 arg9 arg10 ft0 ft1 ft2 ft3 f6 f7 f8 f9 f10 hchk hc2))) := by
  rfl

theorem v1652_eq : runPos.sl.v1652 c i arg6 arg7 arg8 arg9 arg10 ft0 ft1 ft2 ft3 f6 f7 f8 f9 f10 hchk hc2
    = quantG (runPos.sl.v1586 c i arg6 arg7 arg8 arg9 arg10 ft0 ft1 ft2 ft3 f6 f7 f8 f9 f10 hchk hc2)
      (ebG (levG (runPos.sl.v1586 c i arg6 arg7 arg8 arg9 arg10 ft0 ft1 ft2 ft3 f6 f7 f8 f9 f10 hchk hc2))) := by
  rfl

theorem v1508_eq : runPos.sl.v1508 c i arg6 arg7 arg8 arg9 arg10 ft0 ft1 ft2 ft3 f6 f7 f8 f9 f10 hchk hc2
    = scaleG (ebG (levG (runPos.sl.v1452 c i arg6 arg7 arg8 arg9 arg10 ft0 ft1 ft2 ft3 f6 f7 f8 f9 f10 hchk hc2))) := by
  rfl

theorem v1642_eq : runPos.sl.v1642 c i arg6 arg7 arg8 arg9 arg10 ft0 ft1 ft2 ft3 f6 f7 f8 f9 f10 hchk hc2
    = scaleG (ebG (levG (runPos.sl.v1586 c i arg6 arg7 arg8 arg9 arg10 ft0 ft1 ft2 ft3 f6 f7 f8 f9 f10 hchk hc2))) := by
  rfl

/-- What a live visit leaves of the codes' block. -/
theorem out11_eq : (runPos c i arg6 harg6 arg7 harg7 arg8 harg8 arg9 harg9 arg10 harg10 arg11 harg11 arg12 harg12 ft0 ft1 ft2 ft3
      f6 f7 f8 f9 f10 f11 f12 hchk hc2).1.1
    = arg11.view.writes (Elt F) f11
      [⟨Rect.unit (s := S512x256) ![0, 128] S512x128.size inb_S512x256_S512x128_0_128,
          codeG (maskM c i ft0 ft2 ft3) (runPos.sl.v1652 c i arg6 arg7 arg8 arg9 arg10 ft0 ft1 ft2 ft3 f6 f7 f8 f9 f10 hchk hc2)
            (View.readAt (Elt F) arg11.view (Rect.unit (s := S512x256) ![0, 128] S512x128.size inb_S512x256_S512x128_0_128).toLoadRect f11)⟩,
        ⟨Rect.unit (s := S512x256) ![0, 0] S512x128.size inb_S512x256_S512x128_0_0,
          codeG (maskM c i ft0 ft2 ft3) (runPos.sl.v1518 c i arg6 arg7 arg8 arg9 arg10 ft0 ft1 ft2 ft3 f6 f7 f8 f9 f10 hchk hc2)
            (View.readAt (Elt F) arg11.view (Rect.unit (s := S512x256) ![0, 0] S512x128.size inb_S512x256_S512x128_0_0).toLoadRect f11)⟩] := by
  rfl

/-- The scales before a visit's stores: zeroed at the first point. -/
def first12 : BufTy.Contents (Elt F) arg12.view.ty :=
  if _ : k0_cond1 i = 1#1 then
    arg12.view.writes (Elt F) f12 [⟨Rect.unit (s := S32768x22) ![0, 0] S32768x22.size inb_S32768x22_S32768x22_0_0, k0_pay1⟩]
  else f12

/-- The scales after a visit's first store. -/
def mid12 : BufTy.Contents (Elt F) arg12.view.ty :=
  arg12.view.writes (Elt F) (first12 i arg12 f12)
    [⟨Rect.unit (s := S32768x22) (k0_off5 (word i c tb0 ft0)) S512x22.size (hchk.2.2.2 hc2),
      colG (BitVec.ofNat 32 (i 0).val * 2#32 + 0#32) (maskM c i ft0 ft2 ft3)
        (scaleG (ebG (levG (runPos.sl.v1452 c i arg6 arg7 arg8 arg9 arg10 ft0 ft1 ft2 ft3 f6 f7 f8 f9 f10 hchk hc2))))
        (View.readAt (Elt F) arg12.view (Rect.unit (s := S32768x22) (k0_off5 (word i c tb0 ft0)) S512x22.size (hchk.2.2.2 hc2)).toLoadRect
          (first12 i arg12 f12))⟩]

/-- What a live visit leaves of the scales. -/
theorem out12_eq : (runPos c i arg6 harg6 arg7 harg7 arg8 harg8 arg9 harg9 arg10 harg10 arg11 harg11 arg12 harg12 ft0 ft1 ft2 ft3
      f6 f7 f8 f9 f10 f11 f12 hchk hc2).1.2
    = arg12.view.writes (Elt F) (first12 i arg12 f12)
    [⟨Rect.unit (s := S32768x22) (k0_off5 (word i c tb0 ft0)) S512x22.size (hchk.2.2.2 hc2),
      colG (BitVec.ofNat 32 (i 0).val * 2#32 + 1#32) (maskM c i ft0 ft2 ft3)
        (scaleG (ebG (levG (runPos.sl.v1586 c i arg6 arg7 arg8 arg9 arg10 ft0 ft1 ft2 ft3 f6 f7 f8 f9 f10 hchk hc2))))
        (View.readAt (Elt F) arg12.view (Rect.unit (s := S32768x22) (k0_off5 (word i c tb0 ft0)) S512x22.size (hchk.2.2.2 hc2)).toLoadRect
          (mid12 c i arg6 arg7 arg8 arg9 arg10 arg12 ft0 ft1 ft2 ft3 f6 f7 f8 f9 f10 f12 hchk hc2))⟩,
     ⟨Rect.unit (s := S32768x22) (k0_off5 (word i c tb0 ft0)) S512x22.size (hchk.2.2.2 hc2),
      colG (BitVec.ofNat 32 (i 0).val * 2#32 + 0#32) (maskM c i ft0 ft2 ft3)
        (scaleG (ebG (levG (runPos.sl.v1452 c i arg6 arg7 arg8 arg9 arg10 ft0 ft1 ft2 ft3 f6 f7 f8 f9 f10 hchk hc2))))
        (View.readAt (Elt F) arg12.view (Rect.unit (s := S32768x22) (k0_off5 (word i c tb0 ft0)) S512x22.size (hchk.2.2.2 hc2)).toLoadRect
          (first12 i arg12 f12))⟩] := by
  rfl

omit harg6 in
/-- A dead visit leaves the codes. -/
theorem dead11_eq (harg6 : arg6.IsWhole) (hc2 : ¬ Live i c ft2 ft3) : (runNeg c i arg6 harg6 arg7 harg7 arg8 harg8 arg9 harg9 arg10 harg10 arg11 harg11 arg12 harg12 ft0 ft1 ft2 ft3
      f6 f7 f8 f9 f10 f11 f12 hchk hc2).1.1 = f11 := by
  rfl

omit harg6 in
theorem dead12_eq (harg6 : arg6.IsWhole) (hc2 : ¬ Live i c ft2 ft3) : (runNeg c i arg6 harg6 arg7 harg7 arg8 harg8 arg9 harg9 arg10 harg10 arg11 harg11 arg12 harg12 ft0 ft1 ft2 ft3
      f6 f7 f8 f9 f10 f11 f12 hchk hc2).1.2 = first12 i arg12 f12 := by
  rfl

end Tile

end Cert.KernelIdeal.Hand
-- ==== Proof.KPoint.lean ====
module

public import proofs.«01_k».proof.Proof.KTile
public import proofs.«01_k».proof.Proof.KLaunch
public import proofs.«01_k».proof.Proof.Spec
public import Idealize.ShloMosaic.Lib.MatmulPlain
public import Idealize.ShloMosaic.Lib.Pipeline.Value
public import Idealize.ShloMosaic.Lib.KernelVsHost

/-!
The visit's stores on extended reals, entry by entry.
-/

@[expose] public section

set_option synthInstance.maxSize 4096

noncomputable section

namespace Cert.KernelIdeal.Hand

open Cert.KernelIdeal Cert.KernelIdeal.Gen
open Idealize.ShloMosaic Idealize.ShloMosaic.TcCoe
open MoeSpec Idealize.ShloMosaic.ValueIdx

theorem halfA_ap (G : FVec Ideal S512x256 .f32) (p : Fin 512) (l : Fin 128) : halfA G (ix2 p l) = G (ix2 p ⟨l.val, by omega⟩) :=
  extractStridedSlice_apply _ _ _ _ _ fun a => by fin_cases a <;> simp [ix2]
theorem halfB_ap (G : FVec Ideal S512x256 .f32) (p : Fin 512) (l : Fin 128) : halfB G (ix2 p l) = G (ix2 p ⟨128 + l.val, by omega⟩) :=
  extractStridedSlice_apply _ _ _ _ _ fun a => by fin_cases a <;> simp [ix2]

theorem lane_ap (p : Fin 512) (l : Fin 128) : iota .tc S512x128 32 [1] iota_S512x128_d1_w32 (ix2 p l) = BitVec.ofNat 32 l.val := by
  show BitVec.ofNat 32 (0 * 128 + l.val) = _
  rw [Nat.zero_mul, Nat.zero_add]
theorem row_ap (p : Fin 512) (l : Fin 128) : iota .tc S512x128 32 [0] iota_S512x128_d0_w32 (ix2 p l) = BitVec.ofNat 32 p.val := by
  show BitVec.ofNat 32 (0 * 512 + p.val) = _
  rw [Nat.zero_mul, Nat.zero_add]

theorem even_ap (p : Fin 512) (l : Fin 128) : k0_pay115 (ix2 p l) = BitVec.ofBool (l.val % 2 = 0) := by
  show IntOp.cmpi .eq (IntOp.andi (iota .tc S512x128 32 [1] iota_S512x128_d1_w32 (ix2 p l)) 1#32) 0#32 = _
  rw [lane_ap]
  revert l; decide

theorem rotR_ap (x : FVec Ideal S512x128 .f32) (p : Fin 512) (l : Fin 128) (k : Fin 128) (h : k.val = (l.val + 127) % 128) :
    dynamicRotate 1 1#32 none x rotates_S512x128_d1 (ix2 p l) = x (ix2 p k) :=
  dynamicRotate_apply _ _ _ _ _ _ fun b => by
    fin_cases b
    · rfl
    · show k.val = (l.val + 128 - 1) % 128; omega
theorem rotL_ap (x : FVec Ideal S512x128 .f32) (p : Fin 512) (l : Fin 128) (k : Fin 128) (h : k.val = (l.val + 1) % 128) :
    dynamicRotate 1 127#32 none x rotates_S512x128_d1 (ix2 p l) = x (ix2 p k) :=
  dynamicRotate_apply _ _ _ _ _ _ fun b => by
    fin_cases b
    · rfl
    · show k.val = (l.val + 128 - 127) % 128; omega

/-- The pair a lane holds. -/
def pairOf (l : Fin 128) : Fin 128 := ⟨if l.val % 2 = 0 then l.val / 2 else 64 + l.val / 2, by split <;> omega⟩
/-- The lane that holds a pair. -/
def laneOf (l : Fin 128) : Fin 128 := ⟨if l.val < 64 then 2 * l.val else 2 * l.val - 127, by split <;> omega⟩

/-- Lanes and pairs, one to one. -/
def lanes : Fin 128 ≃ Fin 128 where
  toFun := pairOf
  invFun := laneOf
  left_inv l := by apply Fin.ext; simp only [pairOf, laneOf]; split <;> split <;> omega
  right_inv l := by apply Fin.ext; simp only [pairOf, laneOf]; split <;> split <;> omega

/-- The activation of a group's pair. -/
def actP (G : FVec Ideal S512x256 .f32) (p : Fin 512) (l : Fin 128) : EReal :=
  act (G (ix2 p ⟨2 * l.val, by omega⟩)) (G (ix2 p ⟨2 * l.val + 1, by omega⟩))

theorem actG_ap (G : FVec Ideal S512x256 .f32) (p : Fin 512) (l : Fin 128) : actG G (ix2 p l) = actP G p (pairOf l) := by
  have e : actG G (ix2 p l) = act
      (Scalar.select (k0_pay115 (ix2 p l)) (halfA G (ix2 p l)) (dynamicRotate 1 1#32 none (halfB G) rotates_S512x128_d1 (ix2 p l)))
      (Scalar.select (k0_pay115 (ix2 p l)) (dynamicRotate 1 127#32 none (halfA G) rotates_S512x128_d1 (ix2 p l)) (halfB G (ix2 p l))) := rfl
  rw [e, even_ap, rotR_ap _ p l ⟨(l.val + 127) % 128, Nat.mod_lt _ (by decide)⟩ rfl, rotL_ap _ p l ⟨(l.val + 1) % 128, Nat.mod_lt _ (by decide)⟩ rfl,
    halfA_ap, halfA_ap, halfB_ap, halfB_ap]
  unfold actP
  have hl := l.isLt
  by_cases h : l.val % 2 = 0
  · have h1 : (pairOf l).val = l.val / 2 := if_pos h
    rw [decide_eq_true h]
    show act (G _) (G _) = act (G _) (G _)
    congr 3 <;> (apply Fin.ext; simp only [h1]; omega)
  · have h1 : (pairOf l).val = 64 + l.val / 2 := if_neg h
    rw [decide_eq_false h]
    show act (G _) (G _) = act (G _) (G _)
    congr 3 <;> (apply Fin.ext; simp only [h1]; omega)

theorem levG_ap (h : FVec Ideal S512x128 .f32) (p : Fin 512) (z : Fin 1) : levG h (ix2 p z) = lev fun l => h (ix2 p l) := by
  have e : levG h (ix2 p z) = shapeCast S512x1 (multiReduction .maximumf [1] S512 (absf h) 0xFF800000#32 reduces_S512x128_S512 (.inl rfl) rfl)
    shapeCasts_S512_S512x1 (ix2 p z) * K 0x3B124925#32 := rfl
  rw [e, shapeCast_apply _ _ _ (ix1 p) (by simp [Shape.rowMajor_val_one, Shape.rowMajor_val_two, ix1, ix2])]
  unfold lev top
  refine congrArg (· * K 0x3B124925#32) ((Ideal.multiReduction_maximumf_single (absf h) _ reduces_S512x128_S512 _ _ (ix1 p)).trans ?_)
  refine Finset.fold_congr fun l _ => ?_
  have : reduces_S512x128_S512.lift (ix1 p) l = ix2 p l := by
    funext a; fin_cases a <;> rfl
  show absf h (reduces_S512x128_S512.lift (ix1 p) l) = _
  rw [this]; rfl

theorem stepG_ap (y : FVec Ideal S512x1 .f32) (e : IVec S512x1 32) (b : BitVec 32) (j : S512x1.Idx) :
    stepG y e b j = bitStep (y j) (e j) b := rfl

theorem foldG_ap (y : FVec Ideal S512x1 .f32) (j : S512x1.Idx) (L : List (BitVec 32)) (e : IVec S512x1 32) :
    L.foldl (stepG y) e j = L.foldl (bitStep (y j)) (e j) := by
  induction L generalizing e with
  | nil => rfl
  | cons b L ih => exact ih (stepG y e b)

theorem ebG_ap (y : FVec Ideal S512x1 .f32) (j : S512x1.Idx) : ebG y j = eb (y j) := foldG_ap y j _ _

theorem scaleG_ap (e : IVec S512x1 32) (j : S512x1.Idx) : scaleG (F := Ideal) e j = kscale (e j) := rfl

theorem invG_ap (e : IVec S512x1 32) (j : S512x1.Idx) : invG (F := Ideal) e j = kinv (e j) := rfl

theorem quantG_ap (h : FVec Ideal S512x128 .f32) (e : IVec S512x1 32) (p : Fin 512) (l : Fin 128) :
    quantG h e (ix2 p l) = clip (h (ix2 p l) * kinv (e (ix2 p 0))) := by
  have e1 : broadcastTo S512x128 (invG (F := Ideal) e) broadcasts_S512x1_S512x128 (ix2 p l) = kinv (e (ix2 p 0)) :=
    (broadcastTo_apply _ _ _ (ix2 p 0) fun a => by fin_cases a <;> rfl).trans (invG_ap e _)
  show clip (h (ix2 p l) * broadcastTo S512x128 (invG (F := Ideal) e) broadcasts_S512x1_S512x128 (ix2 p l)) = _
  rw [e1]

/-- The codes of a row, in the pairs' order. -/
theorem codeG_ap (mask : IVec S512x128 1) (q : FVec Ideal S512x128 .f32) (old : Vec Ideal S512x128 .fp8e4m3) (p : Fin 512) (l : Fin 128) :
    codeG mask q old (ix2 p l) = Scalar.select (mask (ix2 p l)) (q (ix2 p (laneOf l)) : EReal) (old (ix2 p l)) := by
  have e : codeG mask q old (ix2 p l) = Scalar.select (mask (ix2 p l)) (dynamicGather 1 q
      (shapeCast S512x128 (shapeCast S512x128x1 (select (cmpi .slt k0_pay127 (broadcast S512x128 0#32)) (addi k0_pay127 (broadcast S512x128 128#32)) k0_pay127)
        shapeCasts_S512x128_S512x128x1) shapeCasts_S512x128x1_S512x128) (ix2 p l))
      (shapeCast S512x128 old shapeCasts_S512x128_S512x128 (ix2 p l)) := rfl
  rw [e, shapeCast_apply old _ _ (ix2 p l) rfl]
  congr 1
  show q _ = q _
  congr 1
  have e2 : ∀ z : IVec S512x128 32, shapeCast S512x128 (shapeCast S512x128x1 z shapeCasts_S512x128_S512x128x1) shapeCasts_S512x128x1_S512x128 = z := fun z => by
    funext j
    rw [shapeCast_shapeCast]
  rw [e2]
  funext b
  fin_cases b
  · rfl
  · apply Fin.ext
    show (Scalar.select (IntOp.cmpi .slt (k0_pay127 (ix2 p l)) 0#32) (IntOp.addi (k0_pay127 (ix2 p l)) 128#32) (k0_pay127 (ix2 p l))).toNat % 128 = _
    have e3 : k0_pay127 (ix2 p l) = Scalar.select (IntOp.cmpi .slt (BitVec.ofNat 32 l.val) 64#32) (2#32 * BitVec.ofNat 32 l.val) (2#32 * BitVec.ofNat 32 l.val - 127#32) := by
      rw [← lane_ap p l]; rfl
    rw [e3]
    clear e3 e e2
    show _ = (laneOf l).val
    revert l; decide

/-- A column of the scales set. -/
theorem colG_ap (n : BitVec 32) (mask : IVec S512x128 1) (s : FVec Ideal S512x1 .f32) (old : Vec Ideal S512x22 .f32) (p : Fin 512) (g : Fin 22) :
    colG n mask s old (ix2 p g) = Scalar.select (IntOp.andi (mask (ix2 p ⟨g.val, by omega⟩)) (IntOp.cmpi .eq (BitVec.ofNat 32 g.val) n))
      (s (ix2 p 0) : EReal) (old (ix2 p g)) := by
  have e : colG n mask s old (ix2 p g) = Scalar.select (extractStridedSlice S512x22 ![0, 0] (andi mask (cmpi .eq (iota .tc S512x128 32 [1] iota_S512x128_d1_w32) (broadcast S512x128 n))) slices_S512x128_o0_0_S512x22 (ix2 p g))
    (broadcastTo S512x22 (shapeCast S512x1 s shapeCasts_S512x1_S512x1) broadcasts_S512x1_S512x22 (ix2 p g))
    (shapeCast S512x22 old shapeCasts_S512x22_S512x22 (ix2 p g)) := rfl
  rw [e, shapeCast_apply old _ _ (ix2 p g) rfl, broadcastTo_apply _ _ _ (ix2 p 0) (fun a => by fin_cases a <;> rfl), shapeCast_apply s _ _ (ix2 p 0) rfl,
    extractStridedSlice_apply _ _ _ _ (ix2 p ⟨g.val, by omega⟩) (fun a => by fin_cases a <;> simp [ix2])]
  rw [← lane_ap p ⟨g.val, by omega⟩]
  rfl

end Cert.KernelIdeal.Hand
-- ==== Proof.KProd.lean ====
module

public import proofs.«01_k».proof.Proof.KPoint
public import proofs.«01_k».proof.Proof.KLaunch
public import proofs.«01_k».proof.Proof.Spec
public import Idealize.ShloMosaic.Lib.MatmulPlain
public import Idealize.ShloMosaic.Lib.Pipeline.Value
public import Idealize.ShloMosaic.Lib.KernelVsHost

/-!
The visit's product on extended reals, entry by entry.
-/

@[expose] public section

set_option synthInstance.maxSize 4096

noncomputable section

namespace Cert.KernelIdeal.Hand

open Cert.KernelIdeal Cert.KernelIdeal.Gen
open Idealize.ShloMosaic Idealize.ShloMosaic.TcCoe
open MoeSpec Idealize.ShloMosaic.ValueIdx

/-! ## The product -/

section Dot

variable (c : Dev nD) (i : grid0.Coords)
    (arg6 : Memref sig .tc .vmem S512x2816 .fp8e4m3) (arg7 : Memref sig .tc .vmem S512x22 .f32)
    (arg8 : Memref sig .tc .vmem S1x2816x512 .fp8e4m3) (arg9 : Memref sig .tc .smem S30976 .f32)
    (arg10 : Memref sig .tc .vmem S32x5632 .f32)
    (ft0 : Buf (Elt Ideal) (tb0.view.loc (c : Thread nD τ))) (ft1 : Buf (Elt Ideal) (tb1.view.loc (c : Thread nD τ)))
    (ft2 : Buf (Elt Ideal) (tb2.view.loc (c : Thread nD τ))) (ft3 : Buf (Elt Ideal) (tb3.view.loc (c : Thread nD τ)))
    (X0 : S512x2816.Idx → Elt Ideal .fp8e4m3) (X1 : S512x22.Idx → Elt Ideal .f32) (X2 : S1x2816x512.Idx → Elt Ideal .fp8e4m3)
    (X3 : S30976.Idx → Elt Ideal .f32) (X4 : S32x5632.Idx → Elt Ideal .f32)
    (hchk : Chk i c ft0 ft1 ft2 ft3) (hc2 : Live i c ft2 ft3)

theorem pay3_ap (v16 : Vec Ideal S512x1 .f32) (v18 : Vec Ideal S512x128 .fp8e4m3) (p : Fin 512) (l : Fin 128) :
    k0_pay3 v16 v18 (ix2 p l) = (v18 (ix2 p l) * v16 (ix2 p 0) : EReal) := by
  have e : broadcastTo S512x128 v16 broadcasts_S512x1_S512x128 (ix2 p l) = v16 (ix2 p 0) :=
    broadcastTo_apply _ _ _ (ix2 p 0) fun a => by fin_cases a <;> rfl
  rw [← e]; rfl

theorem pay4_ap (s : Elt Ideal .f32) (v32 : Vec Ideal S1x128x128 .fp8e4m3) (p l : Fin 128) :
    k0_pay4 s v32 (ix2 p l) = (v32 (ix3 0 p l) * s : EReal) := by
  have e : shapeCast S128x128 v32 shapeCasts_S1x128x128_S128x128 (ix2 p l) = v32 (ix3 0 p l) :=
    shapeCast_apply _ _ _ _ (by simp [Shape.rowMajor_val_three, Shape.rowMajor_val_two])
  rw [← e]; rfl

theorem xP_ap (r : Fin 22) (p : Fin 512) (l : Fin 128) : xP arg6 arg7 (arg6.view.rep X0) (arg7.view.rep X1) r (ix2 p l)
    = (X0 (ix2 p ⟨128 * r.val + l.val, by omega⟩) * X1 (ix2 p r) : EReal) := by
  unfold xP
  rw [pay3_ap, View.readAt_rep, View.readAt_rep]
  refine congrArg₂ (fun x y : EReal => x * y) (congrArg X0 (funext fun a => ?_)) (congrArg X1 (funext fun a => ?_))
  · fin_cases a <;> apply Fin.ext
    · show 0 + 1 * p.val = p.val; omega
    · show 128 * r.val + 1 * l.val = 128 * r.val + l.val; omega
  · fin_cases a <;> apply Fin.ext
    · show 0 + 1 * p.val = p.val; omega
    · show r.val + 1 * 0 = r.val; omega

theorem off2_word (i : grid0.Coords) (e r₁ r₂ : Nat) (he : e < 32) (h1 : r₁ < 22) (h2 : r₂ < 4) :
    k0_off2 i (BitVec.ofNat 32 e) (BitVec.ofNat 32 r₁) (BitVec.ofNat 32 r₂) 0 = (e * 22 + r₁) * 44 + (i 0).val * 4 + r₂ := by
  have h' := coord0_lt i
  show ((((BitVec.ofNat 32 e * 22#32) + BitVec.ofNat 32 r₁) * 44#32 + BitVec.ofNat 32 (i 0).val * 4#32) + BitVec.ofNat 32 r₂).toNat = _
  simp only [BitVec.toNat_add, BitVec.toNat_mul, BitVec.toNat_ofNat]
  omega

/-- A weight's scale's place. -/
def wpos (i : grid0.Coords) (e : Nat) (he : e < 32) (r : Fin 22) (q : Fin 4) : Fin 30976 :=
  ⟨(e * 22 + r.val) * 44 + (i 0).val * 4 + q.val, by have := coord0_lt i; omega⟩

theorem wP_ap (e : Nat) (he : e < 32) (hw : word i c tb1 ft1 = BitVec.ofNat 32 e) (r : Fin 22) (q : Fin 4) (a' b : Fin 128) :
    wP c i arg8 arg9 ft0 ft1 ft2 ft3 (arg8.view.rep X2) (arg9.view.rep X3) hchk hc2 r q (ix2 a' b)
      = (X2 (ix3 0 ⟨128 * r.val + a'.val, by omega⟩ ⟨128 * q.val + b.val, by omega⟩) * X3 (ix1 (wpos i e he r q)) : EReal) := by
  unfold wP
  rw [pay4_ap, View.readAt_rep, View.readAt_rep]
  refine congrArg₂ (fun x y : EReal => x * y) (congrArg X2 (funext fun a => ?_)) (congrArg X3 (funext fun a => ?_))
  · fin_cases a <;> apply Fin.ext
    · rfl
    · show 128 * r.val + 1 * a'.val = 128 * r.val + a'.val; omega
    · show 128 * q.val + 1 * b.val = 128 * q.val + b.val; omega
  · have ha : a = 0 := Subsingleton.elim _ _
    subst ha
    apply Fin.ext
    have h2 : k0_off2 i (word i c tb1 ft1) (BitVec.ofNat 32 r.val) (BitVec.ofNat 32 q.val) 0 = (e * 22 + r.val) * 44 + (i 0).val * 4 + q.val :=
      (congrArg (fun w => k0_off2 i w (BitVec.ofNat 32 r.val) (BitVec.ofNat 32 q.val) 0) hw).trans (off2_word i e r.val q.val he r.isLt q.isLt)
    exact (congrArg (· + 1 * 0) h2).trans rfl

/-- 22 pieces of the rows, side by side. -/
theorem concatX_ap (f : Fin 22 → (S512x128.Idx → EReal)) (p : Fin 512) (k : Fin 2816) (r : Fin 22) (hr : k.val / 128 = r.val) :
    concatenate S512x2816 1 (List.ofFn fun r : Fin 22 => (⟨S512x128, f r⟩ : (s : Shape) × (s.Idx → EReal)))
      concatenates_S512x128_S512x128_S512x128_S512x128_S512x128_S512x128_S512x128_S512x128_S512x128_S512x128_S512x128_S512x128_S512x128_S512x128_S512x128_S512x128_S512x128_S512x128_S512x128_S512x128_S512x128_S512x128_S512x2816_d1
      (ix2 p k) = f r (ix2 p ⟨k.val % 128, Nat.mod_lt _ (by decide)⟩) :=
  concatenate_ofFn_apply (t := S512x2816) (s₁ := S512x128) 1 f _ rfl 128 rfl (ix2 p k) r hr
    (ix2 p ⟨k.val % 128, Nat.mod_lt _ (by decide)⟩) rfl fun b hb => by
      fin_cases b
      · rfl
      · exact absurd rfl hb

/-- 22 pieces of the weights, one below the other. -/
theorem concatW_ap (f : Fin 22 → (S128x512.Idx → EReal)) (k : Fin 2816) (q : Fin 512) (r : Fin 22) (hr : k.val / 128 = r.val) :
    concatenate S2816x512 0 (List.ofFn fun r : Fin 22 => (⟨S128x512, f r⟩ : (s : Shape) × (s.Idx → EReal)))
      concatenates_S128x512_S128x512_S128x512_S128x512_S128x512_S128x512_S128x512_S128x512_S128x512_S128x512_S128x512_S128x512_S128x512_S128x512_S128x512_S128x512_S128x512_S128x512_S128x512_S128x512_S128x512_S128x512_S2816x512_d0
      (ix2 k q) = f r (ix2 ⟨k.val % 128, Nat.mod_lt _ (by decide)⟩ q) :=
  concatenate_ofFn_apply (t := S2816x512) (s₁ := S128x512) 0 f _ rfl 128 rfl (ix2 k q) r hr
    (ix2 ⟨k.val % 128, Nat.mod_lt _ (by decide)⟩ q) rfl fun b hb => by
      fin_cases b
      · exact absurd rfl hb
      · rfl

/-- Four pieces of the weights' rows, side by side. -/
theorem concatR_ap (f : Fin 4 → (S128x128.Idx → EReal)) (a : Fin 128) (q : Fin 512) (r : Fin 4) (hr : q.val / 128 = r.val) :
    concatenate S128x512 1 (List.ofFn fun r : Fin 4 => (⟨S128x128, f r⟩ : (s : Shape) × (s.Idx → EReal)))
      concatenates_S128x128_S128x128_S128x128_S128x128_S128x512_d1
      (ix2 a q) = f r (ix2 a ⟨q.val % 128, Nat.mod_lt _ (by decide)⟩) :=
  concatenate_ofFn_apply (t := S128x512) (s₁ := S128x128) 1 f _ rfl 128 rfl (ix2 a q) r hr
    (ix2 a ⟨q.val % 128, Nat.mod_lt _ (by decide)⟩) rfl fun b hb => by
      fin_cases b
      · rfl
      · exact absurd rfl hb

theorem xM_ap (p : Fin 512) (k : Fin 2816) : xM arg6 arg7 (arg6.view.rep X0) (arg7.view.rep X1) (ix2 p k)
    = (X0 (ix2 p k) * X1 (ix2 p ⟨k.val / 128, by omega⟩) : EReal) := by
  have hk := k.isLt
  refine (concatX_ap _ p k ⟨k.val / 128, by omega⟩ rfl).trans ?_
  rw [xP_ap]
  refine congrArg₂ (fun x y : EReal => x * y) (congrArg X0 (congrArg (ix2 p) (Fin.ext ?_))) rfl
  show 128 * (k.val / 128) + k.val % 128 = k.val; omega

theorem wM_ap (e : Nat) (he : e < 32) (hw : word i c tb1 ft1 = BitVec.ofNat 32 e) (k : Fin 2816) (q : Fin 512) :
    wM c i arg8 arg9 ft0 ft1 ft2 ft3 (arg8.view.rep X2) (arg9.view.rep X3) hchk hc2 (ix2 k q)
      = (X2 (ix3 0 k q) * X3 (ix1 (wpos i e he ⟨k.val / 128, by omega⟩ ⟨q.val / 128, by omega⟩)) : EReal) := by
  have hk := k.isLt
  have hq := q.isLt
  refine (concatW_ap _ k q ⟨k.val / 128, by omega⟩ rfl).trans ?_
  refine (concatR_ap _ ⟨k.val % 128, Nat.mod_lt _ (by decide)⟩ q ⟨q.val / 128, by omega⟩ rfl).trans ?_
  rw [wP_ap c i arg8 arg9 ft0 ft1 ft2 ft3 X2 X3 hchk hc2 e he hw]
  refine congrArg₂ (fun x y : EReal => x * y) (congrArg X2 (congrArg₂ (ix3 0) (Fin.ext ?_) (Fin.ext ?_))) rfl
  · show 128 * (k.val / 128) + k.val % 128 = k.val; omega
  · show 128 * (q.val / 128) + q.val % 128 = q.val; omega

/-- The visit's product, entry by entry. -/
theorem dotM_ap (e : Nat) (he : e < 32) (hw : word i c tb1 ft1 = BitVec.ofNat 32 e) (p q : Fin 512) :
    dotM c i arg6 arg7 arg8 arg9 ft0 ft1 ft2 ft3 (arg6.view.rep X0) (arg7.view.rep X1) (arg8.view.rep X2) (arg9.view.rep X3) hchk hc2 (ix2 p q)
      = (K 0#32 + ∑ k : Fin 2816, (X0 (ix2 p k) * X1 (ix2 p ⟨k.val / 128, by omega⟩))
          * (X2 (ix3 0 k q) * X3 (ix1 (wpos i e he ⟨k.val / 128, by omega⟩ ⟨q.val / 128, by omega⟩))) : EReal) := by
  refine (Ideal.matmul_plain_apply (M := 512) (K := 2816) (N := 512) none _ _ _ p q).trans ?_
  refine congrArg (K 0#32 + ·) (Finset.sum_congr rfl fun k _ => ?_)
  rw [xM_ap, wM_ap c i arg8 arg9 ft0 ft1 ft2 ft3 X2 X3 hchk hc2 e he hw]

theorem biasM_ap (e : Nat) (he : e < 32) (hw : word i c tb1 ft1 = BitVec.ofNat 32 e) (q : Fin 512) :
    biasM c i arg10 ft0 ft1 ft2 ft3 (arg10.view.rep X4) hchk hc2 (ix2 0 q)
      = X4 (ix2 ⟨e, he⟩ ⟨(i 0).val * 512 + q.val, by have := coord0_lt i; omega⟩) := by
  have h' := coord0_lt i
  unfold biasM
  rw [View.readAt_rep]
  refine congrArg X4 (funext fun a => ?_)
  fin_cases a <;> apply Fin.ext
  · exact (congrArg (fun w : BitVec 32 => w.toNat + 1 * 0) hw).trans (by show (BitVec.ofNat 32 e).toNat + 1 * 0 = e; rw [BitVec.toNat_ofNat]; omega)
  · show (BitVec.ofNat 32 (i 0).val * 512#32).toNat + 1 * q.val = (i 0).val * 512 + q.val
    simp only [BitVec.toNat_mul, BitVec.toNat_ofNat]; omega

end Dot

theorem grp0_ap (D : FVec Ideal S512x512 .f32) (B : Vec Ideal S1x512 .f32) (p : Fin 512) (q : Fin 256) :
    grp0 D B (ix2 p q) = (D (ix2 p ⟨q.val, by omega⟩) + B (ix2 0 ⟨q.val, by omega⟩) : EReal) :=
  congrArg₂ (fun x y : EReal => x + y)
    (extractStridedSlice_apply _ _ _ _ _ fun a => by fin_cases a <;> simp [ix2])
    ((broadcastTo_apply _ _ _ (ix2 0 q) fun a => by fin_cases a <;> rfl).trans
      (extractStridedSlice_apply _ _ _ _ _ fun a => by fin_cases a <;> simp [ix2]))

theorem grp1_ap (D : FVec Ideal S512x512 .f32) (B : Vec Ideal S1x512 .f32) (p : Fin 512) (q : Fin 256) :
    grp1 D B (ix2 p q) = (D (ix2 p ⟨256 + q.val, by omega⟩) + B (ix2 0 ⟨256 + q.val, by omega⟩) : EReal) :=
  congrArg₂ (fun x y : EReal => x + y)
    (extractStridedSlice_apply _ _ _ _ _ fun a => by fin_cases a <;> simp [ix2])
    ((broadcastTo_apply _ _ _ (ix2 0 q) fun a => by fin_cases a <;> rfl).trans
      (extractStridedSlice_apply _ _ _ _ _ fun a => by fin_cases a <;> simp [ix2]))

end Cert.KernelIdeal.Hand
-- ==== Proof.KStores.lean ====
module

public import proofs.«01_k».proof.Proof.KPoint
public import Idealize.ShloMosaic.Lib.WritesUnit
public import Idealize.ShloMosaic.Lib.WordCmp

/-!
The visit's stores of a tile of numbers, entry by entry.
-/

@[expose] public section

set_option synthInstance.maxSize 4096

noncomputable section

namespace Cert.KernelIdeal.Hand

open Cert.KernelIdeal Cert.KernelIdeal.Gen
open Idealize.ShloMosaic Idealize.ShloMosaic.TcCoe
open MoeSpec Idealize.ShloMosaic.ValueIdx

/-! ## A half of the tile -/

theorem pairOf_laneOf (l : Fin 128) : pairOf (laneOf l) = l := lanes.right_inv l

theorem lev_actG (G : FVec Ideal S512x256 .f32) (p : Fin 512) (z : Fin 1) : levG (actG G) (ix2 p z) = lev (actP G p) := by
  rw [levG_ap, show (fun l => actG G (ix2 p l)) = fun l => actP G p (lanes l) from funext fun l => actG_ap G p l]
  unfold lev
  rw [top_perm]

theorem scale_full (G : FVec Ideal S512x256 .f32) (p : Fin 512) (z : Fin 1) :
    scaleG (F := Ideal) (ebG (levG (actG G))) (ix2 p z) = kscale (eb (lev (actP G p))) := by
  rw [scaleG_ap, ebG_ap, lev_actG]

theorem code_full (mask : IVec S512x128 1) (G : FVec Ideal S512x256 .f32) (old : Vec Ideal S512x128 .fp8e4m3) (p : Fin 512) (l : Fin 128) :
    codeG mask (quantG (actG G) (ebG (levG (actG G)))) old (ix2 p l)
      = Scalar.select (mask (ix2 p l)) (clip (actP G p l * kinv (eb (lev (actP G p))))) (old (ix2 p l)) := by
  rw [codeG_ap, quantG_ap, ebG_ap, lev_actG, actG_ap, pairOf_laneOf]

/-! ## The words -/

/-- The rows a visit covers. -/
theorem mask_ap (b l h : Nat) (hb : b < 64) (hl : l ≤ 32768) (hh : h ≤ 32768) (p : Fin 512) (z : Fin 128) :
    k0_pay111 (F := Ideal) (BitVec.ofNat 32 b) (BitVec.ofNat 32 l) (BitVec.ofNat 32 h) (ix2 p z)
      = BitVec.ofBool (decide (l ≤ b * 512 + p.val ∧ b * 512 + p.val < h)) := by
  have hp := p.isLt
  have e : k0_pay111 (F := Ideal) (BitVec.ofNat 32 b) (BitVec.ofNat 32 l) (BitVec.ofNat 32 h) (ix2 p z)
      = IntOp.andi (IntOp.cmpi .sge (iota .tc S512x128 32 [0] iota_S512x128_d0_w32 (ix2 p z) + BitVec.ofNat 32 b * 512#32) (BitVec.ofNat 32 l))
        (IntOp.cmpi .slt (iota .tc S512x128 32 [0] iota_S512x128_d0_w32 (ix2 p z) + BitVec.ofNat 32 b * 512#32) (BitVec.ofNat 32 h)) := rfl
  have e2 : BitVec.ofNat 32 p.val + BitVec.ofNat 32 b * 512#32 = BitVec.ofNat 32 (b * 512 + p.val) := by
    apply BitVec.eq_of_toNat_eq
    simp only [BitVec.toNat_add, BitVec.toNat_mul, BitVec.toNat_ofNat]
    omega
  rw [e, row_ap, e2, WordCmp.cmpi_sge_ofNat (by omega) (by omega), WordCmp.cmpi_slt_ofNat (by omega) (by omega), WordCmp.andi_ofBool, ← Bool.decide_and]

theorem group_ap (g n k : Nat) (hg : g < 22) (hn : n < 11) (hk : k < 2) :
    IntOp.cmpi .eq (BitVec.ofNat 32 g) (BitVec.ofNat 32 n * 2#32 + BitVec.ofNat 32 k) = BitVec.ofBool (decide (g = 2 * n + k)) := by
  have e2 : BitVec.ofNat 32 n * 2#32 + BitVec.ofNat 32 k = BitVec.ofNat 32 (2 * n + k) := by
    apply BitVec.eq_of_toNat_eq
    simp only [BitVec.toNat_add, BitVec.toNat_mul, BitVec.toNat_ofNat]
    omega
  rw [e2, WordCmp.cmpi_eq_ofNat (by omega) (by omega)]

theorem off5_word (b : Nat) (hb : b < 64) : k0_off5 (BitVec.ofNat 32 b) = ![b * 512, 0] := by
  have e : (BitVec.ofNat 32 b * 512#32).toNat = b * 512 := by
    simp only [BitVec.toNat_mul, BitVec.toNat_ofNat]
    omega
  show ![(BitVec.ofNat 32 b * 512#32).toNat, 0] = _
  rw [e]

theorem first_iff (i : grid0.Coords) : k0_cond1 i = 1#1 ↔ (i 0).val = 0 ∧ (i 1).val = 0 := by
  have h0 := coord0_lt i
  have h1 := coord1_lt i
  have e : k0_cond1 i = IntOp.cmpi .ne (Scalar.extui (IntOp.andi (IntOp.cmpi .eq (BitVec.ofNat 32 (i 0).val) (BitVec.ofNat 32 0))
    (IntOp.cmpi .eq (BitVec.ofNat 32 (i 1).val) (BitVec.ofNat 32 0)))) 0#32 := rfl
  rw [e, WordCmp.cmpi_eq_ofNat (by omega) (by omega), WordCmp.cmpi_eq_ofNat (by omega) (by omega), WordCmp.andi_ofBool, ← Bool.decide_and]
  by_cases h : (i 0).val = 0 ∧ (i 1).val = 0
  · rw [decide_eq_true h]; exact ⟨fun _ => h, fun _ => by decide⟩
  · rw [decide_eq_false h]; exact ⟨fun e => absurd e (by decide), fun e => absurd e h⟩

theorem live_iff (l h : Nat) (hl : l ≤ 32768) (hh : h ≤ 32768) : k0_cond2 (BitVec.ofNat 32 h) (BitVec.ofNat 32 l) = 1#1 ↔ l < h := by
  have e : k0_cond2 (BitVec.ofNat 32 h) (BitVec.ofNat 32 l) = IntOp.cmpi .ne (Scalar.extui (IntOp.cmpi .sgt (BitVec.ofNat 32 h) (BitVec.ofNat 32 l))) 0#32 := rfl
  rw [e, WordCmp.cmpi_sgt_ofNat (by omega) (by omega)]
  by_cases h : l < h
  · rw [decide_eq_true h]; exact ⟨fun _ => h, fun _ => by decide⟩
  · rw [decide_eq_false h]; exact ⟨fun e => absurd e (by decide), fun e => absurd e h⟩

/-! ## The stores -/

/-- The codes' block: two halves stored. -/
theorem two_halves (v : Memref sig .tc .vmem S512x256 .fp8e4m3) (f : BufTy.Contents (Elt Ideal) v.view.ty)
    (w0 w1 : S512x128.Idx → Elt Ideal .fp8e4m3) (p : Fin 512) (z : Fin 256) :
    v.view.read (Elt Ideal) (v.view.writes (Elt Ideal) f
      [⟨Rect.unit (s := S512x256) ![0, 128] S512x128.size inb_S512x256_S512x128_0_128, w1⟩,
        ⟨Rect.unit (s := S512x256) ![0, 0] S512x128.size inb_S512x256_S512x128_0_0, w0⟩]) (ix2 p z)
      = if h : z.val < 128 then w0 (ix2 p ⟨z.val, h⟩) else w1 (ix2 p ⟨z.val - 128, by omega⟩) := by
  have hz := z.isLt
  by_cases h : z.val < 128
  · rw [dif_pos h, View.read_writes_cons_unit_of_not_mem v.view f inb_S512x256_S512x128_0_128 w1 _ (ix2 p z) rfl 1 (Or.inl h)]
    exact View.read_writes_cons_unit_of_mem v.view f inb_S512x256_S512x128_0_0 w0 _ (ix2 p z) (ix2 p ⟨z.val, h⟩) rfl
      (fun a => by fin_cases a; · exact (Nat.zero_add _).symm
                   · exact (Nat.zero_add _).symm)
  · rw [dif_neg h]
    exact View.read_writes_cons_unit_of_mem v.view f inb_S512x256_S512x128_0_128 w1 _ (ix2 p z) (ix2 p ⟨z.val - 128, by omega⟩) rfl
      (fun a => by fin_cases a
                   · exact (Nat.zero_add _).symm
                   · show z.val = 128 + (z.val - 128); omega)

/-- One store over rows of the scales. -/
theorem rows_ap (v : Memref sig .tc .vmem S32768x22 .f32) (f : BufTy.Contents (Elt Ideal) v.view.ty) (off : Fin 2 → Nat) (o : Nat)
    (inb : ∀ a, off a + S512x22.size a ≤ S32768x22.size a) (hoff : off = ![o, 0]) (w : S512x22.Idx → Elt Ideal .f32)
    (L : List (View.Piece (Elt Ideal) S32768x22 .f32)) (r : Fin 32768) (g : Fin 22) :
    v.view.read (Elt Ideal) (v.view.writes (Elt Ideal) f (⟨Rect.unit (s := S32768x22) off S512x22.size inb, w⟩ :: L)) (ix2 r g)
      = if h : o ≤ r.val ∧ r.val < o + 512 then w (ix2 ⟨r.val - o, by omega⟩ g) else v.view.read (Elt Ideal) (v.view.writes (Elt Ideal) f L) (ix2 r g) := by
  by_cases h : o ≤ r.val ∧ r.val < o + 512
  · rw [dif_pos h]
    exact View.read_writes_cons_unit_of_mem v.view f inb w L (ix2 r g) (ix2 ⟨r.val - o, by omega⟩ g) hoff
      (fun a => by fin_cases a
                   · show r.val = o + (r.val - o); omega
                   · exact (Nat.zero_add _).symm)
  · rw [dif_neg h]
    refine View.read_writes_cons_unit_of_not_mem v.view f inb w L (ix2 r g) hoff 0 ?_
    show r.val < o ∨ o + 512 ≤ r.val
    omega

/-- A load of rows of the scales. -/
theorem rowsAt_ap (v : Memref sig .tc .vmem S32768x22 .f32) (f : BufTy.Contents (Elt Ideal) v.view.ty) (off : Fin 2 → Nat) (o : Nat)
    (inb : ∀ a, off a + S512x22.size a ≤ S32768x22.size a) (hoff : off = ![o, 0]) (r : Fin 32768) (g : Fin 22) (h : o ≤ r.val ∧ r.val < o + 512) :
    View.readAt (Elt Ideal) v.view (Rect.unit (s := S32768x22) off S512x22.size inb).toLoadRect f (ix2 (⟨r.val - o, by omega⟩ : Fin 512) g)
      = v.view.read (Elt Ideal) f (ix2 r g) := by
  subst hoff
  rw [View.readAt_apply]
  refine congrArg _ (funext fun a => Fin.ext ?_)
  fin_cases a
  · show o + 1 * (r.val - o) = r.val; omega
  · show 0 + 1 * g.val = g.val; omega

/-- The scales: two columns stored over rows, one after the other. -/
theorem two_cols (v : Memref sig .tc .vmem S32768x22 .f32) (f : BufTy.Contents (Elt Ideal) v.view.ty) (off : Fin 2 → Nat) (o : Nat)
    (inb : ∀ a, off a + S512x22.size a ≤ S32768x22.size a) (hoff : off = ![o, 0]) (n : Nat) (hn : n < 11) (mask : IVec S512x128 1)
    (l h : Nat) (hm : ∀ p z, mask (ix2 p z) = BitVec.ofBool (decide (l ≤ o + p.val ∧ o + p.val < h)))
    (s0 s1 : FVec Ideal S512x1 .f32) (r : Fin 32768) (g : Fin 22) (c0 c1 : BitVec 32) (hc0 : c0 = BitVec.ofNat 32 n * 2#32 + BitVec.ofNat 32 0)
    (hc1 : c1 = BitVec.ofNat 32 n * 2#32 + BitVec.ofNat 32 1) :
    v.view.read (Elt Ideal) (v.view.writes (Elt Ideal) f
      [⟨Rect.unit (s := S32768x22) off S512x22.size inb, colG c1 mask s1 (View.readAt (Elt Ideal) v.view (Rect.unit (s := S32768x22) off S512x22.size inb).toLoadRect
          (v.view.writes (Elt Ideal) f [⟨Rect.unit (s := S32768x22) off S512x22.size inb, colG c0 mask s0 (View.readAt (Elt Ideal) v.view
            (Rect.unit (s := S32768x22) off S512x22.size inb).toLoadRect f)⟩]))⟩,
        ⟨Rect.unit (s := S32768x22) off S512x22.size inb, colG c0 mask s0 (View.readAt (Elt Ideal) v.view
            (Rect.unit (s := S32768x22) off S512x22.size inb).toLoadRect f)⟩]) (ix2 r g)
      = if hr : (o ≤ r.val ∧ r.val < o + 512) ∧ (l ≤ r.val ∧ r.val < h) ∧ g.val / 2 = n then
          (if g.val % 2 = 0 then s0 else s1) (ix2 ⟨r.val - o, by omega⟩ 0)
        else v.view.read (Elt Ideal) f (ix2 r g) := by
  have hg := g.isLt
  rw [rows_ap v f off o inb hoff]
  by_cases hin : o ≤ r.val ∧ r.val < o + 512
  · rw [dif_pos hin, colG_ap, rowsAt_ap v _ off o inb hoff r g hin, rows_ap v f off o inb hoff, dif_pos hin, colG_ap, rowsAt_ap v _ off o inb hoff r g hin,
      hm, hc0, hc1, group_ap _ _ _ hg hn (by omega), group_ap _ _ _ hg hn (by omega), WordCmp.andi_ofBool, WordCmp.andi_ofBool, ← Bool.decide_and, ← Bool.decide_and,
      WordCmp.select_decide, WordCmp.select_decide]
    have e : o + (r.val - o) = r.val := by omega
    simp only [e]
    by_cases hlh : l ≤ r.val ∧ r.val < h
    · by_cases hgn : g.val / 2 = n
      · rw [dif_pos ⟨hin, hlh, hgn⟩]
        by_cases hp : g.val % 2 = 0
        · rw [if_neg (by omega), if_pos (by omega), if_pos hp]
        · rw [if_pos (by omega), if_neg hp]
      · rw [dif_neg (by omega), if_neg (by omega), if_neg (by omega)]
    · rw [dif_neg (by omega), if_neg (by omega), if_neg (by omega)]
  · rw [dif_neg hin, dif_neg (by omega), rows_ap v f off o inb hoff, dif_neg hin]
    rfl

end Cert.KernelIdeal.Hand
-- ==== Proof.KVisit.lean ====
module

public import proofs.«01_k».proof.Proof.KProd
public import proofs.«01_k».proof.Proof.KStores

/-!
What a visit leaves in the two outputs' buffers, entry by entry.
-/

@[expose] public section

set_option synthInstance.maxSize 4096

noncomputable section

namespace Cert.KernelIdeal.Hand

open Cert.KernelIdeal Cert.KernelIdeal.Gen
open Idealize.ShloMosaic Idealize.ShloMosaic.TcCoe
open MoeSpec Idealize.ShloMosaic.ValueIdx

/-- A row of a tile's 512 numbers, paired and activated: its first or its second 128. -/
def tile (T : Fin 512 → EReal) (h : Fin 2) : Fin 128 → EReal :=
  fun l => act (T ⟨256 * h.val + 2 * l.val, by omega⟩) (T ⟨256 * h.val + 2 * l.val + 1, by omega⟩)

section Visit

variable (c : Dev nD) (i : grid0.Coords)
    (arg6 : Memref sig .tc .vmem S512x2816 .fp8e4m3) (harg6 : arg6.IsWhole) (arg7 : Memref sig .tc .vmem S512x22 .f32) (harg7 : arg7.IsWhole)
    (arg8 : Memref sig .tc .vmem S1x2816x512 .fp8e4m3) (harg8 : arg8.IsWhole) (arg9 : Memref sig .tc .smem S30976 .f32) (harg9 : arg9.IsWhole)
    (arg10 : Memref sig .tc .vmem S32x5632 .f32) (harg10 : arg10.IsWhole) (arg11 : Memref sig .tc .vmem S512x256 .fp8e4m3) (harg11 : arg11.IsWhole)
    (arg12 : Memref sig .tc .vmem S32768x22 .f32) (harg12 : arg12.IsWhole)
    (ft0 : Buf (Elt Ideal) (tb0.view.loc (c : Thread nD τ))) (ft1 : Buf (Elt Ideal) (tb1.view.loc (c : Thread nD τ)))
    (ft2 : Buf (Elt Ideal) (tb2.view.loc (c : Thread nD τ))) (ft3 : Buf (Elt Ideal) (tb3.view.loc (c : Thread nD τ)))
    (X0 : S512x2816.Idx → Elt Ideal .fp8e4m3) (X1 : S512x22.Idx → Elt Ideal .f32) (X2 : S1x2816x512.Idx → Elt Ideal .fp8e4m3)
    (X3 : S30976.Idx → Elt Ideal .f32) (X4 : S32x5632.Idx → Elt Ideal .f32)
    (f11 : BufTy.Contents (Elt Ideal) arg11.view.ty) (f12 : BufTy.Contents (Elt Ideal) arg12.view.ty)
    (hchk : Chk i c ft0 ft1 ft2 ft3) (hc2 : Live i c ft2 ft3)

/-- The visit's product with the bias, from the blocks it finds. -/
def lin (e : Nat) (he : e < 32) (p q : Fin 512) : EReal :=
  (K 0#32 + ∑ k : Fin 2816, (X0 (ix2 p k) * X1 (ix2 p ⟨k.val / 128, by omega⟩))
          * (X2 (ix3 0 k q) * X3 (ix1 (wpos i e he ⟨k.val / 128, by omega⟩ ⟨q.val / 128, by omega⟩))))
    + X4 (ix2 ⟨e, he⟩ ⟨(i 0).val * 512 + q.val, by have := coord0_lt i; omega⟩)

variable (e : Nat) (he : e < 32) (hw : word i c tb1 ft1 = BitVec.ofNat 32 e)
include hw

theorem actP0 (p : Fin 512) :
    actP (grp0 (dotM c i arg6 arg7 arg8 arg9 ft0 ft1 ft2 ft3 (arg6.view.rep X0) (arg7.view.rep X1) (arg8.view.rep X2) (arg9.view.rep X3) hchk hc2)
      (biasM c i arg10 ft0 ft1 ft2 ft3 (arg10.view.rep X4) hchk hc2)) p = tile (lin i X0 X1 X2 X3 X4 e he p) 0 := by
  funext l
  unfold actP tile
  rw [grp0_ap, grp0_ap, dotM_ap c i arg6 arg7 arg8 arg9 ft0 ft1 ft2 ft3 X0 X1 X2 X3 hchk hc2 e he hw,
    dotM_ap c i arg6 arg7 arg8 arg9 ft0 ft1 ft2 ft3 X0 X1 X2 X3 hchk hc2 e he hw, biasM_ap c i arg10 ft0 ft1 ft2 ft3 X4 hchk hc2 e he hw,
    biasM_ap c i arg10 ft0 ft1 ft2 ft3 X4 hchk hc2 e he hw]
  exact congrArg₂ act (congrArg (lin i X0 X1 X2 X3 X4 e he p) (Fin.ext (by simp))) (congrArg (lin i X0 X1 X2 X3 X4 e he p) (Fin.ext (by simp)))

theorem actP1 (p : Fin 512) :
    actP (grp1 (dotM c i arg6 arg7 arg8 arg9 ft0 ft1 ft2 ft3 (arg6.view.rep X0) (arg7.view.rep X1) (arg8.view.rep X2) (arg9.view.rep X3) hchk hc2)
      (biasM c i arg10 ft0 ft1 ft2 ft3 (arg10.view.rep X4) hchk hc2)) p = tile (lin i X0 X1 X2 X3 X4 e he p) 1 := by
  funext l
  unfold actP tile
  rw [grp1_ap, grp1_ap, dotM_ap c i arg6 arg7 arg8 arg9 ft0 ft1 ft2 ft3 X0 X1 X2 X3 hchk hc2 e he hw,
    dotM_ap c i arg6 arg7 arg8 arg9 ft0 ft1 ft2 ft3 X0 X1 X2 X3 hchk hc2 e he hw, biasM_ap c i arg10 ft0 ft1 ft2 ft3 X4 hchk hc2 e he hw,
    biasM_ap c i arg10 ft0 ft1 ft2 ft3 X4 hchk hc2 e he hw]
  exact congrArg₂ act (congrArg (lin i X0 X1 X2 X3 X4 e he p) (Fin.ext (by simp))) (congrArg (lin i X0 X1 X2 X3 X4 e he p) (Fin.ext (by simp; omega)))

variable (b l h : Nat) (hb : b < 64) (hl : l ≤ 32768) (hh : h ≤ 32768) (hw0 : word i c tb0 ft0 = BitVec.ofNat 32 b)
  (hw2 : word i c tb2 ft2 = BitVec.ofNat 32 l) (hw3 : word i c tb3 ft3 = BitVec.ofNat 32 h)
include hb hl hh hw0 hw2 hw3

omit hw in
theorem maskM_ap (p : Fin 512) (z : Fin 128) : maskM c i ft0 ft2 ft3 (ix2 p z) = BitVec.ofBool (decide (l ≤ b * 512 + p.val ∧ b * 512 + p.val < h)) := by
  have e : maskM c i ft0 ft2 ft3 = k0_pay111 (F := Ideal) (BitVec.ofNat 32 b) (BitVec.ofNat 32 l) (BitVec.ofNat 32 h) := by
    show k0_pay111 (F := Ideal) _ _ _ = _
    exact (congrArg (fun w => k0_pay111 (F := Ideal) w (word i c tb2 ft2) (word i c tb3 ft3)) hw0).trans
      ((congrArg (fun w => k0_pay111 (F := Ideal) _ w (word i c tb3 ft3)) hw2).trans (congrArg (fun w => k0_pay111 (F := Ideal) _ _ w) hw3))
  rw [e, mask_ap b l h hb hl hh]

/-- The codes' block after a live visit. -/
theorem codes_ap (p : Fin 512) (z : Fin 256) : arg11.view.read (Elt Ideal) (runPos c i arg6 harg6 arg7 harg7 arg8 harg8 arg9 harg9 arg10 harg10 arg11 harg11 arg12 harg12
      ft0 ft1 ft2 ft3 (arg6.view.rep X0) (arg7.view.rep X1) (arg8.view.rep X2) (arg9.view.rep X3) (arg10.view.rep X4) f11 f12 hchk hc2).1.1 (ix2 p z)
    = if l ≤ b * 512 + p.val ∧ b * 512 + p.val < h then
        clip (tile (lin i X0 X1 X2 X3 X4 e he p) ⟨z.val / 128, by omega⟩ ⟨z.val % 128, Nat.mod_lt _ (by decide)⟩
          * kinv (eb (lev (tile (lin i X0 X1 X2 X3 X4 e he p) ⟨z.val / 128, by omega⟩))))
      else arg11.view.read (Elt Ideal) f11 (ix2 p z) := by
  have hz := z.isLt
  rw [out11_eq, two_halves, v1518_eq, v1652_eq, v1452_eq, v1586_eq]
  by_cases hz2 : z.val < 128
  · rw [dif_pos hz2, code_full, maskM_ap c i ft0 ft2 ft3 b l h hb hl hh hw0 hw2 hw3, WordCmp.select_decide,
      actP0 c i arg6 arg7 arg8 arg9 arg10 ft0 ft1 ft2 ft3 X0 X1 X2 X3 X4 hchk hc2 e he hw]
    rw [show (⟨z.val / 128, by omega⟩ : Fin 2) = 0 from Fin.ext (by show z.val / 128 = 0; omega),
      show (⟨z.val % 128, Nat.mod_lt _ (by decide)⟩ : Fin 128) = ⟨z.val, hz2⟩ from Fin.ext (Nat.mod_eq_of_lt hz2)]
    refine if_congr Iff.rfl rfl ?_
    rw [View.readAt_apply]
    refine congrArg _ (funext fun a => Fin.ext ?_)
    fin_cases a
    · show 0 + 1 * p.val = p.val; omega
    · show 0 + 1 * z.val = z.val; omega
  · rw [dif_neg hz2, code_full, maskM_ap c i ft0 ft2 ft3 b l h hb hl hh hw0 hw2 hw3, WordCmp.select_decide,
      actP1 c i arg6 arg7 arg8 arg9 arg10 ft0 ft1 ft2 ft3 X0 X1 X2 X3 X4 hchk hc2 e he hw]
    rw [show (⟨z.val / 128, by omega⟩ : Fin 2) = 1 from Fin.ext (by show z.val / 128 = 1; omega),
      show (⟨z.val % 128, Nat.mod_lt _ (by decide)⟩ : Fin 128) = ⟨z.val - 128, by omega⟩ from Fin.ext (by show z.val % 128 = z.val - 128; omega)]
    refine if_congr Iff.rfl rfl ?_
    rw [View.readAt_apply]
    refine congrArg _ (funext fun a => Fin.ext ?_)
    fin_cases a
    · show 0 + 1 * p.val = p.val; omega
    · show 128 + 1 * (z.val - 128) = z.val; omega

/-- The scales after a live visit. -/
theorem scales_ap (r : Fin 32768) (g : Fin 22) : arg12.view.read (Elt Ideal) (runPos c i arg6 harg6 arg7 harg7 arg8 harg8 arg9 harg9 arg10 harg10 arg11 harg11 arg12 harg12
      ft0 ft1 ft2 ft3 (arg6.view.rep X0) (arg7.view.rep X1) (arg8.view.rep X2) (arg9.view.rep X3) (arg10.view.rep X4) f11 f12 hchk hc2).1.2 (ix2 r g)
    = if hr : (b * 512 ≤ r.val ∧ r.val < b * 512 + 512) ∧ (l ≤ r.val ∧ r.val < h) ∧ g.val / 2 = (i 0).val then
        kscale (eb (lev (tile (lin i X0 X1 X2 X3 X4 e he ⟨r.val - b * 512, by omega⟩) ⟨g.val % 2, Nat.mod_lt _ (by decide)⟩)))
      else arg12.view.read (Elt Ideal) (first12 i arg12 f12) (ix2 r g) := by
  rw [out12_eq]
  unfold mid12
  refine (two_cols arg12 (first12 i arg12 f12) (k0_off5 (word i c tb0 ft0)) (b * 512) (hchk.2.2.2 hc2)
    ((congrArg k0_off5 hw0).trans (off5_word b hb)) (i 0).val (coord0_lt i) (maskM c i ft0 ft2 ft3) l h
    (maskM_ap c i ft0 ft2 ft3 b l h hb hl hh hw0 hw2 hw3) _ _ r g _ _ rfl rfl).trans ?_
  by_cases hr : (b * 512 ≤ r.val ∧ r.val < b * 512 + 512) ∧ (l ≤ r.val ∧ r.val < h) ∧ g.val / 2 = (i 0).val
  · rw [dif_pos hr, dif_pos hr]
    by_cases hp : g.val % 2 = 0
    · rw [if_pos hp, v1452_eq, scale_full, actP0 c i arg6 arg7 arg8 arg9 arg10 ft0 ft1 ft2 ft3 X0 X1 X2 X3 X4 hchk hc2 e he hw]
      rw [show (⟨g.val % 2, Nat.mod_lt _ (by decide)⟩ : Fin 2) = 0 from Fin.ext hp]
    · rw [if_neg hp, v1586_eq, scale_full, actP1 c i arg6 arg7 arg8 arg9 arg10 ft0 ft1 ft2 ft3 X0 X1 X2 X3 X4 hchk hc2 e he hw]
      rw [show (⟨g.val % 2, Nat.mod_lt _ (by decide)⟩ : Fin 2) = 1 from Fin.ext (by show g.val % 2 = 1; omega)]
  · rw [dif_neg hr, dif_neg hr]

end Visit

end Cert.KernelIdeal.Hand
-- ==== Proof.KBlocks.lean ====
module

public import proofs.«01_k».proof.Proof.KVisit
public import Idealize.ShloMosaic.Lib.Pipeline.ValueKit.Geometry

/-!
The blocks a visit finds, entry by entry, and what it leaves, in the inputs' own terms.
-/

@[expose] public section

set_option synthInstance.maxSize 4096

noncomputable section

namespace Cert.KernelIdeal.Hand

open Cert.KernelIdeal Cert.KernelIdeal.Gen
open Idealize.ShloMosaic Idealize.ShloMosaic.TcCoe
open MoeSpec MoeVisits Idealize.ShloMosaic.ValueIdx

variable (m : (ℓ : Loc nD τ sig) → Buf (Elt Ideal) ℓ)

/-- The inputs. -/
def inOf (c : Dev nD) : In where
  x r k := m ((c : Thread nD τ).loc main_arg0) (ix2 r k)
  xs r k := m ((c : Thread nD τ).loc main_arg1) (ix2 r k)
  w e k q := m ((c : Thread nD τ).loc main_arg2) (ix3 e k q)
  ws e k q := m ((c : Thread nD τ).loc main_arg3) (ix3 e k q)
  b e q := m ((c : Thread nD τ).loc main_arg4) (ix2 e q)

variable (a : (pcfg0 (F := Ideal)).Adm) (f0 f1 f2 f3 : Nat → Nat) (H : Holds a.1 f0 f1 f2 f3)

/-- The number a table holds for a point. -/
abbrev atp (f : Nat → Nat) (t : Fin grid0.N) : Nat := f (grid0.coords t 1).val

include H

theorem index0 (t : Fin grid0.N) : (win0 a 0).index t = ![atp f0 t, 0] := tr0 H (grid0.coords t)
theorem index1 (t : Fin grid0.N) : (win0 a 1).index t = ![atp f0 t, 0] := tr1 H (grid0.coords t)
theorem index2 (t : Fin grid0.N) : (win0 a 2).index t = ![atp f1 t, 0, (grid0.coords t 0).val] := tr2 H (grid0.coords t)
theorem index5 (t : Fin grid0.N) : (win0 a 5).index t = ![atp f0 t, (grid0.coords t 0).val] := tr5 H (grid0.coords t)
theorem atp0_lt (t : Fin grid0.N) : atp f0 t < 64 := H.b0 _
theorem atp1_lt (t : Fin grid0.N) : atp f1 t < 32 := H.b1 _
omit H in
theorem index3 (t : Fin grid0.N) : (win0 a 3).index t = ![0] := rfl
omit H in
theorem index4 (t : Fin grid0.N) : (win0 a 4).index t = ![0, 0] := rfl
omit H in
theorem index6 (t : Fin grid0.N) : (win0 a 6).index t = ![0, 0] := rfl

theorem blk0_ap (c : Dev nD) (t : Fin grid0.N) (p : Fin 512) (k : Fin 2816) :
    blk a (V m) c 0 t (ix2 p k) = (inOf m c).x ⟨atp f0 t * 512 + p.val, by have := atp0_lt a f0 f1 f2 f3 H t; omega⟩ k := by
  show V m c main_arg0 (((win0 a 0).rect t).emb (ix2 p k)) = _
  rw [V_arg0]
  refine congrArg (m ((c : Thread nD τ).loc main_arg0)) (funext fun b => Fin.ext ?_)
  rw [Pipeline.Window.rect_emb_val _ t _ b rfl, index0 a f0 f1 f2 f3 H]
  fin_cases b
  · rfl
  · show 0 * 2816 + k.val = k.val; omega

theorem blk1_ap (c : Dev nD) (t : Fin grid0.N) (p : Fin 512) (k : Fin 22) :
    blk a (V m) c 1 t (ix2 p k) = (inOf m c).xs ⟨atp f0 t * 512 + p.val, by have := atp0_lt a f0 f1 f2 f3 H t; omega⟩ k := by
  show V m c main_arg1 (((win0 a 1).rect t).emb (ix2 p k)) = _
  rw [V_arg1]
  refine congrArg (m ((c : Thread nD τ).loc main_arg1)) (funext fun b => Fin.ext ?_)
  rw [Pipeline.Window.rect_emb_val _ t _ b rfl, index1 a f0 f1 f2 f3 H]
  fin_cases b
  · rfl
  · show 0 * 22 + k.val = k.val; omega

theorem blk2_ap (c : Dev nD) (t : Fin grid0.N) (k : Fin 2816) (q : Fin 512) :
    blk a (V m) c 2 t (ix3 0 k q) = (inOf m c).w ⟨atp f1 t, atp1_lt a f0 f1 f2 f3 H t⟩ k ⟨(grid0.coords t 0).val * 512 + q.val, by have := coord0_lt (grid0.coords t); omega⟩ := by
  show V m c main_arg2 (((win0 a 2).rect t).emb (ix3 0 k q)) = _
  rw [V_arg2]
  refine congrArg (m ((c : Thread nD τ).loc main_arg2)) (funext fun b => Fin.ext ?_)
  rw [Pipeline.Window.rect_emb_val _ t _ b rfl, index2 a f0 f1 f2 f3 H]
  fin_cases b
  · show atp f1 t * 1 + 0 = atp f1 t; omega
  · show 0 * 2816 + k.val = k.val; omega
  · rfl

omit H in
theorem blk3_ap (c : Dev nD) (t : Fin grid0.N) (e : Fin 32) (k : Fin 22) (q : Fin 44) (z : Fin 30976) (hz : z.val = (e.val * 22 + k.val) * 44 + q.val) :
    blk a (V m) c 3 t (ix1 z) = (inOf m c).ws e k q := by
  show V m c main_v63 (((win0 a 3).rect t).emb (ix1 z)) = _
  rw [V_ws]
  have ej : ((win0 a 3).rect t).emb (ix1 z) = (ix1 z : S30976.Idx) := by
    refine funext fun b => Fin.ext ?_
    rw [Pipeline.Window.rect_emb_val _ t _ b rfl, index3]
    have hb : b = (0 : Fin 1) := Subsingleton.elim (α := Fin 1) _ _
    subst hb
    show 0 * 30976 + z.val = z.val; omega
  refine (congrArg _ ej).trans ?_
  exact shapeCast_apply _ _ _ (ix3 e k q) (by simp [Shape.rowMajor_val_one, Shape.rowMajor_val_three, ix1, ix3]; omega)

omit H in
theorem blk4_ap (c : Dev nD) (t : Fin grid0.N) (e : Fin 32) (q : Fin 5632) :
    blk a (V m) c 4 t (ix2 e q) = (inOf m c).b e q := by
  show V m c main_arg4 (((win0 a 4).rect t).emb (ix2 e q)) = _
  rw [V_arg4]
  refine congrArg (m ((c : Thread nD τ).loc main_arg4)) (funext fun b => Fin.ext ?_)
  rw [Pipeline.Window.rect_emb_val _ t _ b rfl, index4]
  fin_cases b
  · show 0 * 32 + e.val = e.val; omega
  · show 0 * 5632 + q.val = q.val; omega

/-- The visit's product, in the inputs' own terms. -/
theorem lin_ap (c : Dev nD) (t : Fin grid0.N) (p q : Fin 512) :
    lin (grid0.coords t) (blk a (V m) c 0 t) (blk a (V m) c 1 t) (blk a (V m) c 2 t) (blk a (V m) c 3 t)
      (blk a (V m) c 4 t) (atp f1 t) (atp1_lt a f0 f1 f2 f3 H t) p q
    = (inOf m c).lin ⟨atp f0 t * 512 + p.val, by have := atp0_lt a f0 f1 f2 f3 H t; omega⟩ ⟨atp f1 t, atp1_lt a f0 f1 f2 f3 H t⟩
      ⟨(grid0.coords t 0).val * 512 + q.val, by have := coord0_lt (grid0.coords t); omega⟩ := by
  have h0 := coord0_lt (grid0.coords t)
  have he := atp1_lt a f0 f1 f2 f3 H t
  unfold lin In.lin
  rw [blk4_ap m a]
  refine congrArg (· + _) (congrArg (K 0#32 + ·) (Finset.sum_congr rfl fun k _ => ?_))
  rw [blk0_ap m a f0 f1 f2 f3 H, blk1_ap m a f0 f1 f2 f3 H, blk2_ap m a f0 f1 f2 f3 H]
  refine congrArg (_ * ·) (congrArg (_ * ·) ?_)
  refine blk3_ap m a c t _ _ _ _ ?_
  show (atp f1 t * 22 + k.val / 128) * 44 + (grid0.coords t 0).val * 4 + q.val / 128 = (atp f1 t * 22 + k.val / 128) * 44 + ((grid0.coords t 0).val * 512 + q.val) / 128
  omega

theorem tile_ap (c : Dev nD) (t : Fin grid0.N) (p : Fin 512) (h : Fin 2) :
    tile (lin (grid0.coords t) (blk a (V m) c 0 t) (blk a (V m) c 1 t) (blk a (V m) c 2 t) (blk a (V m) c 3 t)
      (blk a (V m) c 4 t) (atp f1 t) (atp1_lt a f0 f1 f2 f3 H t) p) h
    = (inOf m c).grp ⟨atp f0 t * 512 + p.val, by have := atp0_lt a f0 f1 f2 f3 H t; omega⟩ ⟨atp f1 t, atp1_lt a f0 f1 f2 f3 H t⟩
      ⟨(grid0.coords t 0).val * 2 + h.val, by have := coord0_lt (grid0.coords t); omega⟩ := by
  funext l
  unfold tile In.grp
  rw [lin_ap m a f0 f1 f2 f3 H, lin_ap m a f0 f1 f2 f3 H]
  refine congrArg₂ act (congrArg _ (Fin.ext ?_)) (congrArg _ (Fin.ext ?_))
  · show (grid0.coords t 0).val * 512 + (256 * h.val + 2 * l.val) = 256 * ((grid0.coords t 0).val * 2 + h.val) + 2 * l.val; omega
  · show (grid0.coords t 0).val * 512 + (256 * h.val + 2 * l.val + 1) = 256 * ((grid0.coords t 0).val * 2 + h.val) + 2 * l.val + 1; omega

end Cert.KernelIdeal.Hand
-- ==== Proof.KStep.lean ====
module

public import proofs.«01_k».proof.Proof.KBlocks

/-!
A grid point's step on the two outputs' buffers, in the inputs' own terms.
-/

@[expose] public section

set_option synthInstance.maxSize 4096

noncomputable section

namespace Cert.KernelIdeal.Hand

open Cert.KernelIdeal Cert.KernelIdeal.Gen
open Idealize.ShloMosaic Idealize.ShloMosaic.TcCoe
open MoeSpec MoeVisits Idealize.ShloMosaic.ValueIdx

variable (m : (ℓ : Loc nD τ sig) → Buf (Elt Ideal) ℓ) (a : (pcfg0 (F := Ideal)).Adm) (hck : ChkAll a) (f0 f1 f2 f3 : Nat → Nat) (H : Holds a.1 f0 f1 f2 f3)
  (c : Dev nD) (t : Fin grid0.N)

theorem tile_code (p : Fin 512) (z : Fin 256) :
    clip (tile (lin (grid0.coords t) (blk a (V m) c 0 t) (blk a (V m) c 1 t) (blk a (V m) c 2 t) (blk a (V m) c 3 t)
      (blk a (V m) c 4 t) (atp f1 t) (atp1_lt a f0 f1 f2 f3 H t) p) ⟨z.val / 128, by omega⟩ ⟨z.val % 128, Nat.mod_lt _ (by decide)⟩
        * kinv (eb (lev (tile (lin (grid0.coords t) (blk a (V m) c 0 t) (blk a (V m) c 1 t) (blk a (V m) c 2 t) (blk a (V m) c 3 t)
      (blk a (V m) c 4 t) (atp f1 t) (atp1_lt a f0 f1 f2 f3 H t) p) ⟨z.val / 128, by omega⟩))))
    = (inOf m c).code ⟨atp f0 t * 512 + p.val, by have := atp0_lt a f0 f1 f2 f3 H t; omega⟩ ⟨atp f1 t, atp1_lt a f0 f1 f2 f3 H t⟩
        ⟨(grid0.coords t 0).val * 256 + z.val, by have := coord0_lt (grid0.coords t); omega⟩ := by
  have h0 := coord0_lt (grid0.coords t)
  rw [tile_ap m a f0 f1 f2 f3 H]
  unfold In.code
  have e1 : (⟨(grid0.coords t 0).val * 2 + z.val / 128, by omega⟩ : Fin 22) = ⟨((grid0.coords t 0).val * 256 + z.val) / 128, by omega⟩ :=
    Fin.ext (by show (grid0.coords t 0).val * 2 + z.val / 128 = ((grid0.coords t 0).val * 256 + z.val) / 128; omega)
  have e2 : (⟨z.val % 128, Nat.mod_lt _ (by decide)⟩ : Fin 128) = ⟨((grid0.coords t 0).val * 256 + z.val) % 128, Nat.mod_lt _ (by decide)⟩ :=
    Fin.ext (by show z.val % 128 = ((grid0.coords t 0).val * 256 + z.val) % 128; omega)
  rw [e1, e2]

/-- The codes a point writes. -/
theorem step5 (hl : f2 (grid0.coords t 1).val ≤ 32768) (hh : f3 (grid0.coords t 1).val ≤ 32768) (X5 : S512x256.Idx → Elt Ideal .fp8e4m3) (X6 : S32768x22.Idx → Elt Ideal .f32) (p : Fin 512) (z : Fin 256) :
    (st5 a t).view.read (Elt Ideal) (stepAt a hck (V m) c t X5 X6).1 (ix2 p z)
      = if atp f2 t ≤ atp f0 t * 512 + p.val ∧ atp f0 t * 512 + p.val < atp f3 t then
          (inOf m c).code ⟨atp f0 t * 512 + p.val, by have := atp0_lt a f0 f1 f2 f3 H t; omega⟩ ⟨atp f1 t, atp1_lt a f0 f1 f2 f3 H t⟩
            ⟨(grid0.coords t 0).val * 256 + z.val, by have := coord0_lt (grid0.coords t); omega⟩
        else X5 (ix2 p z) := by
  unfold stepAt stepOut
  by_cases hL : Live (F := Ideal) (grid0.coords t) c (a.1 2) (a.1 3)
  · rw [dif_pos hL]
    refine (codes_ap c (grid0.coords t) (st0 a t) (hstage0_0 _) (st1 a t) (hstage0_1 _) (st2 a t) (hstage0_2 _) (st3 a t) (hstage0_3 _)
      (st4 a t) (hstage0_4 _) (st5 a t) (hstage0_5 _) (st6 a t) (hstage0_6 _) (a.1 0) (a.1 1) (a.1 2) (a.1 3) _ _ _ _ _ _ _ (hck c _) hL
      (atp f1 t) (atp1_lt a f0 f1 f2 f3 H t) (word1 H _ c) (atp f0 t) (atp f2 t) (atp f3 t) (atp0_lt a f0 f1 f2 f3 H t) hl hh (word0 H _ c) (word2 H _ c) (word3 H _ c) p z).trans ?_
    rw [tile_code m a f0 f1 f2 f3 H, View.read_rep]
  · rw [dif_neg hL]
    refine (congrFun (congrArg ((st5 a t).view.read (Elt Ideal)) (dead11_eq ..)) _).trans ?_
    rw [View.read_rep, if_neg]
    intro hc
    refine hL ?_
    show k0_cond2 (word (F := Ideal) _ c tb3 (a.1 3)) (word (F := Ideal) _ c tb2 (a.1 2)) = 1#1
    exact (congrArg₂ (fun x y => k0_cond2 x y) (word3 H (grid0.coords t) c) (word2 H (grid0.coords t) c)).trans ((live_iff _ _ hl hh).mpr (lt_of_le_of_lt hc.1 hc.2))

theorem first_ap (v : Memref sig .tc .vmem S32768x22 .f32) (i : grid0.Coords) (X6 : S32768x22.Idx → Elt Ideal .f32) (h : ¬ ((i 0).val = 0 ∧ (i 1).val = 0)) :
    v.view.read (Elt Ideal) (first12 i v (v.view.rep X6)) = X6 := by
  unfold first12
  rw [dif_neg (fun e => h ((first_iff i).mp e)), View.read_rep]

/-- The scales a point writes. -/
theorem step6_new (hl : f2 (grid0.coords t 1).val ≤ 32768) (hh : f3 (grid0.coords t 1).val ≤ 32768) (X5 : S512x256.Idx → Elt Ideal .fp8e4m3) (X6 : S32768x22.Idx → Elt Ideal .f32) (r : Fin 32768) (g : Fin 22)
    (hr : (atp f0 t * 512 ≤ r.val ∧ r.val < atp f0 t * 512 + 512) ∧ (atp f2 t ≤ r.val ∧ r.val < atp f3 t) ∧ g.val / 2 = (grid0.coords t 0).val) :
    (st6 a t).view.read (Elt Ideal) (stepAt a hck (V m) c t X5 X6).2 (ix2 r g) = (inOf m c).scl r ⟨atp f1 t, atp1_lt a f0 f1 f2 f3 H t⟩ g := by
  have hlt : f2 (grid0.coords t 1).val < f3 (grid0.coords t 1).val := by
    have := hr.2.1.1
    have := hr.2.1.2
    unfold atp at *
    omega
  have hL : Live (F := Ideal) (grid0.coords t) c (a.1 2) (a.1 3) := by
    show k0_cond2 (word (F := Ideal) _ c tb3 (a.1 3)) (word (F := Ideal) _ c tb2 (a.1 2)) = 1#1
    exact (congrArg₂ (fun x y => k0_cond2 x y) (word3 H (grid0.coords t) c) (word2 H (grid0.coords t) c)).trans ((live_iff _ _ hl hh).mpr hlt)
  unfold stepAt stepOut
  rw [dif_pos hL]
  refine (scales_ap c (grid0.coords t) (st0 a t) (hstage0_0 _) (st1 a t) (hstage0_1 _) (st2 a t) (hstage0_2 _) (st3 a t) (hstage0_3 _)
      (st4 a t) (hstage0_4 _) (st5 a t) (hstage0_5 _) (st6 a t) (hstage0_6 _) (a.1 0) (a.1 1) (a.1 2) (a.1 3) _ _ _ _ _ _ _ (hck c _) hL
      (atp f1 t) (atp1_lt a f0 f1 f2 f3 H t) (word1 H _ c) (atp f0 t) (atp f2 t) (atp f3 t) (atp0_lt a f0 f1 f2 f3 H t) hl hh (word0 H _ c) (word2 H _ c) (word3 H _ c) r g).trans ?_
  refine (dif_pos hr).trans ?_
  rw [tile_ap m a f0 f1 f2 f3 H]
  unfold In.scl
  have hg := g.isLt
  have h0 := coord0_lt (grid0.coords t)
  have e1 : (⟨(grid0.coords t 0).val * 2 + g.val % 2, by omega⟩ : Fin 22) = g := Fin.ext (by show (grid0.coords t 0).val * 2 + g.val % 2 = g.val; omega)
  have e2 : (⟨atp f0 t * 512 + (r.val - atp f0 t * 512), by omega⟩ : Fin 32768) = r := Fin.ext (by show atp f0 t * 512 + (r.val - atp f0 t * 512) = r.val; omega)
  rw [e1, e2]

include H in
/-- The scales a point leaves alone. -/
theorem step6_old (hl : f2 (grid0.coords t 1).val ≤ 32768) (hh : f3 (grid0.coords t 1).val ≤ 32768) (X5 : S512x256.Idx → Elt Ideal .fp8e4m3) (X6 : S32768x22.Idx → Elt Ideal .f32) (r : Fin 32768) (g : Fin 22)
    (hr : ¬ ((atp f0 t * 512 ≤ r.val ∧ r.val < atp f0 t * 512 + 512) ∧ (atp f2 t ≤ r.val ∧ r.val < atp f3 t) ∧ g.val / 2 = (grid0.coords t 0).val))
    (hn : ¬ ((grid0.coords t 0).val = 0 ∧ (grid0.coords t 1).val = 0)) :
    (st6 a t).view.read (Elt Ideal) (stepAt a hck (V m) c t X5 X6).2 (ix2 r g) = X6 (ix2 r g) := by
  unfold stepAt stepOut
  by_cases hL : Live (F := Ideal) (grid0.coords t) c (a.1 2) (a.1 3)
  · rw [dif_pos hL]
    refine (scales_ap c (grid0.coords t) (st0 a t) (hstage0_0 _) (st1 a t) (hstage0_1 _) (st2 a t) (hstage0_2 _) (st3 a t) (hstage0_3 _)
      (st4 a t) (hstage0_4 _) (st5 a t) (hstage0_5 _) (st6 a t) (hstage0_6 _) (a.1 0) (a.1 1) (a.1 2) (a.1 3) _ _ _ _ _ _ _ (hck c _) hL
      (atp f1 t) (atp1_lt a f0 f1 f2 f3 H t) (word1 H _ c) (atp f0 t) (atp f2 t) (atp f3 t) (atp0_lt a f0 f1 f2 f3 H t) hl hh (word0 H _ c) (word2 H _ c) (word3 H _ c) r g).trans ?_
    exact (dif_neg hr).trans (congrFun (first_ap (st6 a t) _ _ hn) _)
  · rw [dif_neg hL]
    refine (congrFun (congrArg ((st6 a t).view.read (Elt Ideal)) (dead12_eq ..)) _).trans ?_
    exact congrFun (first_ap (st6 a t) _ _ hn) _

end Cert.KernelIdeal.Hand
-- ==== Proof.KValue.lean ====
module

public import proofs.«01_k».proof.Proof.KStep

/-!
What the whole run leaves in the two results: every row's codes and scales come from its own expert.
-/

@[expose] public section

set_option synthInstance.maxSize 4096

noncomputable section

namespace Cert.KernelIdeal.Hand

open Cert.KernelIdeal Cert.KernelIdeal.Gen
open Idealize.ShloMosaic Idealize.ShloMosaic.TcCoe
open Idealize.ShloMosaic.Pipeline (RDat Dat)
open MoeSpec MoeVisits Idealize.ShloMosaic.ValueIdx

/-- The expert of row `r`. -/
def rowE (s : Nat → Nat) (r : Nat) : Fin 32 := ⟨min (rowEx s r) 31, by omega⟩

theorem rowE_eq (s : Nat → Nat) (hs : pre s 32 = 32768) (v r : Nat) (h1 : lo s v ≤ r) (h2 : r < hi s v) (hv : ex s v < 32) : (⟨ex s v, hv⟩ : Fin 32) = rowE s r :=
  Fin.ext (by show ex s v = min (rowEx s r) 31; rw [(cover_ex s hs h1 h2).2.2]; omega)

section
variable (s : Nat → Nat) (hs : pre s 32 = 32768)
include hs in
theorem lo_le (v : Nat) : lo s v ≤ 32768 := by
  unfold lo; split
  · exact pre_le s hs (by have := ex_lt s v; omega)
  · omega
include hs in
theorem hi_le (v : Nat) : hi s v ≤ 32768 := by
  unfold hi; split
  · exact pre_le s hs (by have := ex_lt s v; omega)
  · omega

end

attribute [local irreducible] vt ex lo hi

variable (m : (ℓ : Loc nD τ sig) → Buf (Elt Ideal) ℓ) (a : (pcfg0 (F := Ideal)).Adm) (hck : ChkAll a) (s : Nat → Nat) (hs : pre s 32 = 32768)
  (H : Holds a.1 (vt s) (ex s) (lo s) (hi s)) (c : Dev nD)

theorem coord0 (t : Fin grid0.N) : (grid0.coords t 0).val = t.val / 96 := by
  rw [Pipeline.Grid.coords_val t 0 (S := 96) (B := 11) rfl rfl]
  have := t.isLt
  have : grid0.N = 1056 := rfl
  omega
theorem coord1 (t : Fin grid0.N) : (grid0.coords t 1).val = t.val % 96 := by
  rw [Pipeline.Grid.coords_val t 1 (S := 1) (B := 96) rfl rfl, Nat.div_one]
theorem pred_mod {n : Nat} (h : n % 96 ≠ 0) : (n - 1) % 96 = n % 96 - 1 ∧ (n - 1) / 96 = n / 96 ∧ n - 1 + 1 = n := by omega
theorem succ_mod {n : Nat} (h : n % 96 ≠ 95) : (n + 1) % 96 = n % 96 + 1 ∧ (n + 1) / 96 = n / 96 := by omega
theorem lt_N (t : Fin grid0.N) : t.val < 1056 := t.isLt

include hs in
theorem row_lt (t : Fin grid0.N) (p : Fin 512) : vt s (t.val % 96) * 512 + p.val < 32768 := by
  have := vt_lt s hs (t.val % 96); omega

include hs H

omit hs in
theorem idx5 (u : Fin grid0.N) : (win0 a 5).index u = ![vt s (u.val % 96), u.val / 96] := by
  rw [index5 a _ _ _ _ H]
  unfold atp
  rw [coord0, coord1]

/-- Right after a point that stays on the same block, the codes' buffer is as that point left it. -/
theorem finds5 (t : Fin grid0.N) (ht : t.val % 96 ≠ 0) (hb : vt s (t.val % 96 - 1) = vt s (t.val % 96)) (Y : S512x256.Idx → Elt Ideal .fp8e4m3)
    (h : (rdat a hck (V m) c).Finds 5 t Y) : (rdat a hck (V m) c).Leaves 5 ⟨t.val - 1, Nat.lt_of_le_of_lt (Nat.sub_le _ _) t.isLt⟩ Y := by
  have h0 : t.val ≠ 0 := by omega
  obtain ⟨hm, hd, hp⟩ := pred_mod ht
  refine (((rdat a hck (V m) c).finds_of_pos (w := 5) (t := t) (by rw [Pipeline.Window.fetch_eq_fetchF]; rfl) h0 Y).mp h).resolve_left fun hf => ?_
  have hN := lt_N t
  rw [Pipeline.Window.flush_eq_flushF] at hf
  unfold Pipeline.Window.flushF at hf
  simp only [Bool.and_eq_true, Bool.or_eq_true, decide_eq_true_eq] at hf
  rcases hf.2 with h1 | ⟨h1, b, h2⟩
  · have : t.val - 1 + 1 = 1056 := h1
    omega
  · refine h2 (congrFun ?_ b)
    have e : (⟨t.val - 1 + 1, h1⟩ : Fin grid0.N) = t := Fin.ext hp
    refine (congrArg (win0 a 5).index e).trans ((idx5 a s H t).trans (Eq.trans ?_ (idx5 a s H _).symm))
    show ![vt s (t.val % 96), t.val / 96] = ![vt s ((t.val - 1) % 96), (t.val - 1) / 96]
    rw [hm, hd, hb]

/-- What a point leaves in the codes' buffer. -/
theorem left5 (t : Fin grid0.N) (X : S512x256.Idx → Elt Ideal .fp8e4m3) (hX : (rdat a hck (V m) c).Leaves 5 t X) :
    ∃ Y : S512x256.Idx → Elt Ideal .fp8e4m3, (rdat a hck (V m) c).Finds 5 t Y ∧ ∀ (p : Fin 512) (z : Fin 256), X (ix2 p z)
      = if lo s (t.val % 96) ≤ vt s (t.val % 96) * 512 + p.val ∧ vt s (t.val % 96) * 512 + p.val < hi s (t.val % 96) then
          (inOf m c).code ⟨vt s (t.val % 96) * 512 + p.val, row_lt s hs t p⟩ ⟨ex s (t.val % 96), ex_lt s _⟩ ⟨t.val / 96 * 256 + z.val, by have := lt_N t; omega⟩
        else Y (ix2 p z) := by
  obtain ⟨Y, hY, Y6, e⟩ := hX
  refine ⟨Y, hY, fun p z => ?_⟩
  have e' := (congrFun e (ix2 p z)).trans (step5 m a hck _ _ _ _ H c t (lo_le s hs _) (hi_le s hs _) Y Y6 p z)
  rw [e']
  simp only [atp, coord0, coord1]

/-- The codes a point's block holds: every row covered so far. -/
theorem leaves5 (n : Nat) : ∀ (t : Fin grid0.N) (_ : t.val = n) (X : S512x256.Idx → Elt Ideal .fp8e4m3) (_ : (rdat a hck (V m) c).Leaves 5 t X)
    (v : Nat) (_ : v ≤ t.val % 96) (_ : vt s v = vt s (t.val % 96)) (p : Fin 512) (z : Fin 256)
    (_ : lo s v ≤ vt s (t.val % 96) * 512 + p.val) (_ : vt s (t.val % 96) * 512 + p.val < hi s v),
    X (ix2 p z) = (inOf m c).code ⟨vt s (t.val % 96) * 512 + p.val, row_lt s hs t p⟩ (rowE s (vt s (t.val % 96) * 512 + p.val))
      ⟨t.val / 96 * 256 + z.val, by have := lt_N t; omega⟩ := by
  induction n with
  | zero =>
    intro t ht X hX v hv hb p z h1 h2
    obtain ⟨Y, -, e⟩ := left5 m a hck s hs H c t X hX
    have hv' : v = t.val % 96 := by omega
    subst hv'
    rw [e, if_pos ⟨h1, h2⟩, rowE_eq s hs _ _ h1 h2]
  | succ n ih =>
    intro t ht X hX v hv hb p z h1 h2
    obtain ⟨Y, hY, e⟩ := left5 m a hck s hs H c t X hX
    rw [e]
    split
    · next h => rw [rowE_eq s hs _ _ h.1 h.2]
    · next h =>
      have hne : v ≠ t.val % 96 := fun hh => by subst hh; exact h ⟨h1, h2⟩
      have h96 : t.val % 96 ≠ 0 := fun h0 => hne (Nat.le_antisymm hv (h0 ▸ Nat.zero_le v))
      have hlt : v ≤ t.val % 96 - 1 := by clear e h; omega
      have ht' : t.val - 1 = n := by clear e h; omega
      obtain ⟨hm, hd, -⟩ := pred_mod h96
      have hb2 : vt s (t.val % 96 - 1) = vt s (t.val % 96) :=
        le_antisymm (vt_mono s hs (Nat.sub_le _ _)) (hb.symm.le.trans (vt_mono s hs hlt))
      have := ih ⟨t.val - 1, Nat.lt_of_le_of_lt (Nat.sub_le _ _) t.isLt⟩ ht' Y
        (finds5 m a hck s hs H c t h96 hb2 Y hY) v (by show v ≤ (t.val - 1) % 96; rw [hm]; exact hlt)
        (by show vt s v = vt s ((t.val - 1) % 96); rw [hm, hb2, hb]) p z
        (by show lo s v ≤ vt s ((t.val - 1) % 96) * 512 + p.val; rw [hm, hb2]; exact h1)
        (by show vt s ((t.val - 1) % 96) * 512 + p.val < hi s v; rw [hm, hb2]; exact h2)
      simpa only [hm, hd, hb2] using this

/-- What a point leaves in the scales' buffer. -/
theorem left6 (t : Fin grid0.N) (X : S32768x22.Idx → Elt Ideal .f32) (hX : (rdat a hck (V m) c).Leaves 6 t X) :
    ∃ Y : S32768x22.Idx → Elt Ideal .f32, (rdat a hck (V m) c).Finds 6 t Y ∧ ∀ (r : Fin 32768) (g : Fin 22),
      ((vt s (t.val % 96) = r.val / 512 ∧ lo s (t.val % 96) ≤ r.val ∧ r.val < hi s (t.val % 96) ∧ g.val / 2 = t.val / 96) → X (ix2 r g) = (inOf m c).scl r (rowE s r.val) g)
      ∧ (¬ (vt s (t.val % 96) = r.val / 512 ∧ lo s (t.val % 96) ≤ r.val ∧ r.val < hi s (t.val % 96) ∧ g.val / 2 = t.val / 96) → t.val ≠ 0 → X (ix2 r g) = Y (ix2 r g)) := by
  obtain ⟨Y, hY, Y5, e⟩ := hX
  refine ⟨Y, hY, fun r g => ⟨fun h => ?_, fun h h0 => ?_⟩⟩
  · refine (congrFun e (ix2 r g)).trans ((step6_new m a hck _ _ _ _ H c t (lo_le s hs _) (hi_le s hs _) Y5 Y r g ?_).trans ?_)
    · simp only [atp, coord0, coord1]; omega
    · simp only [atp, coord1]
      rw [rowE_eq s hs _ _ h.2.1 h.2.2.1]
  · refine (congrFun e (ix2 r g)).trans (step6_old m a hck _ _ _ _ H c t (lo_le s hs _) (hi_le s hs _) Y5 Y r g ?_ ?_)
    · simp only [atp, coord0, coord1]; omega
    · rw [coord0, coord1]; omega

omit hs H in
theorem flush6 (t : Fin grid0.N) : (win0 a 6).flush t = true ↔ t.val = 1055 := by
  have hN := lt_N t
  rw [Pipeline.Window.flush_eq_flushF]
  unfold Pipeline.Window.flushF
  simp only [Bool.and_eq_true, Bool.or_eq_true, decide_eq_true_eq]
  constructor
  · rintro ⟨-, h1 | ⟨h1, b, h2⟩⟩
    · have : t.val + 1 = 1056 := h1
      omega
    · exact absurd rfl h2
  · intro h
    exact ⟨trivial, Or.inl (show t.val + 1 = 1056 by omega)⟩

/-- The scales' buffer holds every row and group covered so far. -/
theorem leaves6 (n : Nat) : ∀ (t : Fin grid0.N) (_ : t.val = n) (X : S32768x22.Idx → Elt Ideal .f32) (_ : (rdat a hck (V m) c).Leaves 6 t X)
    (u : Nat) (_ : u ≤ t.val) (r : Fin 32768) (g : Fin 22) (_ : vt s (u % 96) = r.val / 512 ∧ lo s (u % 96) ≤ r.val ∧ r.val < hi s (u % 96) ∧ g.val / 2 = u / 96),
    X (ix2 r g) = (inOf m c).scl r (rowE s r.val) g := by
  induction n with
  | zero =>
    intro t ht X hX u hu r g h
    obtain ⟨Y, -, e⟩ := left6 m a hck s hs H c t X hX
    have hv' : u = t.val := by omega
    subst hv'
    exact (e r g).1 h
  | succ n ih =>
    intro t ht X hX u hu r g h
    obtain ⟨Y, hY, e⟩ := left6 m a hck s hs H c t X hX
    by_cases hc : vt s (t.val % 96) = r.val / 512 ∧ lo s (t.val % 96) ≤ r.val ∧ r.val < hi s (t.val % 96) ∧ g.val / 2 = t.val / 96
    · exact (e r g).1 hc
    · rw [(e r g).2 hc (by omega)]
      have hne : u ≠ t.val := fun hh => hc (hh ▸ h)
      refine ih ⟨t.val - 1, Nat.lt_of_le_of_lt (Nat.sub_le _ _) t.isLt⟩ (by show t.val - 1 = n; omega) Y ?_ u (by show u ≤ t.val - 1; omega) r g h
      refine (((rdat a hck (V m) c).finds_of_pos (w := 6) (t := t) (by rw [Pipeline.Window.fetch_eq_fetchF]; rfl) (by omega) Y).mp hY).resolve_left fun hf => ?_
      have := (flush6 a _).mp hf
      have hN := lt_N t
      have : t.val - 1 = 1055 := this
      omega

omit hs in
/-- When the codes' block is written back. -/
theorem flush5 (t : Fin grid0.N) : (win0 a 5).flush t = true ↔ (t.val % 96 = 95 ∨ vt s (t.val % 96 + 1) ≠ vt s (t.val % 96)) := by
  have hN := lt_N t
  rw [Pipeline.Window.flush_eq_flushF]
  unfold Pipeline.Window.flushF
  simp only [Bool.and_eq_true, Bool.or_eq_true, decide_eq_true_eq]
  have idx := idx5 a s H
  constructor
  · rintro ⟨-, h1 | ⟨h1, b, h2⟩⟩
    · have : t.val + 1 = 1056 := h1
      omega
    · by_contra hc
      simp only [not_or, not_not] at hc
      refine h2 (congrFun ((idx _).trans (Eq.trans ?_ (idx t).symm)) b)
      show ![vt s ((t.val + 1) % 96), (t.val + 1) / 96] = _
      rw [(succ_mod hc.1).1, (succ_mod hc.1).2, hc.2]
  · intro h
    refine ⟨trivial, ?_⟩
    by_cases hl : t.val + 1 = 1056
    · exact Or.inl hl
    · have hlt : t.val + 1 < grid0.N := show t.val + 1 < 1056 by omega
      refine Or.inr ⟨hlt, ?_⟩
      by_contra hc
      simp only [not_exists, not_not] at hc
      have e : (![vt s ((t.val + 1) % 96), (t.val + 1) / 96] : Fin 2 → Nat) = ![vt s (t.val % 96), t.val / 96] := (idx ⟨t.val + 1, hlt⟩).symm.trans ((funext hc).trans (idx t))
      have h0' : vt s ((t.val + 1) % 96) = vt s (t.val % 96) := congrFun e (0 : Fin 2)
      have h1' : (t.val + 1) / 96 = t.val / 96 := congrFun e (1 : Fin 2)
      clear e hc
      by_cases h95 : t.val % 96 = 95
      · omega
      · exact h.resolve_left h95 ((congrArg (vt s) (succ_mod h95).1).symm.trans h0')

/-- The codes result. -/
def GCodes (i : S32768x2816.Idx) : EReal := (inOf m c).code (i 0) (rowE s (i 0).val) (i 1)
/-- The scales result. -/
def GScales (i : S32768x22.Idx) : EReal := (inOf m c).scl (i 0) (rowE s (i 0).val) (i 1)

omit H in
theorem last_visit (b : Nat) (v : Nat) (hv : v < 96) (hb : vt s v = b) : ∃ w, w < 96 ∧ vt s w = b ∧ (w = 95 ∨ vt s (w + 1) ≠ vt s w) := by
  induction hk : 95 - v generalizing v with
  | zero => exact ⟨v, hv, hb, Or.inl (by omega)⟩
  | succ k ih =>
    by_cases h : vt s (v + 1) = vt s v
    · exact ih (v + 1) (by omega) (h.trans hb) (by omega)
    · exact ⟨v, hv, hb, Or.inr h⟩

theorem emb5 (t : Fin grid0.N) (y : ((win0 a 5).xblock (grid0.coords t)).Idx) :
    ((win0 a 5).rect t).emb y = (ix2 ⟨vt s (t.val % 96) * 512 + ((y : S512x256.Idx) 0).val, row_lt s hs t _⟩
      ⟨t.val / 96 * 256 + ((y : S512x256.Idx) 1).val, by have := lt_N t; have := ((y : S512x256.Idx) 1).isLt; change _ < 256 at this; omega⟩ : S32768x2816.Idx) := by
  refine funext fun b => Fin.ext ?_
  refine (Pipeline.Window.rect_emb_val _ t y b rfl).trans ?_
  rw [idx5 a s H]
  fin_cases b
  · rfl
  · rfl

theorem cover5 (i : S32768x2816.Idx) : ∃ t : Fin grid0.N, (win0 a 5).flush t = true ∧ (win0 a 5).arr.view.emb i ∈ ((win0 a 5).blk t).view.set := by
  obtain ⟨v, hv, hb, -, -⟩ := covered s hs (i 0).isLt
  obtain ⟨w, hw, hb', hlast⟩ := last_visit s hs _ v hv hb
  have hi1 : (i 1).val < 2816 := (i 1).isLt
  have hlt : (i 1).val / 256 * 96 + w < grid0.N := show _ < 1056 by omega
  have hmod : ((i 1).val / 256 * 96 + w) % 96 = w := by omega
  have hdiv : ((i 1).val / 256 * 96 + w) / 96 = (i 1).val / 256 := by omega
  refine ⟨⟨(i 1).val / 256 * 96 + w, hlt⟩, (flush5 a s H _).mpr ?_, ?_⟩
  · show ((i 1).val / 256 * 96 + w) % 96 = 95 ∨ vt s (((i 1).val / 256 * 96 + w) % 96 + 1) ≠ vt s (((i 1).val / 256 * 96 + w) % 96)
    rw [hmod]; exact hlast
  · refine ((win0 a 5).emb_mem_blk_iff _ i rfl).mpr fun b => ?_
    rw [idx5 a s H]
    fin_cases b
    · show vt s (((i 1).val / 256 * 96 + w) % 96) * 512 ≤ (i 0).val ∧ (i 0).val < vt s (((i 1).val / 256 * 96 + w) % 96) * 512 + 512
      rw [hmod, hb']; omega
    · show ((i 1).val / 256 * 96 + w) / 96 * 256 ≤ (i 1).val ∧ (i 1).val < ((i 1).val / 256 * 96 + w) / 96 * 256 + 256
      rw [hdiv]; omega

theorem codes_at (r) (h : RDat.FramePost (cfg0 a) (fun c => rdat a hck (V m) c) (V m) r) : r.2.mem ((c.tc : Thread nD τ).loc main_v64_0) = GCodes m s c := by
  haveI : ∀ e, Nonempty (Elt Ideal e) := fun e => inferInstance
  obtain ⟨after, hL, hA⟩ := RDat.FramePost.exists_exact h c
  refine (hA 5).trans (Dat.arrAt_eq_of_emb _ 5 _ (fun t hf y => ?_) fun i => ?_)
  · have hfl := (flush5 a s H t).mp hf
    let y' : S512x256.Idx := y
    let p : Fin 512 := y' 0
    let z : Fin 256 := y' 1
    have hr := row_lt s hs t p
    obtain ⟨v, hv, hb, h1, h2⟩ := covered s hs hr
    have hb' : vt s v = vt s (t.val % 96) := by rw [hb]; have := p.isLt; omega
    have hle : v ≤ t.val % 96 := by
      by_contra hc
      have hvt : vt s (t.val % 96) = vt s (t.val % 96 + 1) := le_antisymm (vt_mono s hs (Nat.le_succ _)) (hb' ▸ vt_mono s hs (by omega))
      rcases hfl with h | h
      · omega
      · exact h hvt.symm
    have e := leaves5 m a hck s hs H c t.val t rfl (after 5 t) (hL 5 t hf) v hle hb' p z h1 h2
    have ey := emb5 a s hs H t y'
    have ex' : (fun b => ⟨(y b).val, (y b).isLt⟩ : S512x256.Idx) = ix2 p z := by
      funext b; fin_cases b <;> rfl
    show after 5 t (fun b => ⟨(y b).val, _⟩) = GCodes m s c (((win0 a 5).rect t).emb y)
    refine (congrArg (after 5 t) ex').trans (e.trans ?_)
    exact (congrArg (GCodes m s c) ey).symm
  · exact cover5 a s hs H i

omit hs H in
theorem whole6 : (win0 a 6).WholeAt ⟨1055, show 1055 < 1056 by decide⟩ :=
  ⟨(flush6 a _).mpr rfl, fun t ht => Fin.ext ((flush6 a t).mp ht), fun b => by fin_cases b <;> exact ⟨rfl, rfl⟩⟩

theorem scales_at (r) (h : RDat.FramePost (cfg0 a) (fun c => rdat a hck (V m) c) (V m) r) : r.2.mem ((c.tc : Thread nD τ).loc main_v64_1) = GScales m s c := by
  haveI : ∀ e, Nonempty (Elt Ideal e) := fun e => inferInstance
  obtain ⟨X, hX, e⟩ := RDat.ArrAt.emb_eq_of_wholeAt ((h c).1 6) (t₀ := ⟨1055, show 1055 < 1056 by decide⟩) (whole6 a)
  funext i
  refine (e i).trans ?_
  obtain ⟨v, hv, hb, h1, h2⟩ := covered s hs (i 0).isLt
  have hi1 : (i 1).val < 22 := (i 1).isLt
  have e2 := leaves6 m a hck s hs H c 1055 ⟨1055, show 1055 < 1056 by decide⟩ rfl X hX ((i 1).val / 2 * 96 + v) (by show _ ≤ 1055; omega) (i 0) (i 1)
    (by rw [show ((i 1).val / 2 * 96 + v) % 96 = v by omega, show ((i 1).val / 2 * 96 + v) / 96 = (i 1).val / 2 by omega]; exact ⟨hb, h1, h2, rfl⟩)
  refine Eq.trans (congrArg X ?_) e2
  funext b; fin_cases b <;> rfl

end Cert.KernelIdeal.Hand
-- ==== Proof.RStep.lean ====
module

public import proofs.«01_k».proof.Proof.Gen.ReferenceIdeal.Value
public import proofs.«01_k».proof.Proof.Spec
public import Idealize.ShloMosaic.Lib.WordCmp
public import Idealize.ShloMosaic.Lib.MatmulPlain
public import Idealize.ShloMosaic.Lib.Pipeline.ValueKit.Tiles

/-!
The reference's product: for each of the 32 experts, the rows' product with its weights, kept for the rows that are the expert's.
-/

@[expose] public section

noncomputable section

namespace Cert.ReferenceIdeal.Hand

open Cert.ReferenceIdeal Cert.ReferenceIdeal.Gen Idealize.ShloMosaic Idealize.ShloMosaic.TcCoe
open MoeSpec Idealize.ShloMosaic.ValueIdx

/-- The rows' product with one expert's weights, kept for the rows that are the expert's. -/
def step (X : FVec Ideal S32768x2816 .bf16) (R : IVec S32768x1 32) (e : BitVec 32) (w : Vec Ideal S1x2816x5632 .fp8e4m3)
    (ws : Vec Ideal S1x2816x5632 .bf16) (b : Vec Ideal S1x5632 .f32) (prev : FVec Ideal S32768x5632 .f32) : FVec Ideal S32768x5632 .f32 :=
  select (broadcastTo S32768x5632 (shapeCast S32768x1 (cmpi .eq R (broadcast S32768x1 e)) shapeCasts_S32768x1_S32768x1) broadcasts_S32768x1_S32768x5632)
    (addf (matmul dot_S32768x2816_S2816x5632_S32768x5632_1_0_0_1_n_n none X
        (mulf (extf .bf16 (shapeCast S2816x5632 w shapeCasts_S1x2816x5632_S2816x5632) bitsLt_fp8e4m3_bf16) (shapeCast S2816x5632 ws shapeCasts_S1x2816x5632_S2816x5632))
        (constant S32768x5632 .f32 0x00000000#32))
      (broadcastTo S32768x5632 (shapeCast S1x5632 (shapeCast S5632 b shapeCasts_S1x5632_S5632) shapeCasts_S5632_S1x5632) broadcasts_S1x5632_S32768x5632))
    prev

theorem inbW (e : Fin 32) : ∀ a, (![e.val, 0, 0] : Fin 3 → Nat) a + S1x2816x5632.size a ≤ S32x2816x5632.size a := by
  revert e; decide
theorem inbB (e : Fin 32) : ∀ a, (![e.val, 0] : Fin 2 → Nat) a + S1x5632.size a ≤ S32x5632.size a := by
  revert e; decide

/-- An expert's weights. -/
abbrev rW (e : Fin 32) : Rect S32x2816x5632 := Rect.unit (s := S32x2816x5632) ![e.val, 0, 0] S1x2816x5632.size (inbW e)
/-- An expert's biases. -/
abbrev rB (e : Fin 32) : Rect S32x5632 := Rect.unit (s := S32x5632) ![e.val, 0] S1x5632.size (inbB e)

section
variable (x0 : Vec Ideal S32768x2816 .fp8e4m3) (x1 : Vec Ideal S32768x2816 .bf16) (x2 : Vec Ideal S32x2816x5632 .fp8e4m3)
  (x3 : Vec Ideal S32x2816x5632 .bf16) (x4 : Vec Ideal S32x5632 .f32) (x5 : Vec Ideal S32768x1 .i32)

/-- What the first `n` experts leave. -/
def acc (X : FVec Ideal S32768x2816 .bf16) (R : IVec S32768x1 32) : (n : Nat) → n ≤ 32 → FVec Ideal S32768x5632 .f32
  | 0, _ => broadcast S32768x5632 (Scalar.ofBits .f32 0x00000000#32)
  | n + 1, h => step X R (BitVec.ofNat 32 n) (View.ld x2 (rW ⟨n, h⟩)) (View.ld x3 (rW ⟨n, h⟩)) (View.ld x4 (rB ⟨n, h⟩)) (acc X R n (Nat.le_of_succ_le h))

set_option maxRecDepth 20000 in
theorem acc30 : k0_pay47 x0 x1 x2 x3 x4 x5 = acc x2 x3 x4 (k0_pay45 x0 x1 x2 x3 x4 x5) (k0_pay46 x0 x1 x2 x3 x4 x5) 30 (by decide) := rfl

set_option maxRecDepth 20000 in
theorem pay38_eq : k0_pay38 (k0_pay45 x0 x1 x2 x3 x4 x5) (k0_pay46 x0 x1 x2 x3 x4 x5) (k0_pay47 x0 x1 x2 x3 x4 x5) (k0_pay48 x0 x1 x2 x3 x4 x5)
      (k0_pay49 x0 x1 x2 x3 x4 x5) (View.ld x4 r0_63) (View.ld x2 r0_64) (View.ld x3 r0_64) (View.ld x4 r0_65)
    = shapeCast S32768x2816x2 (acc x2 x3 x4 (k0_pay45 x0 x1 x2 x3 x4 x5) (k0_pay46 x0 x1 x2 x3 x4 x5) 32 (by decide)) shapeCasts_S32768x5632_S32768x2816x2 := rfl

theorem step_ap (X : FVec Ideal S32768x2816 .bf16) (R : IVec S32768x1 32) (e : BitVec 32) (w : Vec Ideal S1x2816x5632 .fp8e4m3)
    (ws : Vec Ideal S1x2816x5632 .bf16) (b : Vec Ideal S1x5632 .f32) (prev : FVec Ideal S32768x5632 .f32) (r : Fin 32768) (q : Fin 5632) :
    step X R e w ws b prev (ix2 r q) = if R (ix2 r 0) = e then
      (K 0#32 + ∑ k : Fin 2816, X (ix2 r k) * (w (ix3 0 k q) * ws (ix3 0 k q)) : EReal) + b (ix2 0 q) else prev (ix2 r q) := by
  have hc : broadcastTo S32768x5632 (shapeCast S32768x1 (cmpi .eq R (broadcast S32768x1 e)) shapeCasts_S32768x1_S32768x1) broadcasts_S32768x1_S32768x5632 (ix2 r q)
      = BitVec.ofBool (decide (R (ix2 r 0) = e)) := by
    rw [broadcastTo_apply _ _ _ (ix2 r 0 : S32768x1.Idx) (by intro a; fin_cases a <;> rfl), shapeCast_apply _ _ _ (ix2 r 0 : S32768x1.Idx) rfl]
    show BitVec.ofBool (R (ix2 r 0) == e) = _
    rfl
  have hb : broadcastTo S32768x5632 (shapeCast S1x5632 (shapeCast S5632 b shapeCasts_S1x5632_S5632) shapeCasts_S5632_S1x5632) broadcasts_S1x5632_S32768x5632 (ix2 r q)
      = b (ix2 0 q) := by
    rw [broadcastTo_apply _ _ _ (ix2 0 q : S1x5632.Idx) (by intro a; fin_cases a <;> rfl),
      shapeCast_apply _ _ _ (ix1 q : S5632.Idx) (by simp [Shape.rowMajor_val_one, Shape.rowMajor_val_two, ix1, ix2]),
      shapeCast_apply _ _ _ (ix2 0 q : S1x5632.Idx) (by simp [Shape.rowMajor_val_one, Shape.rowMajor_val_two, ix1, ix2])]
  have hm := Ideal.matmul_plain_apply (M := 32768) (K := 2816) (N := 5632) none X
    (mulf (extf .bf16 (shapeCast S2816x5632 w shapeCasts_S1x2816x5632_S2816x5632) bitsLt_fp8e4m3_bf16) (shapeCast S2816x5632 ws shapeCasts_S1x2816x5632_S2816x5632))
    (constant S32768x5632 .f32 0x00000000#32) r q
  have hw : ∀ {φ : FTy} (y : FVec Ideal S1x2816x5632 φ) (k : Fin 2816), shapeCast S2816x5632 y shapeCasts_S1x2816x5632_S2816x5632 (ix2 k q) = y (ix3 0 k q) := fun y k =>
    shapeCast_apply _ _ _ (ix3 0 k q : S1x2816x5632.Idx) (by simp [Shape.rowMajor_val_three, Shape.rowMajor_val_two, ix3, ix2])
  have hs : (∑ k : Fin 2816, X (ix2 r k) * (mulf (F := Ideal) (φ := .bf16) (extf .bf16 (shapeCast S2816x5632 w shapeCasts_S1x2816x5632_S2816x5632) bitsLt_fp8e4m3_bf16)
        (shapeCast S2816x5632 ws shapeCasts_S1x2816x5632_S2816x5632)) (ix2 k q) : EReal) = ∑ k : Fin 2816, X (ix2 r k) * (w (ix3 0 k q) * ws (ix3 0 k q)) :=
    Finset.sum_congr rfl fun k _ => by
      show (X (ix2 r k) * (shapeCast S2816x5632 w shapeCasts_S1x2816x5632_S2816x5632 (ix2 k q) * shapeCast S2816x5632 ws shapeCasts_S1x2816x5632_S2816x5632 (ix2 k q)) : EReal) = _
      rw [hw (φ := .fp8e4m3) w k, hw (φ := .bf16) ws k]
  refine (congrArg (Scalar.select · _ _) hc).trans ((WordCmp.select_decide ..).trans ?_)
  refine if_congr Iff.rfl (congrArg₂ (fun a b : EReal => a + b) (hm.trans (congrArg (K 0#32 + ·) hs)) hb) rfl

theorem ldW {φ : EltTy} (y : Vec Ideal S32x2816x5632 φ) (e : Fin 32) (k : Fin 2816) (q : Fin 5632) : View.ld y (rW e) (ix3 0 k q) = y (ix3 e k q) :=
  congrArg y (funext fun a => Fin.ext (by
    fin_cases a
    · show e.val + 1 * 0 = e.val; omega
    · show 0 + 1 * k.val = k.val; omega
    · show 0 + 1 * q.val = q.val; omega))

theorem ldB (y : Vec Ideal S32x5632 .f32) (e : Fin 32) (q : Fin 5632) : View.ld y (rB e) (ix2 0 q) = y (ix2 e q) :=
  congrArg y (funext fun a => Fin.ext (by
    fin_cases a
    · show e.val + 1 * 0 = e.val; omega
    · show 0 + 1 * q.val = q.val; omega))

/-- A row's value is its own expert's. -/
theorem acc_ap (X : FVec Ideal S32768x2816 .bf16) (R : IVec S32768x1 32) (r : Fin 32768) (q : Fin 5632) (e : Fin 32) (he : R (ix2 r 0) = BitVec.ofNat 32 e.val) :
    ∀ (n : Nat) (hn : n ≤ 32), e.val < n → acc x2 x3 x4 X R n hn (ix2 r q)
      = (K 0#32 + ∑ k : Fin 2816, X (ix2 r k) * (x2 (ix3 e k q) * x3 (ix3 e k q)) : EReal) + x4 (ix2 e q) := by
  intro n
  induction n with
  | zero => intro _ h; omega
  | succ n ih =>
    intro hn h
    unfold acc
    rw [step_ap, he]
    by_cases hen : e.val = n
    · have : (⟨n, hn⟩ : Fin 32) = e := Fin.ext hen.symm
      rw [if_pos (by rw [hen]), this]
      refine congrArg₂ (fun a b : EReal => a + b) (congrArg (fun z : EReal => K 0#32 + z) (Finset.sum_congr rfl fun k _ => ?_)) (ldB x4 e q)
      exact congrArg (fun z : EReal => X (ix2 r k) * z) (congrArg₂ (fun a b : EReal => a * b) (ldW x2 e k q) (ldW x3 e k q))
    · rw [if_neg, ih _ (by omega)]
      intro hh
      have := congrArg BitVec.toNat hh
      rw [BitVec.toNat_ofNat, BitVec.toNat_ofNat, Nat.mod_eq_of_lt (by omega), Nat.mod_eq_of_lt (by omega)] at this
      exact hen this

end
end Cert.ReferenceIdeal.Hand
-- ==== Proof.Scale.lean ====
module

public import Idealize.ShloMosaic.Lib.WordCmp
public import proofs.«01_k».proof.Proof.Spec
public import Mathlib.Analysis.SpecialFunctions.Pow.Real

/-!
The search for an exponent field finds the power of two: the kernel's scale is the least power of two above, and its reciprocal is one over it.
-/

@[expose] public section

noncomputable section

namespace MoeSpec

open Idealize.ShloMosaic

/-- The pattern of exponent field `k`. -/
def bv (k : Nat) : BitVec 32 := BitVec.ofNat 32 (k * 8388608)

theorem bv_add (a b : Nat) : bv a + bv b = bv (a + b) := by
  unfold bv; rw [← BitVec.ofNat_add, ← Nat.add_mul]

theorem bv_fields : ∀ k : Fin 256, ((bv k.val).extractLsb' 31 1 == 1#1) = false ∧ ((bv k.val).extractLsb' 23 8).toNat = k.val ∧ ((bv k.val).extractLsb' 0 23).toNat = 0 := by
  decide +kernel

/-- The number an exponent field denotes. -/
theorem K_bv (k : Nat) (h0 : 1 ≤ k) (h1 : k ≤ 254) : K (bv k) = (((2 : ℝ) ^ ((k : ℤ) - 127) : ℝ) : EReal) := by
  obtain ⟨e1, e2, e3⟩ := bv_fields ⟨k, by omega⟩
  simp only at e1 e2 e3
  show Ideal.ieee 8 23 (bv k) = _
  unfold Ideal.ieee
  simp only [show 8 + 23 = 31 from rfl, e1, e2, e3]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num)]
  congr 1
  norm_num

theorem K_bv0 : K (bv 0) = 0 := by show Ideal.ofBits .f32 0x00000000#32 = 0; simp

theorem K_top : K (bv 255) = ⊤ := by
  show Ideal.ofBits .f32 0x7F800000#32 = ⊤
  simp [Ideal.ofBits, Ideal.ieee]

theorem K_one : K 0x3F800000#32 = ((1 : ℝ) : EReal) := by
  refine (congrArg K (by decide : 0x3F800000#32 = bv 127)).trans ((K_bv 127 (by omega) (by omega)).trans ?_)
  norm_num

theorem K_mono (j k : Nat) (h0 : 1 ≤ j) (hjk : j ≤ k) (h1 : k ≤ 254) : K (bv j) ≤ K (bv k) := by
  rw [K_bv j h0 (by omega), K_bv k (by omega) h1]
  exact EReal.coe_le_coe_iff.mpr (zpow_le_zpow_right₀ (by norm_num) (by omega))

/-- Below the power of exponent field 253, one field says which powers a number reaches. -/
theorem exists_field (y : EReal) (hy : y < K (bv 253)) : ∃ N : Nat, N ≤ 252 ∧ ∀ k, 1 ≤ k → k ≤ 255 → (K (bv k) ≤ y ↔ k ≤ N) := by
  classical
  refine ⟨Nat.findGreatest (fun k => 1 ≤ k ∧ K (bv k) ≤ y) 252, Nat.findGreatest_le _, fun k h0 h1 => ⟨fun h => ?_, fun h => ?_⟩⟩
  · have : k ≤ 252 := by
      by_contra hc
      rcases Nat.lt_or_ge k 255 with h2 | h2
      · exact absurd hy (not_lt.mpr ((K_mono 253 k (by omega) (by omega) (by omega)).trans h))
      · have : k = 255 := by omega
        subst this
        rw [K_top] at h
        exact absurd (lt_of_lt_of_le hy le_top) (not_lt.mpr h)
    exact Nat.le_findGreatest this ⟨h0, h⟩
  · have hpos : Nat.findGreatest (fun k => 1 ≤ k ∧ K (bv k) ≤ y) 252 ≠ 0 := by omega
    have hs := Nat.findGreatest_of_ne_zero rfl hpos
    exact (K_mono k _ h0 h ((Nat.findGreatest_le _).trans (by omega))).trans hs.2

section
variable (y : EReal) (N : Nat) (hN : ∀ k, 1 ≤ k → k ≤ 255 → (K (bv k) ≤ y ↔ k ≤ N))
include hN

theorem fold_bits (bits : List Nat) : ∀ j : Nat, j + bits.sum ≤ 255 → (∀ b ∈ bits, 0 < b) →
    (bits.map bv).foldl (bitStep y) (bv j) = bv (bits.foldl (fun e b => if e + b ≤ N then e + b else e) j) := by
  induction bits with
  | nil => intro j _ _; rfl
  | cons b bs ih =>
    intro j hj hb
    have hb0 := hb b (by simp)
    simp only [List.sum_cons] at hj
    simp only [List.map_cons, List.foldl_cons]
    have e : bitStep y (bv j) (bv b) = bv (if j + b ≤ N then j + b else j) := by
      unfold bitStep
      rw [bv_add]
      have := hN (j + b) (by omega) (by omega)
      by_cases h : j + b ≤ N
      · have hk := this.mpr h
        simp [Scalar.select, Ideal.cmp, hk, h]
      · have hk : ¬ K (bv (j + b)) ≤ y := fun hh => h (this.mp hh)
        simp [Scalar.select, Ideal.cmp, hk, h]
    rw [e]
    split
    · exact ih _ (by omega) fun b' h' => hb b' (by simp [h'])
    · exact ih _ (by omega) fun b' h' => hb b' (by simp [h'])

omit hN in
theorem search : ∀ N : Fin 253, [128, 64, 32, 16, 8, 4, 2, 1].foldl (fun e b => if e + b ≤ N.val then e + b else e) 0 = N.val := by
  decide +kernel

theorem eb_eq (h : N ≤ 252) : eb y = bv N := by
  have := fold_bits y N hN [128, 64, 32, 16, 8, 4, 2, 1] 0 (by decide) (by decide)
  rw [search ⟨N, by omega⟩] at this
  exact this

omit hN in
theorem plain_bv : ∀ N : Fin 253, plain (bv N.val) = BitVec.ofBool (decide (N.val = 0)) := by decide +kernel

theorem kscale_eq (h : N ≤ 252) : kscale (eb y) = if N = 0 then K 0x3F800000#32 else K (bv (N + 1)) := by
  rw [eb_eq y N hN h]
  unfold kscale
  rw [plain_bv ⟨N, by omega⟩]
  have : bv N + 8388608#32 = bv (N + 1) := bv_add N 1
  rw [this]
  by_cases h0 : N = 0 <;> simp [Scalar.select, h0]

omit hN in
theorem sub_bv : ∀ N : Fin 253, 2122317824#32 - bv N.val = bv (253 - N.val) := by decide +kernel

theorem kinv_eq (h : N ≤ 252) : kinv (eb y) = Ideal.div (K 0x3F800000#32) (kscale (eb y)) := by
  rw [kscale_eq y N hN h, eb_eq y N hN h]
  unfold kinv
  rw [plain_bv ⟨N, by omega⟩, sub_bv ⟨N, by omega⟩]
  by_cases h0 : N = 0
  · rw [if_pos h0, WordCmp.select_decide, if_pos h0]
    rw [K_one, Ideal.div, if_neg (by norm_num), ← EReal.coe_inv, ← EReal.coe_mul]
    norm_num
  · rw [if_neg h0, WordCmp.select_decide, if_neg h0]
    rw [K_one, K_bv (N + 1) (by omega) (by omega), K_bv (253 - N) (by omega) (by omega), Ideal.div, if_neg, ← EReal.coe_inv, ← EReal.coe_mul]
    · rw [one_mul, ← zpow_neg]
      congr 2
      push_cast [Nat.cast_sub (show N ≤ 253 by omega)]
      ring
    · rw [← EReal.coe_zero, EReal.coe_eq_coe_iff]
      positivity
end

/-- The least power of two above, as the reference spells it. -/
def rscale (y : EReal) : EReal :=
  Scalar.select (Ideal.cmp .olt y (K 0x00800000#32)) (K 0x3F800000#32)
    (Finset.univ.fold min (K 0x7F800000#32) fun l : Fin 253 =>
      Scalar.select (Ideal.cmp .olt y (Ideal.exp2 (((l.val : ℝ) : EReal) - K 0x42FA0000#32)))
        (Ideal.exp2 (((l.val : ℝ) : EReal) - K 0x42FA0000#32)) (K 0x7F800000#32))

theorem K_125 : K 0x42FA0000#32 = ((125 : ℝ) : EReal) := by
  simp [K, Ideal.ofBits, Ideal.ieee, -EReal.coe_mul]; norm_num

theorem power_eq (l : Fin 253) : Ideal.exp2 (((l.val : ℝ) : EReal) - K 0x42FA0000#32) = K (bv (l.val + 2)) := by
  rw [K_125, ← EReal.coe_sub, Ideal.exp2_coe, K_bv _ (by omega) (by omega)]
  congr 1
  have : ((l.val : ℝ) - 125) = (((l.val : ℤ) - 125 : ℤ) : ℝ) := by push_cast; ring
  rw [this, Real.rpow_eq_pow, Real.rpow_intCast]
  congr 1
  push_cast
  ring

theorem rscale_eq (y : EReal) (hy : y < K (bv 253)) : kscale (eb y) = rscale y := by
  obtain ⟨N, h, hN⟩ := exists_field y hy
  rw [kscale_eq y N hN h]
  unfold rscale
  simp only [power_eq]
  have e1 : K 0x00800000#32 = K (bv 1) := rfl
  have e255 : K 0x7F800000#32 = ⊤ := K_top
  rw [e1, e255]
  have h1 := hN 1 le_rfl (by omega)
  by_cases h0 : N = 0
  · have : y < K (bv 1) := not_le.mp fun hh => by have := h1.mp hh; omega
    simp [Scalar.select, Ideal.cmp, this, h0]
  · have : ¬ y < K (bv 1) := not_lt.mpr (h1.mpr (by omega))
    rw [if_neg h0]
    simp only [Scalar.select, Ideal.cmp, this, decide_false, BitVec.ofBool, Bool.cond_false]
    rw [if_neg (by decide)]
    apply le_antisymm
    · rw [Finset.le_fold_min]
      refine ⟨le_top, fun l _ => ?_⟩
      by_cases hl : y < K (bv (l.val + 2))
      · simp only [hl, decide_true, Bool.cond_true]
        rw [if_pos (by decide)]
        have : ¬ (l.val + 2 ≤ N) := fun hh => absurd ((hN (l.val + 2) (by omega) (by omega)).mpr hh) (not_le.mpr hl)
        exact K_mono _ _ (by omega) (by omega) (by omega)
      · simp only [hl, decide_false, Bool.cond_false]
        rw [if_neg (by decide)]
        exact le_top
    · rw [Finset.fold_min_le]
      refine Or.inr ⟨⟨N - 1, by omega⟩, Finset.mem_univ _, ?_⟩
      have e : N - 1 + 2 = N + 1 := by omega
      simp only [e]
      have hl : y < K (bv (N + 1)) := not_le.mp fun hh => by have := (hN (N + 1) (by omega) (by omega)).mp hh; omega
      simp only [hl, decide_true, Bool.cond_true]
      rw [if_pos (by decide)]

theorem kinv_div (y : EReal) (hy : y < K (bv 253)) : kinv (eb y) = Ideal.div (K 0x3F800000#32) (rscale y) := by
  obtain ⟨N, h, hN⟩ := exists_field y hy
  rw [kinv_eq y N hN h, rscale_eq y hy]

end MoeSpec
-- ==== Proof.RBody.lean ====
module

public import proofs.«01_k».proof.Proof.RStep
public import proofs.«01_k».proof.Proof.Scale

/-!
The reference's activation and quantization, read at an index.
-/

@[expose] public section

noncomputable section

namespace Cert.ReferenceIdeal.Hand

open Cert.ReferenceIdeal Cert.ReferenceIdeal.Gen Idealize.ShloMosaic Idealize.ShloMosaic.TcCoe
open MoeSpec Idealize.ShloMosaic.ValueIdx

/-- One of the two columns of each pair. -/
def colM (Y : FVec Ideal S32768x5632 .f32) (z : Fin 2) (h : S32768x2816x2.Slices ![0, 0, z.val] S32768x2816x1) : FVec Ideal S32768x2816 .f32 :=
  shapeCast S32768x2816 (extractStridedSlice S32768x2816x1 ![0, 0, z.val] (shapeCast S32768x2816x2 Y shapeCasts_S32768x5632_S32768x2816x2) h)
    shapeCasts_S32768x2816x1_S32768x2816

/-- The clipped gate. -/
def gateM (Y : FVec Ideal S32768x5632 .f32) : FVec Ideal S32768x2816 .f32 :=
  minimumf (colM Y 0 slices_S32768x2816x2_o0_0_0_S32768x2816x1) (broadcast S32768x2816 (Scalar.ofBits .f32 0x40E00000#32))

/-- The clipped up value, plus one, times the gate. -/
def upM (Y : FVec Ideal S32768x5632 .f32) : FVec Ideal S32768x2816 .f32 :=
  mulf (addf (minimumf (broadcast S32768x2816 (Scalar.ofBits .f32 0x40E00000#32))
    (maximumf (broadcast S32768x2816 (Scalar.ofBits .f32 0xC0E00000#32)) (colM Y 1 slices_S32768x2816x2_o0_0_1_S32768x2816x1)))
    (broadcast S32768x2816 (Scalar.ofBits .f32 0x3F800000#32))) (gateM Y)

/-- The sigmoid's argument. -/
def argM (Y : FVec Ideal S32768x5632 .f32) : FVec Ideal S32768x2816 .f32 :=
  mulf (broadcast S32768x2816 (Scalar.ofBits .f32 0x3FD9DB23#32)) (gateM Y)

theorem colM_ap (Y : FVec Ideal S32768x5632 .f32) (z : Fin 2) (h) (r : Fin 32768) (j : Fin 2816) (q : Fin 5632) (hq : q.val = 2 * j.val + z.val) :
    colM Y z h (ix2 r j) = Y (ix2 r q) := by
  unfold colM
  rw [shapeCast_apply _ _ _ (ix3 r j 0 : S32768x2816x1.Idx) (by rw [Shape.rowMajor_val_three, Shape.rowMajor_val_two]; show (r.val * 2816 + j.val) * 1 + 0 = r.val * 2816 + j.val; omega),
    extractStridedSlice_apply _ _ _ _ (ix3 r j z : S32768x2816x2.Idx) (by
      intro a; fin_cases a
      · show r.val = 0 + r.val; omega
      · show j.val = 0 + j.val; omega
      · show z.val = z.val + 0; omega),
    shapeCast_apply _ _ _ (ix2 r q : S32768x5632.Idx) (by rw [Shape.rowMajor_val_three, Shape.rowMajor_val_two]; show r.val * 5632 + q.val = (r.val * 2816 + j.val) * 2 + z.val; omega)]

theorem pay42_ap (Y : FVec Ideal S32768x5632 .f32) (r : Fin 32768) (g : Fin 22) (l : Fin 128) :
    k0_pay42 (upM Y) (argM Y) (ix3 r g l)
      = act (Y (ix2 r ⟨256 * g.val + 2 * l.val, by omega⟩)) (Y (ix2 r ⟨256 * g.val + 2 * l.val + 1, by omega⟩)) := by
  unfold k0_pay42
  refine (shapeCast_apply _ _ _ (ix2 r ⟨128 * g.val + l.val, by omega⟩ : S32768x2816.Idx)
    (by rw [Shape.rowMajor_val_three, Shape.rowMajor_val_two]; show r.val * 2816 + (128 * g.val + l.val) = (r.val * 22 + g.val) * 128 + l.val; omega)).trans ?_
  have e0 := colM_ap Y 0 slices_S32768x2816x2_o0_0_0_S32768x2816x1 r ⟨128 * g.val + l.val, by omega⟩ ⟨256 * g.val + 2 * l.val, by omega⟩
    (by show 256 * g.val + 2 * l.val = 2 * (128 * g.val + l.val) + 0; omega)
  have e1 := colM_ap Y 1 slices_S32768x2816x2_o0_0_1_S32768x2816x1 r ⟨128 * g.val + l.val, by omega⟩ ⟨256 * g.val + 2 * l.val + 1, by omega⟩
    (by show 256 * g.val + 2 * l.val + 1 = 2 * (128 * g.val + l.val) + 1; omega)
  rw [← e0, ← e1]
  rfl

section
variable (P : FVec Ideal S32768x22x128 .f32)

/-- The largest magnitudes over 448. -/
def yM : FVec Ideal S32768x22x1 .f32 :=
  mulf (shapeCast S32768x22x1 (multiReduction .maximumf [2] S32768x22 (absf P) 0xFF800000#32 reduces_S32768x22x128_S32768x22 (.inl rfl) rfl)
    shapeCasts_S32768x22_S32768x22x1) (broadcast S32768x22x1 (Scalar.ofBits .f32 0x3B124925#32))

/-- The powers of two. -/
def powM : FVec Ideal S1x1x253 .f32 :=
  exp2 (subf (sitofp .f32 (iota .tc S1x1x253 32 [2] iota_S1x1x253_d2_w32)) (broadcast S1x1x253 (Scalar.ofBits .f32 0x42FA0000#32)))

/-- The powers above, infinity for the others. -/
def candM (y : FVec Ideal S32768x22x1 .f32) (pw : FVec Ideal S1x1x253 .f32) : FVec Ideal S32768x22x253 .f32 :=
  select (cmpf .olt (broadcastTo S32768x22x253 y broadcasts_S32768x22x1_S32768x22x253) (broadcastTo S32768x22x253 pw broadcasts_S1x1x253_S32768x22x253))
    (broadcastTo S32768x22x253 (shapeCast S1x1x253 pw shapeCasts_S1x1x253_S1x1x253) broadcasts_S1x1x253_S32768x22x253)
    (broadcast S32768x22x253 (Scalar.ofBits .f32 0x7F800000#32))

/-- The least of the powers above. -/
def leastM (x : FVec Ideal S32768x22x253 .f32) : FVec Ideal S32768x22x1 .f32 :=
  shapeCast S32768x22x1 (multiReduction .minimumf [2] S32768x22 x 0x7F800000#32 reduces_S32768x22x253_S32768x22 (.inl rfl) rfl) shapeCasts_S32768x22_S32768x22x1

/-- The scales. -/
def scaleM (y : FVec Ideal S32768x22x1 .f32) : FVec Ideal S32768x22x1 .f32 :=
  select (cmpf .olt y (broadcast S32768x22x1 (Scalar.ofBits .f32 0x00800000#32))) (broadcast S32768x22x1 (Scalar.ofBits .f32 0x3F800000#32)) (leastM (candM y powM))

/-- The codes. -/
def codeM (S : FVec Ideal S32768x22x1 .f32) : FVec Ideal S32768x22x128 .f32 :=
  minimumf (broadcast S32768x22x128 (Scalar.ofBits .f32 0x43E00000#32)) (maximumf (broadcast S32768x22x128 (Scalar.ofBits .f32 0xC3E00000#32))
    (mulf P (broadcastTo S32768x22x128 (divf (broadcast S32768x22x1 (Scalar.ofBits .f32 0x3F800000#32)) S) broadcasts_S32768x22x1_S32768x22x128)))

theorem cast22 {α : Type} (x : S32768x22.Idx → α) (r : Fin 32768) (g : Fin 22) :
    shapeCast S32768x22x1 x shapeCasts_S32768x22_S32768x22x1 (ix3 r g 0) = x (ix2 r g) :=
  shapeCast_apply _ _ _ _ (by rw [Shape.rowMajor_val_three, Shape.rowMajor_val_two]; show r.val * 22 + g.val = (r.val * 22 + g.val) * 1 + 0; omega)

theorem bc22 {α : Type} (x : S32768x22x1.Idx → α) (r : Fin 32768) (g : Fin 22) (l : Fin 253) :
    broadcastTo S32768x22x253 x broadcasts_S32768x22x1_S32768x22x253 (ix3 r g l) = x (ix3 r g 0) :=
  broadcastTo_apply _ _ _ _ (by intro a; fin_cases a <;> rfl)

theorem bc22' {α : Type} (x : S32768x22x1.Idx → α) (r : Fin 32768) (g : Fin 22) (l : Fin 128) :
    broadcastTo S32768x22x128 x broadcasts_S32768x22x1_S32768x22x128 (ix3 r g l) = x (ix3 r g 0) :=
  broadcastTo_apply _ _ _ _ (by intro a; fin_cases a <;> rfl)

theorem bc253 {α : Type} (x : S1x1x253.Idx → α) (r : Fin 32768) (g : Fin 22) (l : Fin 253) :
    broadcastTo S32768x22x253 x broadcasts_S1x1x253_S32768x22x253 (ix3 r g l) = x (ix3 0 0 l) :=
  broadcastTo_apply _ _ _ _ (by intro a; fin_cases a <;> rfl)

theorem bc253' {α : Type} (x : S1x1x253.Idx → α) (r : Fin 32768) (g : Fin 22) (l : Fin 253) :
    broadcastTo S32768x22x253 (shapeCast S1x1x253 x shapeCasts_S1x1x253_S1x1x253) broadcasts_S1x1x253_S32768x22x253 (ix3 r g l) = x (ix3 0 0 l) :=
  (bc253 _ r g l).trans (shapeCast_apply _ _ _ _ rfl)

theorem lift128 (r : Fin 32768) (g : Fin 22) (l : Fin 128) : reduces_S32768x22x128_S32768x22.lift (ix2 r g) l = ix3 r g l := by
  funext a; fin_cases a <;> rfl
theorem lift253 (r : Fin 32768) (g : Fin 22) (l : Fin 253) : reduces_S32768x22x253_S32768x22.lift (ix2 r g) l = ix3 r g l := by
  funext a; fin_cases a <;> rfl

theorem max_single (r : Fin 32768) (g : Fin 22) :
    multiReduction .maximumf [2] S32768x22 P 0xFF800000#32 reduces_S32768x22x128_S32768x22 (.inl rfl) rfl (ix2 r g)
      = Finset.univ.fold max (K 0xFF800000#32) fun l : Fin 128 => P (ix3 r g l) :=
  (Ideal.multiReduction_maximumf_single P _ reduces_S32768x22x128_S32768x22 _ _ (ix2 r g)).trans
    (Finset.fold_congr fun l _ => congrArg P (lift128 r g l))

theorem over_ap (x : FVec Ideal S32768x22x1 .f32) (i : S32768x22x1.Idx) :
    mulf x (broadcast S32768x22x1 (Scalar.ofBits .f32 0x3B124925#32)) i = x i * K 0x3B124925#32 := rfl

theorem absf_ap (i : S32768x22x128.Idx) : absf P i = max (P i) (-(P i)) := rfl

theorem yM_ap (r : Fin 32768) (g : Fin 22) : yM P (ix3 r g 0) = lev fun l => P (ix3 r g l) := by
  unfold yM lev top
  rw [over_ap, cast22, max_single]
  exact congrArg (· * K 0x3B124925#32) (Finset.fold_congr fun l _ => absf_ap P (ix3 r g l))

theorem powM_ap (l : Fin 253) : powM (ix3 0 0 l) = Ideal.exp2 (((l.val : ℝ) : EReal) - K 0x42FA0000#32) := by
  have e : ((iota .tc S1x1x253 32 [2] iota_S1x1x253_d2_w32 (ix3 0 0 l)).toInt : ℝ) = (l.val : ℝ) := by
    have : iota .tc S1x1x253 32 [2] iota_S1x1x253_d2_w32 (ix3 0 0 l) = BitVec.ofNat 32 l.val := by revert l; decide +kernel
    rw [this, BitVec.toInt_eq_toNat_of_lt (by rw [BitVec.toNat_ofNat]; omega), BitVec.toNat_ofNat, Nat.mod_eq_of_lt (by omega)]
    norm_num
  rw [← e]
  rfl

theorem candM_ap (y : FVec Ideal S32768x22x1 .f32) (pw : FVec Ideal S1x1x253 .f32) (r : Fin 32768) (g : Fin 22) (l : Fin 253) : candM y pw (ix3 r g l)
    = Scalar.select (Ideal.cmp .olt (y (ix3 r g 0)) (pw (ix3 0 0 l))) (pw (ix3 0 0 l)) (K 0x7F800000#32) := by
  have e : candM y pw (ix3 r g l) = Scalar.select (Ideal.cmp .olt (broadcastTo S32768x22x253 y broadcasts_S32768x22x1_S32768x22x253 (ix3 r g l))
      (broadcastTo S32768x22x253 pw broadcasts_S1x1x253_S32768x22x253 (ix3 r g l)))
      (broadcastTo S32768x22x253 (shapeCast S1x1x253 pw shapeCasts_S1x1x253_S1x1x253) broadcasts_S1x1x253_S32768x22x253 (ix3 r g l)) (K 0x7F800000#32) := rfl
  rw [e, bc22, bc253, bc253']

theorem min_single (x : FVec Ideal S32768x22x253 .f32) (r : Fin 32768) (g : Fin 22) :
    multiReduction .minimumf [2] S32768x22 x 0x7F800000#32 reduces_S32768x22x253_S32768x22 (.inl rfl) rfl (ix2 r g)
      = Finset.univ.fold min (K 0x7F800000#32) fun l : Fin 253 => x (ix3 r g l) :=
  ((multiReduction_minimumf_eq_fold x _ reduces_S32768x22x253_S32768x22 _ _ (ix2 r g)).trans
    (reduces_S32768x22x253_S32768x22.fold_filter_drop_single _ _ x (ix2 r g))).trans
    (Finset.fold_congr fun l _ => congrArg x (lift253 r g l))

theorem scaleM_ap (y : FVec Ideal S32768x22x1 .f32) (r : Fin 32768) (g : Fin 22) : scaleM y (ix3 r g 0) = rscale (y (ix3 r g 0)) := by
  have e : scaleM y (ix3 r g 0) = Scalar.select (Ideal.cmp .olt (y (ix3 r g 0)) (K 0x00800000#32)) (K 0x3F800000#32) (leastM (candM y powM) (ix3 r g 0)) := rfl
  have e2 : leastM (candM y powM) (ix3 r g 0) = Finset.univ.fold min (K 0x7F800000#32) fun l : Fin 253 => candM y powM (ix3 r g l) :=
    (cast22 _ r g).trans (min_single _ r g)
  rw [e, e2]
  unfold rscale
  refine congrArg (Scalar.select _ _) (Finset.fold_congr fun l _ => ?_)
  rw [candM_ap, powM_ap]

theorem codeM_ap (S : FVec Ideal S32768x22x1 .f32) (r : Fin 32768) (g : Fin 22) (l : Fin 128) :
    codeM P S (ix3 r g l) = clip (P (ix3 r g l) * Ideal.div (K 0x3F800000#32) (S (ix3 r g 0))) := by
  have e : codeM P S (ix3 r g l) = clip (P (ix3 r g l) * broadcastTo S32768x22x128 (divf (broadcast S32768x22x1 (Scalar.ofBits .f32 0x3F800000#32)) S)
    broadcasts_S32768x22x1_S32768x22x128 (ix3 r g l)) := rfl
  rw [e, bc22']
  rfl

theorem pay43_eq (A B : FVec Ideal S32768x2816 .f32) : k0_pay43 A B = scaleM (yM (k0_pay42 A B)) := rfl

theorem pay44_eq (A B : FVec Ideal S32768x2816 .f32) : k0_pay44 A B
    = shapeCast S32768x2816 (codeM (k0_pay42 A B) (scaleM (yM (k0_pay42 A B)))) shapeCasts_S32768x22x128_S32768x2816 := rfl

theorem cast2816 {α : Type} (x : S32768x22x128.Idx → α) (r : Fin 32768) (c : Fin 2816) :
    shapeCast S32768x2816 x shapeCasts_S32768x22x128_S32768x2816 (ix2 r c) = x (ix3 r ⟨c.val / 128, by omega⟩ ⟨c.val % 128, Nat.mod_lt _ (by decide)⟩) :=
  shapeCast_apply _ _ _ _ (by rw [Shape.rowMajor_val_three, Shape.rowMajor_val_two]; show (r.val * 22 + c.val / 128) * 128 + c.val % 128 = r.val * 2816 + c.val; omega)

end
end Cert.ReferenceIdeal.Hand
-- ==== Proof.RHost.lean ====
module

public import proofs.«01_k».proof.Proof.Gen.ReferenceIdeal.Value
public import proofs.«01_k».proof.Proof.Tables
public import Idealize.ShloMosaic.Lib.StableHlo.Run
public import Idealize.ShloMosaic.Lib.MatmulPlain
public import Idealize.ShloMosaic.Lib.Pipeline.ValueKit.Tiles

/-!
What the reference's host operations hand to its body: the scales spread over the codes they belong to, and each row's expert.
-/

@[expose] public section

noncomputable section

namespace Cert.ReferenceIdeal.Hand

open Cert.ReferenceIdeal Cert.ReferenceIdeal.Gen Idealize.ShloMosaic Idealize.ShloMosaic.TcCoe
open Idealize.ShloMosaic.ValueIdx Idealize.ShloMosaic.WordCmp MoeVisits
open Idealize.ShloMosaic.Routing (bcCol bcRows bcCols bc0 reduce_count iota1_ap)

/-- The rows' scales, spread. -/
def xsM (x : Vec Ideal S32768x22 .f32) : Vec Ideal S32768x2816 .bf16 :=
  shapeCast S32768x2816 (broadcastInDim S32768x22x128 ![0, 1] bcast_S32768x22_S32768x22x128_0_1 (truncf (F := Ideal) .bf16 x bitsLt_bf16_f32 : FVec Ideal S32768x22 .bf16))
    shapeCasts_S32768x22x128_S32768x2816

/-- The weights' scales, spread. -/
def wsM (x : Vec Ideal S32x22x44 .f32) : Vec Ideal S32x2816x5632 .bf16 :=
  shapeCast S32x2816x5632 (broadcastInDim S32x2816x44x128 ![0, 1, 2] bcast_S32x2816x44_S32x2816x44x128_0_1_2
    (shapeCast S32x2816x44 (broadcastInDim S32x22x128x44 ![0, 1, 3] bcast_S32x22x44_S32x22x128x44_0_1_3 (truncf (F := Ideal) .bf16 x bitsLt_bf16_f32 : FVec Ideal S32x22x44 .bf16))
      shapeCasts_S32x22x128x44_S32x2816x44)) shapeCasts_S32x2816x44x128_S32x2816x5632

/-- Each row's expert. -/
def rowM (x : IVec S32 32) : IVec S32768x1 32 :=
  broadcastInDim S32768x1 ![0] bcast_S32768_S32768x1_0
    (minsi (Host.reduce IntOp.addi (extui 32 (cmpi .sge
        (broadcastInDim S32768x32 ![0, 1] bcast_S32768x1_S32768x32_0_1 (broadcastInDim S32768x1 ![0] bcast_S32768_S32768x1_0 (iotaInDim S32768 32 0)))
        (broadcastInDim S32768x32 ![0, 1] bcast_S1x32_S32768x32_0_1 (broadcastInDim S1x32 ![1] bcast_S32_S1x32_1 (MoeTables.cum x)))) natLt_1_32)
      (constantI S_ 32 0#32) reducesTo_S32768x32_S32768_d1 h_S_) (broadcastInDim S32768 ![] bcast_S_S32768 (constantI S_ 32 31#32)))

section Casts
variable (h₁ h₂ h₃)

/-! A typed reference to a literal buffer reads and writes it as it is. -/

theorem ob_arg5 (x) : (StableHlo.TRef.of main_arg5 h₁ h₂ h₃ : StableHlo.TRef sig ⟨S32, .i32⟩).ofBuf (Val := Elt Ideal) x = x := rfl
theorem tb_v8 (x) : (StableHlo.TRef.of main_v8 h₁ h₂ h₃ : StableHlo.TRef sig ⟨S32, .i32⟩).toBuf (Val := Elt Ideal) x = x := rfl
theorem ob_c (x) : (StableHlo.TRef.of main_call0_call0_c h₁ h₂ h₃ : StableHlo.TRef sig ⟨S_, .i32⟩).ofBuf (Val := Elt Ideal) x = x := rfl
theorem tb_c (x) : (StableHlo.TRef.of main_call0_call0_c h₁ h₂ h₃ : StableHlo.TRef sig ⟨S_, .i32⟩).toBuf (Val := Elt Ideal) x = x := rfl
theorem ob_v0 (x) : (StableHlo.TRef.of main_call0_call0_v0 h₁ h₂ h₃ : StableHlo.TRef sig ⟨S_, .i32⟩).ofBuf (Val := Elt Ideal) x = x := rfl
theorem tb_v0 (x) : (StableHlo.TRef.of main_call0_call0_v0 h₁ h₂ h₃ : StableHlo.TRef sig ⟨S_, .i32⟩).toBuf (Val := Elt Ideal) x = x := rfl

end Casts

variable (m : (ℓ : Loc nD τ sig) → Buf (Elt Ideal) ℓ) (c : Dev nD)

set_option maxHeartbeats 1000000 in
theorem V_xs : V m c main_v2 = xsM (m ((c : Thread nD τ).loc main_arg1)) := by
  simp only [V, List.flatten_cons, List.flatten_nil, List.append_nil, List.cons_append, List.nil_append]
  after_results_simp
  rfl

set_option maxHeartbeats 1000000 in
theorem V_ws : V m c main_v7 = wsM (m ((c : Thread nD τ).loc main_arg3)) := by
  simp only [V, List.flatten_cons, List.flatten_nil, List.append_nil, List.cons_append, List.nil_append]
  after_results_simp
  rfl

set_option maxHeartbeats 1000000 in
theorem V_row : V m c main_v19 = rowM (m ((c : Thread nD τ).loc main_arg5)) := by
  simp only [V, List.flatten_cons, List.flatten_nil, List.append_nil, List.cons_append, List.nil_append]
  after_results_simp
  simp only [StableHlo.TRef.ofBuf_toBuf, id, ob_arg5, tb_v8, ob_c, tb_c, ob_v0, tb_v0]
  rfl

theorem xsM_ap (x : Vec Ideal S32768x22 .f32) (r : Fin 32768) (k : Fin 2816) : xsM x (ix2 r k) = x (ix2 r ⟨k.val / 128, by omega⟩) := by
  unfold xsM
  rw [shapeCast_apply _ _ _ (ix3 r ⟨k.val / 128, by omega⟩ ⟨k.val % 128, Nat.mod_lt _ (by decide)⟩ : S32768x22x128.Idx) (by
      rw [Shape.rowMajor_val_three, Shape.rowMajor_val_two]; show (r.val * 22 + k.val / 128) * 128 + k.val % 128 = r.val * 2816 + k.val; omega),
    broadcastInDim_apply _ _ _ _ (ix2 r ⟨k.val / 128, by omega⟩ : S32768x22.Idx) (by intro a; fin_cases a <;> rfl)]
  rfl

theorem wsM_ap (x : Vec Ideal S32x22x44 .f32) (e : Fin 32) (k : Fin 2816) (q : Fin 5632) :
    wsM x (ix3 e k q) = x (ix3 e ⟨k.val / 128, by omega⟩ ⟨q.val / 128, by omega⟩) := by
  unfold wsM
  rw [shapeCast_apply _ _ _ (ix4 e k ⟨q.val / 128, by omega⟩ ⟨q.val % 128, Nat.mod_lt _ (by decide)⟩ : S32x2816x44x128.Idx) (by
      rw [Shape.rowMajor_val_four, Shape.rowMajor_val_three]
      show ((e.val * 2816 + k.val) * 44 + q.val / 128) * 128 + q.val % 128 = (e.val * 2816 + k.val) * 5632 + q.val; omega),
    broadcastInDim_apply _ _ _ _ (ix3 e k ⟨q.val / 128, by omega⟩ : S32x2816x44.Idx) (by intro a; fin_cases a <;> rfl),
    shapeCast_apply _ _ _ (ix4 e ⟨k.val / 128, by omega⟩ ⟨k.val % 128, Nat.mod_lt _ (by decide)⟩ ⟨q.val / 128, by omega⟩ : S32x22x128x44.Idx) (by
      rw [Shape.rowMajor_val_four, Shape.rowMajor_val_three]
      show ((e.val * 22 + k.val / 128) * 128 + k.val % 128) * 44 + q.val / 128 = (e.val * 2816 + k.val) * 44 + q.val / 128; omega),
    broadcastInDim_apply _ _ _ _ (ix3 e ⟨k.val / 128, by omega⟩ ⟨q.val / 128, by omega⟩ : S32x22x44.Idx) (by intro a; fin_cases a <;> rfl)]
  rfl

theorem rowM_ap (x : IVec S32 32) (c : Nat → Nat) (hx : ∀ e : Fin 32, x (ix1 e) = BitVec.ofNat 32 (c e.val)) (hT : pre c 32 = 32768) (r : Fin 32768) :
    rowM x (ix2 r 0) = BitVec.ofNat 32 (min (rowEx c r.val) 31) := by
  unfold rowM
  have hv := r.isLt
  have hf := find_le c 32 r.val
  rw [bcCol bcast_S32768_S32768x1_0, minsi_apply, bc0 bcast_S_S32768, reduce_count (by decide) _ natLt_1_32 reducesTo_S32768x32_S32768_d1 h_S_ r (fun e => pre c (e + 1) ≤ r.val) ?_]
  · show IntOp.minsi (BitVec.ofNat 32 (find c 32 r.val)) (BitVec.ofNat 32 31) = _
    unfold IntOp.minsi rowEx
    rw [Routing.slt_ofNat32 (by omega) (by decide)]
    by_cases h : find c 32 r.val < 31
    · rw [decide_eq_true h, if_pos rfl, Nat.min_eq_left (Nat.le_of_lt h)]
    · rw [decide_eq_false h, if_neg Bool.false_ne_true, Nat.min_eq_right (Nat.le_of_not_lt h)]
  · intro q
    rw [cmpi_at, bcRows bcast_S32768_S32768x1_0 bcast_S32768x1_S32768x32_0_1, bcCols bcast_S32_S1x32_1 bcast_S1x32_S32768x32_0_1, iota1_ap, MoeTables.cum_ap x c hx,
      cmpi_sge_ofNat (w := 32) (by omega) (MoeTables.pre_lt c hT (show q.val + 1 ≤ 32 from q.isLt)), ofBool_eq_one_iff, decide_eq_true_eq]

end Cert.ReferenceIdeal.Hand
-- ==== Proof.Level.lean ====
module

public import proofs.«01_k».proof.Proof.Scale

/-!
A gated activation has magnitude at most 56, so a group's level is far below the largest scale's: the search never meets the top of the range.
-/

@[expose] public section

noncomputable section

namespace MoeSpec

open Idealize.ShloMosaic

theorem K_seven : K 0x40E00000#32 = ((7 : ℝ) : EReal) := by
  show Ideal.ofBits .f32 0x40E00000#32 = _
  simp [Ideal.ofBits, Ideal.ieee, -EReal.coe_mul]; norm_num
theorem K_seven' : K 0xC0E00000#32 = ((-7 : ℝ) : EReal) := by
  show Ideal.ofBits .f32 0xC0E00000#32 = _
  simp [Ideal.ofBits, Ideal.ieee, -EReal.coe_mul, -EReal.coe_neg]; norm_num
theorem K_alpha : ∃ a : ℝ, 1 ≤ a ∧ K 0x3FD9DB23#32 = (a : EReal) := by
  refine ⟨(14277411 : ℝ) / 8388608, by norm_num, ?_⟩
  show Ideal.ofBits .f32 0x3FD9DB23#32 = _
  simp [Ideal.ofBits, Ideal.ieee, -EReal.coe_mul]; norm_num
theorem K_inv448 : ∃ a : ℝ, 0 ≤ a ∧ a ≤ 1 ∧ K 0x3B124925#32 = (a : EReal) := by
  refine ⟨(9586981 : ℝ) / 4294967296, by norm_num, by norm_num, ?_⟩
  show Ideal.ofBits .f32 0x3B124925#32 = _
  simp [Ideal.ofBits, Ideal.ieee, -EReal.coe_mul]; norm_num
theorem K_bot : K 0xFF800000#32 = ⊥ := by
  show Ideal.ofBits .f32 0xFF800000#32 = ⊥
  simp [Ideal.ofBits, Ideal.ieee]

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

/-- A real gate's share is at most 7 in magnitude. -/
theorem gate_le (a g : ℝ) (ha : 1 ≤ a) (hg : g ≤ 7) : |g * (1 + Real.exp (-(a * g)))⁻¹| ≤ 7 := by
  have he := Real.exp_pos (-(a * g))
  rw [abs_mul, abs_of_pos (inv_pos.mpr (by linarith : 0 < 1 + Real.exp (-(a * g)))), ← div_eq_mul_inv, div_le_iff₀ (by linarith)]
  by_cases h : 0 ≤ g
  · rw [abs_of_nonneg h]; nlinarith
  · have h' : g < 0 := not_le.mp h
    rw [abs_of_neg h']
    have h1 := Real.add_one_le_exp (-(a * g))
    nlinarith

/-- A gated activation is a real number of magnitude at most 56. -/
theorem act_bound (g u : EReal) : ∃ z : ℝ, |z| ≤ 56 ∧ act g u = (z : EReal) := by
  obtain ⟨a, ha, ea⟩ := K_alpha
  unfold act
  rw [K_seven, K_seven', K_one, ea]
  obtain ⟨v, hv, ev⟩ : ∃ v : ℝ, |v + 1| ≤ 8 ∧ min ((7 : ℝ) : EReal) (max ((-7 : ℝ) : EReal) u) = (v : EReal) := by
    induction u with
    | bot => exact ⟨-7, by norm_num, by rw [max_eq_left bot_le, min_eq_right (EReal.coe_le_coe_iff.mpr (by norm_num))]⟩
    | top => exact ⟨7, by norm_num, by rw [max_eq_right le_top, min_eq_left le_top]⟩
    | coe x =>
      refine ⟨min 7 (max (-7) x), ?_, ?_⟩
      · rw [abs_le]
        have h1 : min 7 (max (-7) x) ≤ 7 := min_le_left _ _
        have h2 : -7 ≤ min 7 (max (-7) x) := le_min (by norm_num) (le_max_left _ _)
        constructor <;> linarith
      · rw [← coe_max, ← coe_min]
  rw [ev]
  obtain hb | ⟨w, hw, ew⟩ : min g ((7 : ℝ) : EReal) = ⊥ ∨ ∃ w : ℝ, w ≤ 7 ∧ min g ((7 : ℝ) : EReal) = (w : EReal) := by
    induction g with
    | bot => exact .inl (min_eq_left bot_le)
    | top => exact .inr ⟨7, le_refl _, min_eq_right le_top⟩
    | coe x => exact .inr ⟨min x 7, min_le_right _ _, by rw [← coe_min]⟩
  · refine ⟨0, by norm_num, ?_⟩
    rw [hb, EReal.coe_mul_bot_of_pos (by linarith), Ideal.logistic_bot, mul_zero, EReal.coe_zero]
  · refine ⟨(v + 1) * w * (1 + Real.exp (-(a * w)))⁻¹, ?_, ?_⟩
    · rw [mul_assoc, abs_mul]
      have := gate_le a w ha hw
      have h0 := abs_nonneg (v + 1)
      have h1 := abs_nonneg (w * (1 + Real.exp (-(a * w)))⁻¹)
      nlinarith
    · rw [ew, ← EReal.coe_mul, Ideal.logistic_coe, ← EReal.coe_add, ← EReal.coe_mul, ← EReal.coe_mul]

/-- A group's level is below the scales' range. -/
theorem lev_lt (h : Fin 128 → EReal) (hh : ∀ l, ∃ g u, h l = act g u) : lev h < K (bv 253) := by
  have ht : top h ≤ ((56 : ℝ) : EReal) := by
    unfold top
    rw [Finset.fold_max_le, K_bot]
    refine ⟨bot_le, fun l _ => ?_⟩
    obtain ⟨g, u, e⟩ := hh l
    obtain ⟨z, hz, ez⟩ := act_bound g u
    rw [e, ez, ← EReal.coe_neg, ← coe_max, EReal.coe_le_coe_iff]
    exact max_le (le_trans (le_abs_self z) hz) (le_trans (neg_le_abs z) hz)
  obtain ⟨a, h0, h1, ea⟩ := K_inv448
  unfold lev
  rw [ea]
  calc top h * (a : EReal) ≤ ((56 : ℝ) : EReal) * (a : EReal) := mul_le_mul_of_nonneg_right ht (EReal.coe_nonneg.mpr h0)
    _ = ((56 * a : ℝ) : EReal) := (EReal.coe_mul _ _).symm
    _ < K (bv 253) := by
      rw [K_bv 253 (by omega) (by omega), EReal.coe_lt_coe_iff]
      have : (56 * a : ℝ) ≤ 56 := by linarith
      refine lt_of_le_of_lt this ?_
      norm_num

end MoeSpec
-- ==== Proof.RValue.lean ====
module

public import proofs.«01_k».proof.Proof.RBody
public import proofs.«01_k».proof.Proof.RHost
public import proofs.«01_k».proof.Proof.Level
public import Idealize.ShloMosaic.Lib.Pipeline.ValueKit.Geometry

/-!
The reference's two results, as functions of its arguments: every row's scales and codes.
-/

@[expose] public section

noncomputable section

namespace Cert.ReferenceIdeal.Hand

open Cert.ReferenceIdeal Cert.ReferenceIdeal.Gen Idealize.ShloMosaic Idealize.ShloMosaic.TcCoe
open MoeSpec Idealize.ShloMosaic.ValueIdx MoeVisits
open Idealize.ShloMosaic.Pipeline (Dat)

section
variable (x0 : Vec Ideal S32768x2816 .fp8e4m3) (x1 : Vec Ideal S32768x2816 .bf16) (x2 : Vec Ideal S32x2816x5632 .fp8e4m3)
  (x3 : Vec Ideal S32x2816x5632 .bf16) (x4 : Vec Ideal S32x5632 .f32) (x5 : Vec Ideal S32768x1 .i32)

/-- The product of every row with its expert's weights. -/
def accAll : FVec Ideal S32768x5632 .f32 := acc x2 x3 x4 (k0_pay45 x0 x1 x2 x3 x4 x5) (k0_pay46 x0 x1 x2 x3 x4 x5) 32 (by decide)

theorem up_eq : k0_pay50 x0 x1 x2 x3 x4 x5 = upM (accAll x0 x1 x2 x3 x4 x5) := rfl
theorem arg_eq : k0_pay51 x0 x1 x2 x3 x4 x5 = argM (accAll x0 x1 x2 x3 x4 x5) := rfl

theorem extf_ap (x : Vec Ideal S32768x2816 .fp8e4m3) (y : FVec Ideal S32768x2816 .bf16) (i : S32768x2816.Idx) :
    mulf (extf .bf16 x bitsLt_fp8e4m3_bf16 : FVec Ideal S32768x2816 .bf16) y i = (x i * y i : EReal) := rfl

theorem ld0 {φ : EltTy} (x : Vec Ideal S32768x2816 φ) (r : Fin 32768) (k : Fin 2816) : View.ld x r0_0 (ix2 r k) = x (ix2 r k) :=
  congrArg x (funext fun a => Fin.ext (by
    fin_cases a
    · show 0 + 1 * r.val = r.val; omega
    · show 0 + 1 * k.val = k.val; omega))

theorem ld1 (x : Vec Ideal S32768x1 .i32) (r : Fin 32768) : View.ld x r0_1 (ix2 r 0) = x (ix2 r 0) :=
  congrArg x (funext fun a => Fin.ext (by
    fin_cases a
    · show 0 + 1 * r.val = r.val; omega
    · rfl))

theorem x_ap (r : Fin 32768) (k : Fin 2816) : k0_pay45 x0 x1 x2 x3 x4 x5 (ix2 r k) = (x0 (ix2 r k) * x1 (ix2 r k) : EReal) := by
  unfold k0_pay45 k0_pay3
  rw [extf_ap, shapeCast_apply _ _ _ (ix2 r k : S32768x2816.Idx) rfl, ld0, ld0]

theorem row_ap (r : Fin 32768) : k0_pay46 x0 x1 x2 x3 x4 x5 (ix2 r 0) = x5 (ix2 r 0) := by
  unfold k0_pay46 k0_pay4
  rw [shapeCast_apply _ _ _ (ix2 r 0 : S32768x1.Idx) rfl, ld1]

/-- The blocks hold an input, and every row's expert. -/
structure Has (I : In) (E : Fin 32768 → Fin 32) : Prop where
  h0 : ∀ r k, x0 (ix2 r k) = I.x r k
  h1 : ∀ r (k : Fin 2816), x1 (ix2 r k) = I.xs r ⟨k.val / 128, by omega⟩
  h2 : ∀ e k q, x2 (ix3 e k q) = I.w e k q
  h3 : ∀ e (k : Fin 2816) (q : Fin 5632), x3 (ix3 e k q) = I.ws e ⟨k.val / 128, by omega⟩ ⟨q.val / 128, by omega⟩
  h4 : ∀ e q, x4 (ix2 e q) = I.b e q
  h5 : ∀ r, x5 (ix2 r 0) = BitVec.ofNat 32 (E r).val

variable {x0 x1 x2 x3 x4 x5} {I : In} {E : Fin 32768 → Fin 32} (H : Has x0 x1 x2 x3 x4 x5 I E)
include H

theorem acc_lin (r : Fin 32768) (q : Fin 5632) : accAll x0 x1 x2 x3 x4 x5 (ix2 r q) = I.lin r (E r) q := by
  unfold accAll
  rw [acc_ap x2 x3 x4 _ _ r q (E r) ((row_ap x0 x1 x2 x3 x4 x5 r).trans (H.h5 r)) 32 (by decide) (E r).isLt]
  unfold In.lin
  refine congrArg₂ (fun a b : EReal => a + b) (congrArg (fun z : EReal => K 0#32 + z) (Finset.sum_congr rfl fun k _ => ?_)) (H.h4 _ q)
  rw [x_ap, H.h0, H.h1, H.h2, H.h3]

theorem grp_eq (r : Fin 32768) (g : Fin 22) :
    (fun l => k0_pay42 (k0_pay50 x0 x1 x2 x3 x4 x5) (k0_pay51 x0 x1 x2 x3 x4 x5) (ix3 r g l)) = I.grp r (E r) g := by
  funext l
  rw [up_eq, arg_eq, pay42_ap, acc_lin H, acc_lin H]
  rfl

omit H in
theorem lev_grp (r : Fin 32768) (g : Fin 22) : lev (I.grp r (E r) g) < K (bv 253) := lev_lt _ fun l => ⟨_, _, rfl⟩

theorem scale_ap (r : Fin 32768) (g : Fin 22) :
    scaleM (yM (k0_pay42 (k0_pay50 x0 x1 x2 x3 x4 x5) (k0_pay51 x0 x1 x2 x3 x4 x5))) (ix3 r g 0) = rscale (lev (I.grp r (E r) g)) := by
  rw [scaleM_ap, yM_ap, grp_eq H]

theorem pay2_ap (r : Fin 32768) (g : Fin 22) :
    k0_pay2 (k0_pay43 (k0_pay50 x0 x1 x2 x3 x4 x5) (k0_pay51 x0 x1 x2 x3 x4 x5)) (ix2 r g) = I.scl r (E r) g := by
  unfold k0_pay2
  rw [shapeCast_apply _ _ _ (ix3 r g 0 : S32768x22x1.Idx) (by
      rw [Shape.rowMajor_val_three, Shape.rowMajor_val_two]; show (r.val * 22 + g.val) * 1 + 0 = r.val * 22 + g.val; omega), pay43_eq, scale_ap H]
  exact (rscale_eq _ (lev_grp r g)).symm

omit H in
theorem truncf_ap (x : FVec Ideal S32768x2816 .f32) (i : S32768x2816.Idx) : k0_pay1 x i = x i := rfl

theorem pay1_ap (r : Fin 32768) (q : Fin 2816) :
    k0_pay1 (k0_pay44 (k0_pay50 x0 x1 x2 x3 x4 x5) (k0_pay51 x0 x1 x2 x3 x4 x5)) (ix2 r q) = I.code r (E r) q := by
  rw [truncf_ap, pay44_eq, cast2816, codeM_ap, scale_ap H, ← kinv_div _ (lev_grp r _)]
  refine congrArg (fun z : EReal => clip (z * _)) ?_
  exact congrFun (grp_eq H r ⟨q.val / 128, by omega⟩) ⟨q.val % 128, Nat.mod_lt _ (by decide)⟩

omit H in
theorem emb6 (x : r0_0.shape.Idx) : (r0_0.emb x : S32768x2816.Idx) = fun a => ⟨(x a).val, (x a).isLt⟩ :=
  funext fun a => Fin.ext (by
    fin_cases a
    · show 0 + 1 * (x 0).val = (x 0).val; omega
    · show 0 + 1 * (x 1).val = (x 1).val; omega)

omit H in
theorem emb7 (x : r0_66.shape.Idx) : (r0_66.emb x : S32768x22.Idx) = fun a => ⟨(x a).val, (x a).isLt⟩ :=
  funext fun a => Fin.ext (by
    fin_cases a
    · show 0 + 1 * (x 0).val = (x 0).val; omega
    · show 0 + 1 * (x 1).val = (x 1).val; omega)

omit H in
theorem canon6 (p : Vec Ideal S32768x2816 .fp8e4m3) (i : S32768x2816.Idx) : View.canon [⟨r0_0, p⟩] i = p i := by
  haveI : ∀ e, Nonempty (Elt Ideal e) := fun e => inferInstance
  refine View.canon_apply_of_pieces (Val := Elt Ideal) p _ (fun q hq x => ?_) i (cover0_6 p i)
  obtain rfl := List.mem_singleton.mp hq
  exact congrArg p (emb6 x).symm

omit H in
theorem canon7 (p : Vec Ideal S32768x22 .f32) (i : S32768x22.Idx) : View.canon [⟨r0_66, p⟩] i = p i := by
  haveI : ∀ e, Nonempty (Elt Ideal e) := fun e => inferInstance
  refine View.canon_apply_of_pieces (Val := Elt Ideal) p _ (fun q hq x => ?_) i (cover0_7 p i)
  obtain rfl := List.mem_singleton.mp hq
  exact congrArg p (emb7 x).symm

theorem out6_ap (r : Fin 32768) (q : Fin 2816) : out0_6 x0 x1 x2 x3 x4 x5 (ix2 r q) = I.code r (E r) q := by
  unfold out0_6
  rw [canon6]
  exact pay1_ap H r q

theorem out7_ap (r : Fin 32768) (g : Fin 22) : out0_7 x0 x1 x2 x3 x4 x5 (ix2 r g) = I.scl r (E r) g := by
  unfold out0_7
  rw [canon7]
  exact pay2_ap H r g

end

variable (m : (ℓ : Loc nD τ sig) → Buf (Elt Ideal) ℓ) (c : Dev nD)

/-- The inputs. -/
def inOf : In where
  x r k := m ((c : Thread nD τ).loc main_arg0) (ix2 r k)
  xs r k := m ((c : Thread nD τ).loc main_arg1) (ix2 r k)
  w e k q := m ((c : Thread nD τ).loc main_arg2) (ix3 e k q)
  ws e k q := m ((c : Thread nD τ).loc main_arg3) (ix3 e k q)
  b e q := m ((c : Thread nD τ).loc main_arg4) (ix2 e q)

/-- A row's expert. -/
def rowE (s : Nat → Nat) (r : Fin 32768) : Fin 32 := ⟨min (rowEx s r.val) 31, by omega⟩

theorem has (s : Nat → Nat) (hx : ∀ e : Fin 32, m ((c : Thread nD τ).loc main_arg5) (ix1 e) = BitVec.ofNat 32 (s e.val)) (hs : pre s 32 = 32768) (t : Fin cfg0.N) :
    Has (iblk m c 0 t) (iblk m c 1 t) (iblk m c 2 t) (iblk m c 3 t) (iblk m c 4 t) (iblk m c 5 t) (inOf m c) (rowE s) where
  h0 r k := by
    show V m c main_arg0 (((cfg0.win 0).rect t).emb (ix2 r k)) = _
    rw [V_main_arg0]
    refine congrArg (m ((c : Thread nD τ).loc main_arg0)) (funext fun b => Fin.ext ?_)
    rw [Pipeline.Window.rect_emb_val _ t _ b rfl]
    fin_cases b
    · show 0 * 32768 + r.val = r.val; omega
    · show 0 * 2816 + k.val = k.val; omega
  h1 r k := by
    show V m c main_v2 (((cfg0.win 1).rect t).emb (ix2 r k)) = _
    rw [V_xs]
    refine Eq.trans (congrArg (xsM _) (funext fun b => Fin.ext ?_)) (xsM_ap _ r k)
    rw [Pipeline.Window.rect_emb_val _ t _ b rfl]
    fin_cases b
    · show 0 * 32768 + r.val = r.val; omega
    · show 0 * 2816 + k.val = k.val; omega
  h2 e k q := by
    show V m c main_arg2 (((cfg0.win 2).rect t).emb (ix3 e k q)) = _
    rw [V_main_arg2]
    refine congrArg (m ((c : Thread nD τ).loc main_arg2)) (funext fun b => Fin.ext ?_)
    rw [Pipeline.Window.rect_emb_val _ t _ b rfl]
    fin_cases b
    · show 0 * 32 + e.val = e.val; omega
    · show 0 * 2816 + k.val = k.val; omega
    · show 0 * 5632 + q.val = q.val; omega
  h3 e k q := by
    show V m c main_v7 (((cfg0.win 3).rect t).emb (ix3 e k q)) = _
    rw [V_ws]
    refine Eq.trans (congrArg (wsM _) (funext fun b => Fin.ext ?_)) (wsM_ap _ e k q)
    rw [Pipeline.Window.rect_emb_val _ t _ b rfl]
    fin_cases b
    · show 0 * 32 + e.val = e.val; omega
    · show 0 * 2816 + k.val = k.val; omega
    · show 0 * 5632 + q.val = q.val; omega
  h4 e q := by
    show V m c main_arg4 (((cfg0.win 4).rect t).emb (ix2 e q)) = _
    rw [V_main_arg4]
    refine congrArg (m ((c : Thread nD τ).loc main_arg4)) (funext fun b => Fin.ext ?_)
    rw [Pipeline.Window.rect_emb_val _ t _ b rfl]
    fin_cases b
    · show 0 * 32 + e.val = e.val; omega
    · show 0 * 5632 + q.val = q.val; omega
  h5 r := by
    show V m c main_v19 (((cfg0.win 5).rect t).emb (ix2 r 0)) = _
    rw [V_row]
    refine Eq.trans (congrArg (rowM _) (funext fun b => Fin.ext ?_)) (rowM_ap _ s hx hs r)
    rw [Pipeline.Window.rect_emb_val _ t _ b rfl]
    fin_cases b
    · show 0 * 32768 + r.val = r.val; omega
    · rfl

/-- The codes. -/
def RCodes (s : Nat → Nat) : S32768x2816.Idx → EReal := fun i => (inOf m c).code (i 0) (rowE s (i 0)) (i 1)
/-- The scales. -/
def RScales (s : Nat → Nat) : S32768x22.Idx → EReal := fun i => (inOf m c).scl (i 0) (rowE s (i 0)) (i 1)

section
variable (s : Nat → Nat) (hx : ∀ e : Fin 32, m ((c : Thread nD τ).loc main_arg5) (ix1 e) = BitVec.ofNat 32 (s e.val)) (hs : pre s 32 = 32768)
include hx hs

theorem codes_at : (dats m 0 c).arrAt 6 cfg0.N = RCodes m c s := by
  haveI : ∀ e, Nonempty (Elt Ideal e) := fun e => inferInstance
  refine Dat.arrAt_eq_of_emb _ 6 _ (fun t hf y => ?_) fun i => ?_
  · have e : ((cfg0.win 6).rect t).emb y = (ix2 (y 0) (y 1) : S32768x2816.Idx) := funext fun b => Fin.ext (by
      rw [Pipeline.Window.rect_emb_val _ t _ b rfl]
      fin_cases b
      · show 0 * 32768 + (y 0).val = (y 0).val; omega
      · show 0 * 2816 + (y 1).val = (y 1).val; omega)
    have e' : (cfg0.win 6).xinj (cfg0.grid.coords t) y = (ix2 (y 0) (y 1) : S32768x2816.Idx) := funext fun b => Fin.ext (by fin_cases b <;> rfl)
    show (dats m 0 c).after 6 t ((cfg0.win 6).xinj (cfg0.grid.coords t) y) = RCodes m c s (((cfg0.win 6).rect t).emb y)
    rw [after0_6]
    refine (congrArg (out0_6 _ _ _ _ _ _) e').trans ((out6_ap (has m c s hx hs t) (y 0) (y 1)).trans ?_)
    exact (congrArg (RCodes m c s) e).symm
  · refine ⟨⟨0, by decide⟩, by decide, ?_⟩
    refine ((cfg0.win 6).emb_mem_blk_iff _ i rfl).mpr fun b => ?_
    have := (i b).isLt
    fin_cases b
    · show 0 * 32768 ≤ (i 0).val ∧ (i 0).val < 0 * 32768 + 32768
      have : (i 0).val < 32768 := (i 0).isLt
      omega
    · show 0 * 2816 ≤ (i 1).val ∧ (i 1).val < 0 * 2816 + 2816
      have : (i 1).val < 2816 := (i 1).isLt
      omega

theorem scales_at : (dats m 0 c).arrAt 7 cfg0.N = RScales m c s := by
  haveI : ∀ e, Nonempty (Elt Ideal e) := fun e => inferInstance
  refine Dat.arrAt_eq_of_emb _ 7 _ (fun t hf y => ?_) fun i => ?_
  · have e : ((cfg0.win 7).rect t).emb y = (ix2 (y 0) (y 1) : S32768x22.Idx) := funext fun b => Fin.ext (by
      rw [Pipeline.Window.rect_emb_val _ t _ b rfl]
      fin_cases b
      · show 0 * 32768 + (y 0).val = (y 0).val; omega
      · show 0 * 22 + (y 1).val = (y 1).val; omega)
    have e' : (cfg0.win 7).xinj (cfg0.grid.coords t) y = (ix2 (y 0) (y 1) : S32768x22.Idx) := funext fun b => Fin.ext (by fin_cases b <;> rfl)
    show (dats m 0 c).after 7 t ((cfg0.win 7).xinj (cfg0.grid.coords t) y) = RScales m c s (((cfg0.win 7).rect t).emb y)
    rw [after0_7]
    refine (congrArg (out0_7 _ _ _ _ _ _) e').trans ((out7_ap (has m c s hx hs t) (y 0) (y 1)).trans ?_)
    exact (congrArg (RScales m c s) e).symm
  · refine ⟨⟨0, by decide⟩, by decide, ?_⟩
    refine ((cfg0.win 7).emb_mem_blk_iff _ i rfl).mpr fun b => ?_
    fin_cases b
    · show 0 * 32768 ≤ (i 0).val ∧ (i 0).val < 0 * 32768 + 32768
      have : (i 0).val < 32768 := (i 0).isLt
      omega
    · show 0 * 22 ≤ (i 1).val ∧ (i 1).val < 0 * 22 + 22
      have : (i 1).val < 22 := (i 1).isLt
      omega

end

end Cert.ReferenceIdeal.Hand
-- ==== Proof.Agree.lean ====
module

public import proofs.«01_k».proof.Proof.KValue
public import proofs.«01_k».proof.Proof.KFrame
public import proofs.«01_k».proof.Proof.RValue

/-!
The two runs side by side: on equal arguments both programs leave the same codes and the same scales.
-/

@[expose] public section

set_option synthInstance.maxSize 4096

noncomputable section

namespace Cert.KernelIdeal.Hand

open Cert.KernelIdeal Cert.KernelIdeal.Gen
open Idealize.ShloMosaic Idealize.ShloMosaic.TcCoe
open Idealize.ShloMosaic.Pipeline (RDat)
open Idealize.SL.Sem
open MoeVisits MoeSpec Idealize.ShloMosaic.ValueIdx

variable (m : (ℓ : Loc nD τ sig) → Buf (Elt Ideal) ℓ) (hT : ∀ c : Dev nD, pre (cn m c) 32 = 32768)

include hT in
/-- The kernel's run. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v64_0) = GCodes m (cn m 0) c
      ∧ r.2.mem ((c.tc : Thread nD τ).loc main_v64_1) = GScales m (cn m 0) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨codes_at m (adm m hT) (hck m hT) (cn m 0) (hT 0) (holds m 0 (hT 0)) c r h.1,
    scales_at m (adm m hT) (hck m hT) (cn m 0) (hT 0) (holds m 0 (hT 0)) c r h.1, args_of_post m hT r h.1 c⟩) (run_main m hT ρ)

section
variable (m' : (ℓ : Loc Cert.ReferenceIdeal.nD Cert.ReferenceIdeal.τ Cert.ReferenceIdeal.sig) → Buf (Elt Ideal) ℓ) (c : Dev nD)
  (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))

include h0 h1 h2 h3 h4 in
/-- Equal arguments are equal inputs. -/
theorem in_eq : Cert.ReferenceIdeal.Hand.inOf m' c = inOf m c := by
  unfold Cert.ReferenceIdeal.Hand.inOf inOf
  congr 1
  · funext r k; exact congrFun h0 _
  · funext r k; exact congrFun h1 _
  · funext e k q; exact congrFun h2 _
  · funext e k q; exact congrFun h3 _
  · funext e q; exact congrFun h4 _

include h0 h1 h2 h3 h4 in
theorem codes_eq (s : Nat → Nat) : Cert.ReferenceIdeal.Hand.RCodes m' c s = GCodes m s c := by
  unfold Cert.ReferenceIdeal.Hand.RCodes GCodes
  rw [in_eq m m' c h0 h1 h2 h3 h4]
  rfl

include h0 h1 h2 h3 h4 in
theorem scales_eq (s : Nat → Nat) : Cert.ReferenceIdeal.Hand.RScales m' c s = GScales m s c := by
  unfold Cert.ReferenceIdeal.Hand.RScales GScales
  rw [in_eq m m' c h0 h1 h2 h3 h4]
  rfl

include h5 in
theorem sizes_eq (e : Fin 32) : m' ((c.tc : Thread Cert.ReferenceIdeal.nD Cert.ReferenceIdeal.τ).loc Cert.ReferenceIdeal.main_arg5) (ix1 e)
    = BitVec.ofNat 32 (cn m c e.val) :=
  (congrFun h5 _).trans (MoeTables.sizes_ap (m ((c.tc : Thread nD τ).loc main_arg5)) e)

end

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_ok
public import proofs.«01_k».proof.Proof.Gen.ReferenceIdeal.Value
public import proofs.«01_k».proof.Proof.KFrame
public import proofs.«01_k».proof.Proof.PFrame
public import proofs.«01_k».proof.Proof.Pre
public import proofs.«01_k».proof.Proof.Agree
public import Idealize.ShloMosaic.Adequacy
public import Idealize.ShloMosaic.Init

@[expose] public section

noncomputable section

namespace Cert.Proof

open Idealize.ShloMosaic Idealize.SL.Sem Cert.Kernel

theorem algebraic : algebraic_KernelIdeal_ReferenceIdeal (hKernelIdeal := Cert.KernelIdeal.Gen.facts) (hReferenceIdeal := Cert.ReferenceIdeal.Gen.facts)
    (hPre_sizes_ok := Cert.Pre_sizes_ok.Gen.facts) := by
  intro m g m' g' hp ha
  have hT : ∀ c, MoeVisits.pre (Cert.KernelIdeal.Hand.cn m c) 32 = 32768 := fun c =>
    @MoeTables.sum_of_pre _ _ Cert.Pre_sizes_ok.Gen.facts _ _ _ _ _ _ (hp c)
  refine ⟨fun c => Cert.KernelIdeal.Hand.GCodes m (Cert.KernelIdeal.Hand.cn m 0) c, fun c => Cert.KernelIdeal.Hand.GScales m (Cert.KernelIdeal.Hand.cn m 0) c,
    Cert.KernelIdeal.Hand.run_value m hT g, ?_⟩
  refine (θ_run _ _ _).mono (fun r h c => ?_) (Cert.ReferenceIdeal.Value.run_blocks m' g')
  obtain ⟨h0, h1, h2, h3, h4, h5⟩ := ha c
  obtain ⟨e6, e7, ea⟩ := h c
  obtain rfl : c = 0 := Subsingleton.elim _ _
  have hx := Cert.KernelIdeal.Hand.sizes_eq m m' 0 h5
  exact ⟨e6.trans ((Cert.ReferenceIdeal.Hand.codes_at m' 0 _ hx (hT 0)).trans (Cert.KernelIdeal.Hand.codes_eq m m' 0 h0 h1 h2 h3 h4 _)),
    e7.trans ((Cert.ReferenceIdeal.Hand.scales_at m' 0 _ hx (hT 0)).trans (Cert.KernelIdeal.Hand.scales_eq m m' 0 h0 h1 h2 h3 h4 _)), ea⟩

theorem claim : Cert.Claim := ⟨Cert.Kernel.Gen.facts, Cert.KernelIdeal.Gen.facts, Cert.ReferenceIdeal.Gen.facts, Cert.Pre_sizes_ok.Gen.facts,
  fun m ρ h => Cert.Kernel.Hand.quiescent m (fun c => MoeTables.sum_of_pre _ _ _ _ _ _ (h c)) ρ,
  fun m ρ h => Cert.KernelIdeal.Hand.quiescent m (fun c => MoeTables.sum_of_pre _ _ _ _ _ _ (h c)) ρ,
  fun m ρ _ => Cert.ReferenceIdeal.Gen.frame m ρ, fun m ρ _ => Cert.ReferenceIdeal.Gen.frame m ρ, trivial, algebraic⟩

end Cert.Proof

end
